-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_key_scales_finite [hPre_key_scales_finite : Cert.Pre_key_scales_finite.Facts] (m : (ℓ : Loc Cert.KernelIdeal.nD Cert.KernelIdeal.τ Cert.KernelIdeal.sig) → Buf (Elt Ideal) ℓ) : Prop :=
  ∀ c : Dev Cert.KernelIdeal.nD,
    (Cert.Pre_key_scales_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_key_scales_finite [hPre_key_scales_finite : Cert.Pre_key_scales_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_key_scales_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_key_scales_finite [hKernelIdeal : Cert.KernelIdeal.Facts] [hPre_key_scales_finite : Cert.Pre_key_scales_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_key_scales_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_key_scales_finite [hReferenceIdeal : Cert.ReferenceIdeal.Facts] [hPre_key_scales_finite : Cert.Pre_key_scales_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_key_scales_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e_over_root" .f32 0x3D96C740#32 (((Real.log 2)⁻¹ * (Real.sqrt 384)⁻¹ : ℝ) : EReal)

def algebraic_KernelIdeal_ReferenceIdeal_pre_key_scales_finite [hKernelIdeal : Cert.KernelIdeal.Facts] [hReferenceIdeal : Cert.ReferenceIdeal.Facts] [hPre_key_scales_finite : Cert.Pre_key_scales_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_key_scales_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_key_scales_finite : Cert.Pre_key_scales_finite.Facts),
    quiescent_Kernel (hKernel := hKernel)
    ∧ quiescent_KernelIdeal (hKernelIdeal := hKernelIdeal)
    ∧ quiescent_KernelIdeal_pre_key_scales_finite (hKernelIdeal := hKernelIdeal) (hPre_key_scales_finite := hPre_key_scales_finite)
    ∧ quiescent_ReferenceIdeal (hReferenceIdeal := hReferenceIdeal)
    ∧ quiescent_ReferenceIdeal_pre_key_scales_finite (hReferenceIdeal := hReferenceIdeal) (hPre_key_scales_finite := hPre_key_scales_finite)
    ∧ preserves_Kernel_KernelIdeal
    ∧ algebraic_KernelIdeal_ReferenceIdeal_pre_key_scales_finite (hKernelIdeal := hKernelIdeal) (hReferenceIdeal := hReferenceIdeal) (hPre_key_scales_finite := hPre_key_scales_finite)
-- ==== Pre_key_scales_finite.lean ====
abbrev S2x768x24x128 : Shape := ⟨4, ![2, 768, 24, 128]⟩
abbrev S2x768x24 : Shape := ⟨3, ![2, 768, 24]⟩
abbrev S512x24x128 : Shape := ⟨3, ![512, 24, 128]⟩
abbrev S512x24 : Shape := ⟨2, ![512, 24]⟩
abbrev S2x768 : Shape := ⟨2, ![2, 768]⟩
abbrev S_ : Shape := ⟨0, ![]⟩

class Facts : Prop where
  bcast_S_S2x768x24 : S_.BroadcastsInDim S2x768x24 (![] : Fin 0 → Fin S2x768x24.rank)
  reducesTo_S2x768x24_S_d0_1_2 : S2x768x24.ReducesTo [0, 1, 2] S_
  h_S_ : 0 < S_.numel

variable [Facts]

def fn {F : FTy → Type} [FloatOps F] (main_arg0 : FVec F S2x768x24x128 .fp8e4m3) (main_arg1 : FVec F S2x768x24x128 .fp8e4m3) (main_arg2 : FVec F S2x768x24x128 .fp8e4m3) (main_arg3 : FVec F S2x768x24 .f32) (main_arg4 : FVec F S2x768x24 .f32) (main_arg5 : FVec F S2x768x24 .f32) (main_arg6 : FVec F S512x24x128 .fp8e4m3) (main_arg7 : FVec F S512x24x128 .fp8e4m3) (main_arg8 : FVec F S512x24 .f32) (main_arg9 : FVec F S512x24 .f32) (main_arg10 : IVec S2x768 32) : IVec S_ 1 :=
  let main_cst : FVec F S_ .f32 := constant S_ .f32 0x00000000#32
  let main_v0 : FVec F S2x768x24 .f32 := broadcastInDim S2x768x24 ![] bcast_S_S2x768x24 main_cst
  let main_v1 : IVec S2x768x24 1 := cmpf .oge main_arg4 main_v0
  let main_cst_0 : FVec F S_ .f32 := constant S_ .f32 0x7F800000#32
  let main_v2 : FVec F S2x768x24 .f32 := broadcastInDim S2x768x24 ![] bcast_S_S2x768x24 main_cst_0
  let main_v3 : IVec S2x768x24 1 := cmpf .olt main_arg4 main_v2
  let main_v4 : IVec S2x768x24 1 := andi main_v1 main_v3
  let main_c : IVec S_ 1 := constantI S_ 1 1#1
  let main_v5 : IVec S_ 1 := (fun x v => Host.reduce IntOp.andi x v reducesTo_S2x768x24_S_d0_1_2 h_S_) main_v4 main_c
  main_v5
-- ==== Kernel.lean ====
abbrev S2x768x24x128 : Shape := ⟨4, ![2, 768, 24, 128]⟩
abbrev S2x768x24 : Shape := ⟨3, ![2, 768, 24]⟩
abbrev S512x24x128 : Shape := ⟨3, ![512, 24, 128]⟩
abbrev S512x24 : Shape := ⟨2, ![512, 24]⟩
abbrev S2x768 : Shape := ⟨2, ![2, 768]⟩
abbrev S2x24x768 : Shape := ⟨3, ![2, 24, 768]⟩
abbrev S24x512 : Shape := ⟨2, ![24, 512]⟩
abbrev S2x1x768 : Shape := ⟨3, ![2, 1, 768]⟩
abbrev S2x768x3072 : Shape := ⟨3, ![2, 768, 3072]⟩
abbrev S1x768x8x128 : Shape := ⟨4, ![1, 768, 8, 128]⟩
abbrev S1x8x768 : Shape := ⟨3, ![1, 8, 768]⟩
abbrev S512x8x128 : Shape := ⟨3, ![512, 8, 128]⟩
abbrev S8x512 : Shape := ⟨2, ![8, 512]⟩
abbrev S1x1x768 : Shape := ⟨3, ![1, 1, 768]⟩
abbrev S1x768x1024 : Shape := ⟨3, ![1, 768, 1024]⟩
abbrev S8x768x128 : Shape := ⟨3, ![8, 768, 128]⟩
abbrev S8x768 : Shape := ⟨2, ![8, 768]⟩
abbrev S768x128 : Shape := ⟨2, ![768, 128]⟩
abbrev S768x768 : Shape := ⟨2, ![768, 768]⟩
abbrev S6x6x128x128 : Shape := ⟨4, ![6, 6, 128, 128]⟩
abbrev S4x8x128 : Shape := ⟨3, ![4, 8, 128]⟩
abbrev S32x1x128 : Shape := ⟨3, ![32, 1, 128]⟩
abbrev S32x128 : Shape := ⟨2, ![32, 128]⟩
abbrev S4x8x128x1 : Shape := ⟨4, ![4, 8, 128, 1]⟩
abbrev S1x8x128 : Shape := ⟨3, ![1, 8, 128]⟩
abbrev S1x32x128 : Shape := ⟨3, ![1, 32, 128]⟩
abbrev S1x1x128 : Shape := ⟨3, ![1, 1, 128]⟩
abbrev S1x128 : Shape := ⟨2, ![1, 128]⟩
abbrev S128x128 : Shape := ⟨2, ![128, 128]⟩
abbrev S1x128x128 : Shape := ⟨3, ![1, 128, 128]⟩
abbrev S8x128 : Shape := ⟨2, ![8, 128]⟩
abbrev S8x128x1 : Shape := ⟨3, ![8, 128, 1]⟩
abbrev S8x1 : Shape := ⟨2, ![8, 1]⟩
abbrev S768x8x128 : Shape := ⟨3, ![768, 8, 128]⟩
abbrev S768x1x128 : Shape := ⟨3, ![768, 1, 128]⟩
abbrev S1x768x128 : Shape := ⟨3, ![1, 768, 128]⟩
abbrev S104x768 : Shape := ⟨2, ![104, 768]⟩
abbrev S128x768 : Shape := ⟨2, ![128, 768]⟩
abbrev S1x768 : Shape := ⟨2, ![1, 768]⟩
abbrev S1x256x128 : Shape := ⟨3, ![1, 256, 128]⟩
abbrev S256x128 : Shape := ⟨2, ![256, 128]⟩
abbrev S768x256 : Shape := ⟨2, ![768, 256]⟩
abbrev S1x256 : Shape := ⟨2, ![1, 256]⟩
abbrev S1x1x128x128 : Shape := ⟨4, ![1, 1, 128, 128]⟩
abbrev S16x8x128 : Shape := ⟨3, ![16, 8, 128]⟩
abbrev S1x1x1x128 : Shape := ⟨4, ![1, 1, 1, 128]⟩
abbrev S128 : Shape := ⟨1, ![128]⟩
abbrev S128x256 : Shape := ⟨2, ![128, 256]⟩

abbrev nBuf : Space → Nat
  | .hbm => 18
  | .vmem => 38
  | .smem => 0
  | _ => 0

abbrev bufTy : (tb : Table) → Fin (tcTables nBuf tb) → BufTy
  | .hbm, ⟨0, _⟩ => ⟨S2x768x24x128, .fp8e4m3⟩
  | .hbm, ⟨1, _⟩ => ⟨S2x768x24x128, .fp8e4m3⟩
  | .hbm, ⟨2, _⟩ => ⟨S2x768x24x128, .fp8e4m3⟩
  | .hbm, ⟨3, _⟩ => ⟨S2x768x24, .f32⟩
  | .hbm, ⟨4, _⟩ => ⟨S2x768x24, .f32⟩
  | .hbm, ⟨5, _⟩ => ⟨S2x768x24, .f32⟩
  | .hbm, ⟨6, _⟩ => ⟨S512x24x128, .fp8e4m3⟩
  | .hbm, ⟨7, _⟩ => ⟨S512x24x128, .fp8e4m3⟩
  | .hbm, ⟨8, _⟩ => ⟨S512x24, .f32⟩
  | .hbm, ⟨9, _⟩ => ⟨S512x24, .f32⟩
  | .hbm, ⟨10, _⟩ => ⟨S2x768, .i32⟩
  | .hbm, ⟨11, _⟩ => ⟨S2x24x768, .f32⟩
  | .hbm, ⟨12, _⟩ => ⟨S2x24x768, .f32⟩
  | .hbm, ⟨13, _⟩ => ⟨S2x24x768, .f32⟩
  | .hbm, ⟨14, _⟩ => ⟨S24x512, .f32⟩
  | .hbm, ⟨15, _⟩ => ⟨S24x512, .f32⟩
  | .hbm, ⟨16, _⟩ => ⟨S2x1x768, .i32⟩
  | .hbm, ⟨17, _⟩ => ⟨S2x768x3072, .bf16⟩
  | .local _ .vmem, ⟨0, _⟩ => ⟨S1x768x8x128, .fp8e4m3⟩
  | .local _ .vmem, ⟨1, _⟩ => ⟨S1x768x8x128, .fp8e4m3⟩
  | .local _ .vmem, ⟨2, _⟩ => ⟨S1x768x8x128, .fp8e4m3⟩
  | .local _ .vmem, ⟨3, _⟩ => ⟨S1x768x8x128, .fp8e4m3⟩
  | .local _ .vmem, ⟨4, _⟩ => ⟨S1x768x8x128, .fp8e4m3⟩
  | .local _ .vmem, ⟨5, _⟩ => ⟨S1x768x8x128, .fp8e4m3⟩
  | .local _ .vmem, ⟨6, _⟩ => ⟨S1x8x768, .f32⟩
  | .local _ .vmem, ⟨7, _⟩ => ⟨S1x8x768, .f32⟩
  | .local _ .vmem, ⟨8, _⟩ => ⟨S1x8x768, .f32⟩
  | .local _ .vmem, ⟨9, _⟩ => ⟨S1x8x768, .f32⟩
  | .local _ .vmem, ⟨10, _⟩ => ⟨S1x8x768, .f32⟩
  | .local _ .vmem, ⟨11, _⟩ => ⟨S1x8x768, .f32⟩
  | .local _ .vmem, ⟨12, _⟩ => ⟨S512x8x128, .fp8e4m3⟩
  | .local _ .vmem, ⟨13, _⟩ => ⟨S512x8x128, .fp8e4m3⟩
  | .local _ .vmem, ⟨14, _⟩ => ⟨S512x8x128, .fp8e4m3⟩
  | .local _ .vmem, ⟨15, _⟩ => ⟨S512x8x128, .fp8e4m3⟩
  | .local _ .vmem, ⟨16, _⟩ => ⟨S8x512, .f32⟩
  | .local _ .vmem, ⟨17, _⟩ => ⟨S8x512, .f32⟩
  | .local _ .vmem, ⟨18, _⟩ => ⟨S8x512, .f32⟩
  | .local _ .vmem, ⟨19, _⟩ => ⟨S8x512, .f32⟩
  | .local _ .vmem, ⟨20, _⟩ => ⟨S1x1x768, .i32⟩
  | .local _ .vmem, ⟨21, _⟩ => ⟨S1x1x768, .i32⟩
  | .local _ .vmem, ⟨22, _⟩ => ⟨S1x768x1024, .bf16⟩
  | .local _ .vmem, ⟨23, _⟩ => ⟨S1x768x1024, .bf16⟩
  | .local _ .vmem, ⟨24, _⟩ => ⟨S8x768x128, .fp8e4m3⟩
  | .local _ .vmem, ⟨25, _⟩ => ⟨S8x768x128, .fp8e4m3⟩
  | .local _ .vmem, ⟨26, _⟩ => ⟨S8x768x128, .fp8e4m3⟩
  | .local _ .vmem, ⟨27, _⟩ => ⟨S8x768x128, .fp8e4m3⟩
  | .local _ .vmem, ⟨28, _⟩ => ⟨S8x768x128, .fp8e4m3⟩
  | .local _ .vmem, ⟨29, _⟩ => ⟨S8x768, .f32⟩
  | .local _ .vmem, ⟨30, _⟩ => ⟨S8x768, .f32⟩
  | .local _ .vmem, ⟨31, _⟩ => ⟨S768x128, .bf16⟩
  | .local _ .vmem, ⟨32, _⟩ => ⟨S768x768, .f32⟩
  | .local _ .vmem, ⟨33, _⟩ => ⟨S768x768, .f32⟩
  | .local _ .vmem, ⟨34, _⟩ => ⟨S6x6x128x128, .f32⟩
  | .local _ .vmem, ⟨35, _⟩ => ⟨S6x6x128x128, .f32⟩
  | .local _ .vmem, ⟨36, _⟩ => ⟨S768x768, .f32⟩
  | .local _ .vmem, ⟨37, _⟩ => ⟨S768x768, .bf16⟩
  | _, _ => ⟨S2x768x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_scratch8 : Ref sig .tc := ⟨.vmem, 32, rfl⟩
abbrev cc0_scratch9 : Ref sig .tc := ⟨.vmem, 33, rfl⟩
abbrev cc0_scratch10 : Ref sig .tc := ⟨.vmem, 34, rfl⟩
abbrev cc0_scratch11 : Ref sig .tc := ⟨.vmem, 35, rfl⟩
abbrev cc0_scratch12 : Ref sig .tc := ⟨.vmem, 36, rfl⟩
abbrev cc0_scratch13 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![3, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_392 : BitVec 32 := 0#32
  let c16_i32 : BitVec 32 := 16#32
  let v577 : BitVec 32 := Scalar.addi c0_i32_392 c16_i32
  let c1_i32_393 : BitVec 32 := 1#32
  ⟨c0_i32_392, v577, c1_i32_393⟩
def k0_off1 (k0_t1 : Fin k0_t1_loop.trips) : Fin 3 → Nat :=
  let c512_i32 : BitVec 32 := 512#32
  let c32_i32 : BitVec 32 := 32#32
  let c0_i32_392 : BitVec 32 := 0#32
  let c1_i32_393 : BitVec 32 := 1#32
  let arg28 : BitVec 32 := Scf.iv c0_i32_392 c1_i32_393 k0_t1
  let c1_i32_667 : BitVec 32 := 1#32
  let v1032 : BitVec 32 := Scalar.addi arg28 c1_i32_667
  let v1033 : BitVec 32 := Scalar.muli c32_i32 v1032
  let v1034 : BitVec 32 := Scalar.subi c512_i32 v1033
  let v1035 : Index := Scalar.indexCast v1034
  let c0_668 : Index := 0#32
  let c0_669 : Index := 0#32
  ![v1035.toNat, 0, 0]
def k0_mult1 (k0_t1 : Fin k0_t1_loop.trips) : BitVec 32 :=
  let c128_i32_673 : BitVec 32 := 128#32
  let c32_i32_672 : BitVec 32 := 32#32
  let c0_i32_392 : BitVec 32 := 0#32
  let c1_i32_393 : BitVec 32 := 1#32
  let arg28 : BitVec 32 := Scf.iv c0_i32_392 c1_i32_393 k0_t1
  let v1055 : BitVec 32 := Scalar.muli c32_i32_672 arg28
  let v1056 : BitVec 32 := Scalar.addi c128_i32_673 v1055
  v1056
def k0_off2 (k0_t1 : Fin k0_t1_loop.trips) : Fin 3 → Nat :=
  let c0_674 : Index := 0#32
  let c128_i32_673 : BitVec 32 := 128#32
  let c32_i32_672 : BitVec 32 := 32#32
  let c0_i32_392 : BitVec 32 := 0#32
  let c1_i32_393 : BitVec 32 := 1#32
  let arg28 : BitVec 32 := Scf.iv c0_i32_392 c1_i32_393 k0_t1
  let v1055 : BitVec 32 := Scalar.muli c32_i32_672 arg28
  let v1056 : BitVec 32 := Scalar.addi c128_i32_673 v1055
  let v1057 : BitVec 32 := v1056
  let v1058 : Index := Scalar.indexCast v1057
  let c0_675 : Index := 0#32
  ![0, v1058.toNat, 0]
def k0_off3 (k0_t1 : Fin k0_t1_loop.trips) : Fin 3 → Nat :=
  let c512_i32_678 : BitVec 32 := 512#32
  let c32_i32_677 : BitVec 32 := 32#32
  let c0_i32_392 : BitVec 32 := 0#32
  let c1_i32_393 : BitVec 32 := 1#32
  let arg28 : BitVec 32 := Scf.iv c0_i32_392 c1_i32_393 k0_t1
  let c1_i32_676 : BitVec 32 := 1#32
  let v1062 : BitVec 32 := Scalar.addi arg28 c1_i32_676
  let v1063 : BitVec 32 := Scalar.muli c32_i32_677 v1062
  let v1064 : BitVec 32 := Scalar.subi c512_i32_678 v1063
  let v1065 : Index := Scalar.indexCast v1064
  let c1_679 : Index := 1#32
  let c0_680 : Index := 0#32
  ![v1065.toNat, 1, 0]
def k0_mult2 (k0_t1 : Fin k0_t1_loop.trips) : BitVec 32 :=
  let c128_i32_684 : BitVec 32 := 128#32
  let c32_i32_683 : BitVec 32 := 32#32
  let c0_i32_392 : BitVec 32 := 0#32
  let c1_i32_393 : BitVec 32 := 1#32
  let arg28 : BitVec 32 := Scf.iv c0_i32_392 c1_i32_393 k0_t1
  let v1085 : BitVec 32 := Scalar.muli c32_i32_683 arg28
  let v1086 : BitVec 32 := Scalar.addi c128_i32_684 v1085
  v1086
def k0_off4 (k0_t1 : Fin k0_t1_loop.trips) : Fin 3 → Nat :=
  let c1_685 : Index := 1#32
  let c128_i32_684 : BitVec 32 := 128#32
  let c32_i32_683 : BitVec 32 := 32#32
  let c0_i32_392 : BitVec 32 := 0#32
  let c1_i32_393 : BitVec 32 := 1#32
  let arg28 : BitVec 32 := Scf.iv c0_i32_392 c1_i32_393 k0_t1
  let v1085 : BitVec 32 := Scalar.muli c32_i32_683 arg28
  let v1086 : BitVec 32 := Scalar.addi c128_i32_684 v1085
  let v1087 : BitVec 32 := v1086
  let v1088 : Index := Scalar.indexCast v1087
  let c0_686 : Index := 0#32
  ![1, v1088.toNat, 0]
def k0_off5 (k0_t1 : Fin k0_t1_loop.trips) : Fin 3 → Nat :=
  let c512_i32_689 : BitVec 32 := 512#32
  let c32_i32_688 : BitVec 32 := 32#32
  let c0_i32_392 : BitVec 32 := 0#32
  let c1_i32_393 : BitVec 32 := 1#32
  let arg28 : BitVec 32 := Scf.iv c0_i32_392 c1_i32_393 k0_t1
  let c1_i32_687 : BitVec 32 := 1#32
  let v1092 : BitVec 32 := Scalar.addi arg28 c1_i32_687
  let v1093 : BitVec 32 := Scalar.muli c32_i32_688 v1092
  let v1094 : BitVec 32 := Scalar.subi c512_i32_689 v1093
  let v1095 : Index := Scalar.indexCast v1094
  let c2_690 : Index := 2#32
  let c0_691 : Index := 0#32
  ![v1095.toNat, 2, 0]
def k0_mult3 (k0_t1 : Fin k0_t1_loop.trips) : BitVec 32 :=
  let c128_i32_695 : BitVec 32 := 128#32
  let c32_i32_694 : BitVec 32 := 32#32
  let c0_i32_392 : BitVec 32 := 0#32
  let c1_i32_393 : BitVec 32 := 1#32
  let arg28 : BitVec 32 := Scf.iv c0_i32_392 c1_i32_393 k0_t1
  let v1115 : BitVec 32 := Scalar.muli c32_i32_694 arg28
  let v1116 : BitVec 32 := Scalar.addi c128_i32_695 v1115
  v1116
def k0_off6 (k0_t1 : Fin k0_t1_loop.trips) : Fin 3 → Nat :=
  let c2_696 : Index := 2#32
  let c128_i32_695 : BitVec 32 := 128#32
  let c32_i32_694 : BitVec 32 := 32#32
  let c0_i32_392 : BitVec 32 := 0#32
  let c1_i32_393 : BitVec 32 := 1#32
  let arg28 : BitVec 32 := Scf.iv c0_i32_392 c1_i32_393 k0_t1
  let v1115 : BitVec 32 := Scalar.muli c32_i32_694 arg28
  let v1116 : BitVec 32 := Scalar.addi c128_i32_695 v1115
  let v1117 : BitVec 32 := v1116
  let v1118 : Index := Scalar.indexCast v1117
  let c0_697 : Index := 0#32
  ![2, v1118.toNat, 0]
def k0_off7 (k0_t1 : Fin k0_t1_loop.trips) : Fin 3 → Nat :=
  let c512_i32_700 : BitVec 32 := 512#32
  let c32_i32_699 : BitVec 32 := 32#32
  let c0_i32_392 : BitVec 32 := 0#32
  let c1_i32_393 : BitVec 32 := 1#32
  let arg28 : BitVec 32 := Scf.iv c0_i32_392 c1_i32_393 k0_t1
  let c1_i32_698 : BitVec 32 := 1#32
  let v1122 : BitVec 32 := Scalar.addi arg28 c1_i32_698
  let v1123 : BitVec 32 := Scalar.muli c32_i32_699 v1122
  let v1124 : BitVec 32 := Scalar.subi c512_i32_700 v1123
  let v1125 : Index := Scalar.indexCast v1124
  let c3_701 : Index := 3#32
  let c0_702 : Index := 0#32
  ![v1125.toNat, 3, 0]
def k0_mult4 (k0_t1 : Fin k0_t1_loop.trips) : BitVec 32 :=
  let c128_i32_706 : BitVec 32 := 128#32
  let c32_i32_705 : BitVec 32 := 32#32
  let c0_i32_392 : BitVec 32 := 0#32
  let c1_i32_393 : BitVec 32 := 1#32
  let arg28 : BitVec 32 := Scf.iv c0_i32_392 c1_i32_393 k0_t1
  let v1145 : BitVec 32 := Scalar.muli c32_i32_705 arg28
  let v1146 : BitVec 32 := Scalar.addi c128_i32_706 v1145
  v1146
def k0_off8 (k0_t1 : Fin k0_t1_loop.trips) : Fin 3 → Nat :=
  let c3_707 : Index := 3#32
  let c128_i32_706 : BitVec 32 := 128#32
  let c32_i32_705 : BitVec 32 := 32#32
  let c0_i32_392 : BitVec 32 := 0#32
  let c1_i32_393 : BitVec 32 := 1#32
  let arg28 : BitVec 32 := Scf.iv c0_i32_392 c1_i32_393 k0_t1
  let v1145 : BitVec 32 := Scalar.muli c32_i32_705 arg28
  let v1146 : BitVec 32 := Scalar.addi c128_i32_706 v1145
  let v1147 : BitVec 32 := v1146
  let v1148 : Index := Scalar.indexCast v1147
  let c0_708 : Index := 0#32
  ![3, v1148.toNat, 0]
def k0_off9 (k0_t1 : Fin k0_t1_loop.trips) : Fin 3 → Nat :=
  let c512_i32_711 : BitVec 32 := 512#32
  let c32_i32_710 : BitVec 32 := 32#32
  let c0_i32_392 : BitVec 32 := 0#32
  let c1_i32_393 : BitVec 32 := 1#32
  let arg28 : BitVec 32 := Scf.iv c0_i32_392 c1_i32_393 k0_t1
  let c1_i32_709 : BitVec 32 := 1#32
  let v1152 : BitVec 32 := Scalar.addi arg28 c1_i32_709
  let v1153 : BitVec 32 := Scalar.muli c32_i32_710 v1152
  let v1154 : BitVec 32 := Scalar.subi c512_i32_711 v1153
  let v1155 : Index := Scalar.indexCast v1154
  let c4_712 : Index := 4#32
  let c0_713 : Index := 0#32
  ![v1155.toNat, 4, 0]
def k0_mult5 (k0_t1 : Fin k0_t1_loop.trips) : BitVec 32 :=
  let c128_i32_717 : BitVec 32 := 128#32
  let c32_i32_716 : BitVec 32 := 32#32
  let c0_i32_392 : BitVec 32 := 0#32
  let c1_i32_393 : BitVec 32 := 1#32
  let arg28 : BitVec 32 := Scf.iv c0_i32_392 c1_i32_393 k0_t1
  let v1175 : BitVec 32 := Scalar.muli c32_i32_716 arg28
  let v1176 : BitVec 32 := Scalar.addi c128_i32_717 v1175
  v1176
def k0_off10 (k0_t1 : Fin k0_t1_loop.trips) : Fin 3 → Nat :=
  let c4_718 : Index := 4#32
  let c128_i32_717 : BitVec 32 := 128#32
  let c32_i32_716 : BitVec 32 := 32#32
  let c0_i32_392 : BitVec 32 := 0#32
  let c1_i32_393 : BitVec 32 := 1#32
  let arg28 : BitVec 32 := Scf.iv c0_i32_392 c1_i32_393 k0_t1
  let v1175 : BitVec 32 := Scalar.muli c32_i32_716 arg28
  let v1176 : BitVec 32 := Scalar.addi c128_i32_717 v1175
  let v1177 : BitVec 32 := v1176
  let v1178 : Index := Scalar.indexCast v1177
  let c0_719 : Index := 0#32
  ![4, v1178.toNat, 0]
def k0_off11 (k0_t1 : Fin k0_t1_loop.trips) : Fin 3 → Nat :=
  let c512_i32_722 : BitVec 32 := 512#32
  let c32_i32_721 : BitVec 32 := 32#32
  let c0_i32_392 : BitVec 32 := 0#32
  let c1_i32_393 : BitVec 32 := 1#32
  let arg28 : BitVec 32 := Scf.iv c0_i32_392 c1_i32_393 k0_t1
  let c1_i32_720 : BitVec 32 := 1#32
  let v1182 : BitVec 32 := Scalar.addi arg28 c1_i32_720
  let v1183 : BitVec 32 := Scalar.muli c32_i32_721 v1182
  let v1184 : BitVec 32 := Scalar.subi c512_i32_722 v1183
  let v1185 : Index := Scalar.indexCast v1184
  let c5_723 : Index := 5#32
  let c0_724 : Index := 0#32
  ![v1185.toNat, 5, 0]
def k0_mult6 (k0_t1 : Fin k0_t1_loop.trips) : BitVec 32 :=
  let c128_i32_728 : BitVec 32 := 128#32
  let c32_i32_727 : BitVec 32 := 32#32
  let c0_i32_392 : BitVec 32 := 0#32
  let c1_i32_393 : BitVec 32 := 1#32
  let arg28 : BitVec 32 := Scf.iv c0_i32_392 c1_i32_393 k0_t1
  let v1205 : BitVec 32 := Scalar.muli c32_i32_727 arg28
  let v1206 : BitVec 32 := Scalar.addi c128_i32_728 v1205
  v1206
def k0_off12 (k0_t1 : Fin k0_t1_loop.trips) : Fin 3 → Nat :=
  let c5_729 : Index := 5#32
  let c128_i32_728 : BitVec 32 := 128#32
  let c32_i32_727 : BitVec 32 := 32#32
  let c0_i32_392 : BitVec 32 := 0#32
  let c1_i32_393 : BitVec 32 := 1#32
  let arg28 : BitVec 32 := Scf.iv c0_i32_392 c1_i32_393 k0_t1
  let v1205 : BitVec 32 := Scalar.muli c32_i32_727 arg28
  let v1206 : BitVec 32 := Scalar.addi c128_i32_728 v1205
  let v1207 : BitVec 32 := v1206
  let v1208 : Index := Scalar.indexCast v1207
  let c0_730 : Index := 0#32
  ![5, v1208.toNat, 0]
def k0_off13 (k0_t1 : Fin k0_t1_loop.trips) : Fin 3 → Nat :=
  let c512_i32_733 : BitVec 32 := 512#32
  let c32_i32_732 : BitVec 32 := 32#32
  let c0_i32_392 : BitVec 32 := 0#32
  let c1_i32_393 : BitVec 32 := 1#32
  let arg28 : BitVec 32 := Scf.iv c0_i32_392 c1_i32_393 k0_t1
  let c1_i32_731 : BitVec 32 := 1#32
  let v1212 : BitVec 32 := Scalar.addi arg28 c1_i32_731
  let v1213 : BitVec 32 := Scalar.muli c32_i32_732 v1212
  let v1214 : BitVec 32 := Scalar.subi c512_i32_733 v1213
  let v1215 : Index := Scalar.indexCast v1214
  let c6_734 : Index := 6#32
  let c0_735 : Index := 0#32
  ![v1215.toNat, 6, 0]
def k0_mult7 (k0_t1 : Fin k0_t1_loop.trips) : BitVec 32 :=
  let c128_i32_739 : BitVec 32 := 128#32
  let c32_i32_738 : BitVec 32 := 32#32
  let c0_i32_392 : BitVec 32 := 0#32
  let c1_i32_393 : BitVec 32 := 1#32
  let arg28 : BitVec 32 := Scf.iv c0_i32_392 c1_i32_393 k0_t1
  let v1235 : BitVec 32 := Scalar.muli c32_i32_738 arg28
  let v1236 : BitVec 32 := Scalar.addi c128_i32_739 v1235
  v1236
def k0_off14 (k0_t1 : Fin k0_t1_loop.trips) : Fin 3 → Nat :=
  let c6_740 : Index := 6#32
  let c128_i32_739 : BitVec 32 := 128#32
  let c32_i32_738 : BitVec 32 := 32#32
  let c0_i32_392 : BitVec 32 := 0#32
  let c1_i32_393 : BitVec 32 := 1#32
  let arg28 : BitVec 32 := Scf.iv c0_i32_392 c1_i32_393 k0_t1
  let v1235 : BitVec 32 := Scalar.muli c32_i32_738 arg28
  let v1236 : BitVec 32 := Scalar.addi c128_i32_739 v1235
  let v1237 : BitVec 32 := v1236
  let v1238 : Index := Scalar.indexCast v1237
  let c0_741 : Index := 0#32
  ![6, v1238.toNat, 0]
def k0_off15 (k0_t1 : Fin k0_t1_loop.trips) : Fin 3 → Nat :=
  let c512_i32_744 : BitVec 32 := 512#32
  let c32_i32_743 : BitVec 32 := 32#32
  let c0_i32_392 : BitVec 32 := 0#32
  let c1_i32_393 : BitVec 32 := 1#32
  let arg28 : BitVec 32 := Scf.iv c0_i32_392 c1_i32_393 k0_t1
  let c1_i32_742 : BitVec 32 := 1#32
  let v1242 : BitVec 32 := Scalar.addi arg28 c1_i32_742
  let v1243 : BitVec 32 := Scalar.muli c32_i32_743 v1242
  let v1244 : BitVec 32 := Scalar.subi c512_i32_744 v1243
  let v1245 : Index := Scalar.indexCast v1244
  let c7_745 : Index := 7#32
  let c0_746 : Index := 0#32
  ![v1245.toNat, 7, 0]
def k0_mult8 (k0_t1 : Fin k0_t1_loop.trips) : BitVec 32 :=
  let c128_i32_750 : BitVec 32 := 128#32
  let c32_i32_749 : BitVec 32 := 32#32
  let c0_i32_392 : BitVec 32 := 0#32
  let c1_i32_393 : BitVec 32 := 1#32
  let arg28 : BitVec 32 := Scf.iv c0_i32_392 c1_i32_393 k0_t1
  let v1265 : BitVec 32 := Scalar.muli c32_i32_749 arg28
  let v1266 : BitVec 32 := Scalar.addi c128_i32_750 v1265
  v1266
def k0_off16 (k0_t1 : Fin k0_t1_loop.trips) : Fin 3 → Nat :=
  let c7_751 : Index := 7#32
  let c128_i32_750 : BitVec 32 := 128#32
  let c32_i32_749 : BitVec 32 := 32#32
  let c0_i32_392 : BitVec 32 := 0#32
  let c1_i32_393 : BitVec 32 := 1#32
  let arg28 : BitVec 32 := Scf.iv c0_i32_392 c1_i32_393 k0_t1
  let v1265 : BitVec 32 := Scalar.muli c32_i32_749 arg28
  let v1266 : BitVec 32 := Scalar.addi c128_i32_750 v1265
  let v1267 : BitVec 32 := v1266
  let v1268 : Index := Scalar.indexCast v1267
  let c0_752 : Index := 0#32
  ![7, v1268.toNat, 0]
@[reducible] def k0_t2_loop : Scf.Loop 32 :=
  let c0_i32_491 : BitVec 32 := 0#32
  let c16_i32_492 : BitVec 32 := 16#32
  let v725 : BitVec 32 := Scalar.addi c0_i32_491 c16_i32_492
  let c1_i32_493 : BitVec 32 := 1#32
  ⟨c0_i32_491, v725, c1_i32_493⟩
def k0_off17 (k0_t2 : Fin k0_t2_loop.trips) : Fin 3 → Nat :=
  let c512_i32 : BitVec 32 := 512#32
  let c32_i32 : BitVec 32 := 32#32
  let c0_i32_491 : BitVec 32 := 0#32
  let c1_i32_493 : BitVec 32 := 1#32
  let arg28 : BitVec 32 := Scf.iv c0_i32_491 c1_i32_493 k0_t2
  let c1_i32_667 : BitVec 32 := 1#32
  let v1032 : BitVec 32 := Scalar.addi arg28 c1_i32_667
  let v1033 : BitVec 32 := Scalar.muli c32_i32 v1032
  let v1034 : BitVec 32 := Scalar.subi c512_i32 v1033
  let v1035 : Index := Scalar.indexCast v1034
  let c0_668 : Index := 0#32
  let c0_669 : Index := 0#32
  ![v1035.toNat, 0, 0]
def k0_mult9 (k0_t2 : Fin k0_t2_loop.trips) : BitVec 32 :=
  let c128_i32_673 : BitVec 32 := 128#32
  let c32_i32_672 : BitVec 32 := 32#32
  let c0_i32_491 : BitVec 32 := 0#32
  let c1_i32_493 : BitVec 32 := 1#32
  let arg28 : BitVec 32 := Scf.iv c0_i32_491 c1_i32_493 k0_t2
  let v1055 : BitVec 32 := Scalar.muli c32_i32_672 arg28
  let v1056 : BitVec 32 := Scalar.addi c128_i32_673 v1055
  v1056
def k0_off18 (k0_t2 : Fin k0_t2_loop.trips) : Fin 3 → Nat :=
  let c0_674 : Index := 0#32
  let c128_i32_673 : BitVec 32 := 128#32
  let c32_i32_672 : BitVec 32 := 32#32
  let c0_i32_491 : BitVec 32 := 0#32
  let c1_i32_493 : BitVec 32 := 1#32
  let arg28 : BitVec 32 := Scf.iv c0_i32_491 c1_i32_493 k0_t2
  let v1055 : BitVec 32 := Scalar.muli c32_i32_672 arg28
  let v1056 : BitVec 32 := Scalar.addi c128_i32_673 v1055
  let v1057 : BitVec 32 := v1056
  let v1058 : Index := Scalar.indexCast v1057
  let c0_675 : Index := 0#32
  ![0, v1058.toNat, 0]
def k0_off19 (k0_t2 : Fin k0_t2_loop.trips) : Fin 3 → Nat :=
  let c512_i32_678 : BitVec 32 := 512#32
  let c32_i32_677 : BitVec 32 := 32#32
  let c0_i32_491 : BitVec 32 := 0#32
  let c1_i32_493 : BitVec 32 := 1#32
  let arg28 : BitVec 32 := Scf.iv c0_i32_491 c1_i32_493 k0_t2
  let c1_i32_676 : BitVec 32 := 1#32
  let v1062 : BitVec 32 := Scalar.addi arg28 c1_i32_676
  let v1063 : BitVec 32 := Scalar.muli c32_i32_677 v1062
  let v1064 : BitVec 32 := Scalar.subi c512_i32_678 v1063
  let v1065 : Index := Scalar.indexCast v1064
  let c1_679 : Index := 1#32
  let c0_680 : Index := 0#32
  ![v1065.toNat, 1, 0]
def k0_mult10 (k0_t2 : Fin k0_t2_loop.trips) : BitVec 32 :=
  let c128_i32_684 : BitVec 32 := 128#32
  let c32_i32_683 : BitVec 32 := 32#32
  let c0_i32_491 : BitVec 32 := 0#32
  let c1_i32_493 : BitVec 32 := 1#32
  let arg28 : BitVec 32 := Scf.iv c0_i32_491 c1_i32_493 k0_t2
  let v1085 : BitVec 32 := Scalar.muli c32_i32_683 arg28
  let v1086 : BitVec 32 := Scalar.addi c128_i32_684 v1085
  v1086
def k0_off20 (k0_t2 : Fin k0_t2_loop.trips) : Fin 3 → Nat :=
  let c1_685 : Index := 1#32
  let c128_i32_684 : BitVec 32 := 128#32
  let c32_i32_683 : BitVec 32 := 32#32
  let c0_i32_491 : BitVec 32 := 0#32
  let c1_i32_493 : BitVec 32 := 1#32
  let arg28 : BitVec 32 := Scf.iv c0_i32_491 c1_i32_493 k0_t2
  let v1085 : BitVec 32 := Scalar.muli c32_i32_683 arg28
  let v1086 : BitVec 32 := Scalar.addi c128_i32_684 v1085
  let v1087 : BitVec 32 := v1086
  let v1088 : Index := Scalar.indexCast v1087
  let c0_686 : Index := 0#32
  ![1, v1088.toNat, 0]
def k0_off21 (k0_t2 : Fin k0_t2_loop.trips) : Fin 3 → Nat :=
  let c512_i32_689 : BitVec 32 := 512#32
  let c32_i32_688 : BitVec 32 := 32#32
  let c0_i32_491 : BitVec 32 := 0#32
  let c1_i32_493 : BitVec 32 := 1#32
  let arg28 : BitVec 32 := Scf.iv c0_i32_491 c1_i32_493 k0_t2
  let c1_i32_687 : BitVec 32 := 1#32
  let v1092 : BitVec 32 := Scalar.addi arg28 c1_i32_687
  let v1093 : BitVec 32 := Scalar.muli c32_i32_688 v1092
  let v1094 : BitVec 32 := Scalar.subi c512_i32_689 v1093
  let v1095 : Index := Scalar.indexCast v1094
  let c2_690 : Index := 2#32
  let c0_691 : Index := 0#32
  ![v1095.toNat, 2, 0]
def k0_mult11 (k0_t2 : Fin k0_t2_loop.trips) : BitVec 32 :=
  let c128_i32_695 : BitVec 32 := 128#32
  let c32_i32_694 : BitVec 32 := 32#32
  let c0_i32_491 : BitVec 32 := 0#32
  let c1_i32_493 : BitVec 32 := 1#32
  let arg28 : BitVec 32 := Scf.iv c0_i32_491 c1_i32_493 k0_t2
  let v1115 : BitVec 32 := Scalar.muli c32_i32_694 arg28
  let v1116 : BitVec 32 := Scalar.addi c128_i32_695 v1115
  v1116
def k0_off22 (k0_t2 : Fin k0_t2_loop.trips) : Fin 3 → Nat :=
  let c2_696 : Index := 2#32
  let c128_i32_695 : BitVec 32 := 128#32
  let c32_i32_694 : BitVec 32 := 32#32
  let c0_i32_491 : BitVec 32 := 0#32
  let c1_i32_493 : BitVec 32 := 1#32
  let arg28 : BitVec 32 := Scf.iv c0_i32_491 c1_i32_493 k0_t2
  let v1115 : BitVec 32 := Scalar.muli c32_i32_694 arg28
  let v1116 : BitVec 32 := Scalar.addi c128_i32_695 v1115
  let v1117 : BitVec 32 := v1116
  let v1118 : Index := Scalar.indexCast v1117
  let c0_697 : Index := 0#32
  ![2, v1118.toNat, 0]
def k0_off23 (k0_t2 : Fin k0_t2_loop.trips) : Fin 3 → Nat :=
  let c512_i32_700 : BitVec 32 := 512#32
  let c32_i32_699 : BitVec 32 := 32#32
  let c0_i32_491 : BitVec 32 := 0#32
  let c1_i32_493 : BitVec 32 := 1#32
  let arg28 : BitVec 32 := Scf.iv c0_i32_491 c1_i32_493 k0_t2
  let c1_i32_698 : BitVec 32 := 1#32
  let v1122 : BitVec 32 := Scalar.addi arg28 c1_i32_698
  let v1123 : BitVec 32 := Scalar.muli c32_i32_699 v1122
  let v1124 : BitVec 32 := Scalar.subi c512_i32_700 v1123
  let v1125 : Index := Scalar.indexCast v1124
  let c3_701 : Index := 3#32
  let c0_702 : Index := 0#32
  ![v1125.toNat, 3, 0]
def k0_mult12 (k0_t2 : Fin k0_t2_loop.trips) : BitVec 32 :=
  let c128_i32_706 : BitVec 32 := 128#32
  let c32_i32_705 : BitVec 32 := 32#32
  let c0_i32_491 : BitVec 32 := 0#32
  let c1_i32_493 : BitVec 32 := 1#32
  let arg28 : BitVec 32 := Scf.iv c0_i32_491 c1_i32_493 k0_t2
  let v1145 : BitVec 32 := Scalar.muli c32_i32_705 arg28
  let v1146 : BitVec 32 := Scalar.addi c128_i32_706 v1145
  v1146
def k0_off24 (k0_t2 : Fin k0_t2_loop.trips) : Fin 3 → Nat :=
  let c3_707 : Index := 3#32
  let c128_i32_706 : BitVec 32 := 128#32
  let c32_i32_705 : BitVec 32 := 32#32
  let c0_i32_491 : BitVec 32 := 0#32
  let c1_i32_493 : BitVec 32 := 1#32
  let arg28 : BitVec 32 := Scf.iv c0_i32_491 c1_i32_493 k0_t2
  let v1145 : BitVec 32 := Scalar.muli c32_i32_705 arg28
  let v1146 : BitVec 32 := Scalar.addi c128_i32_706 v1145
  let v1147 : BitVec 32 := v1146
  let v1148 : Index := Scalar.indexCast v1147
  let c0_708 : Index := 0#32
  ![3, v1148.toNat, 0]
def k0_off25 (k0_t2 : Fin k0_t2_loop.trips) : Fin 3 → Nat :=
  let c512_i32_711 : BitVec 32 := 512#32
  let c32_i32_710 : BitVec 32 := 32#32
  let c0_i32_491 : BitVec 32 := 0#32
  let c1_i32_493 : BitVec 32 := 1#32
  let arg28 : BitVec 32 := Scf.iv c0_i32_491 c1_i32_493 k0_t2
  let c1_i32_709 : BitVec 32 := 1#32
  let v1152 : BitVec 32 := Scalar.addi arg28 c1_i32_709
  let v1153 : BitVec 32 := Scalar.muli c32_i32_710 v1152
  let v1154 : BitVec 32 := Scalar.subi c512_i32_711 v1153
  let v1155 : Index := Scalar.indexCast v1154
  let c4_712 : Index := 4#32
  let c0_713 : Index := 0#32
  ![v1155.toNat, 4, 0]
def k0_mult13 (k0_t2 : Fin k0_t2_loop.trips) : BitVec 32 :=
  let c128_i32_717 : BitVec 32 := 128#32
  let c32_i32_716 : BitVec 32 := 32#32
  let c0_i32_491 : BitVec 32 := 0#32
  let c1_i32_493 : BitVec 32 := 1#32
  let arg28 : BitVec 32 := Scf.iv c0_i32_491 c1_i32_493 k0_t2
  let v1175 : BitVec 32 := Scalar.muli c32_i32_716 arg28
  let v1176 : BitVec 32 := Scalar.addi c128_i32_717 v1175
  v1176
def k0_off26 (k0_t2 : Fin k0_t2_loop.trips) : Fin 3 → Nat :=
  let c4_718 : Index := 4#32
  let c128_i32_717 : BitVec 32 := 128#32
  let c32_i32_716 : BitVec 32 := 32#32
  let c0_i32_491 : BitVec 32 := 0#32
  let c1_i32_493 : BitVec 32 := 1#32
  let arg28 : BitVec 32 := Scf.iv c0_i32_491 c1_i32_493 k0_t2
  let v1175 : BitVec 32 := Scalar.muli c32_i32_716 arg28
  let v1176 : BitVec 32 := Scalar.addi c128_i32_717 v1175
  let v1177 : BitVec 32 := v1176
  let v1178 : Index := Scalar.indexCast v1177
  let c0_719 : Index := 0#32
  ![4, v1178.toNat, 0]
def k0_off27 (k0_t2 : Fin k0_t2_loop.trips) : Fin 3 → Nat :=
  let c512_i32_722 : BitVec 32 := 512#32
  let c32_i32_721 : BitVec 32 := 32#32
  let c0_i32_491 : BitVec 32 := 0#32
  let c1_i32_493 : BitVec 32 := 1#32
  let arg28 : BitVec 32 := Scf.iv c0_i32_491 c1_i32_493 k0_t2
  let c1_i32_720 : BitVec 32 := 1#32
  let v1182 : BitVec 32 := Scalar.addi arg28 c1_i32_720
  let v1183 : BitVec 32 := Scalar.muli c32_i32_721 v1182
  let v1184 : BitVec 32 := Scalar.subi c512_i32_722 v1183
  let v1185 : Index := Scalar.indexCast v1184
  let c5_723 : Index := 5#32
  let c0_724 : Index := 0#32
  ![v1185.toNat, 5, 0]
def k0_mult14 (k0_t2 : Fin k0_t2_loop.trips) : BitVec 32 :=
  let c128_i32_728 : BitVec 32 := 128#32
  let c32_i32_727 : BitVec 32 := 32#32
  let c0_i32_491 : BitVec 32 := 0#32
  let c1_i32_493 : BitVec 32 := 1#32
  let arg28 : BitVec 32 := Scf.iv c0_i32_491 c1_i32_493 k0_t2
  let v1205 : BitVec 32 := Scalar.muli c32_i32_727 arg28
  let v1206 : BitVec 32 := Scalar.addi c128_i32_728 v1205
  v1206
def k0_off28 (k0_t2 : Fin k0_t2_loop.trips) : Fin 3 → Nat :=
  let c5_729 : Index := 5#32
  let c128_i32_728 : BitVec 32 := 128#32
  let c32_i32_727 : BitVec 32 := 32#32
  let c0_i32_491 : BitVec 32 := 0#32
  let c1_i32_493 : BitVec 32 := 1#32
  let arg28 : BitVec 32 := Scf.iv c0_i32_491 c1_i32_493 k0_t2
  let v1205 : BitVec 32 := Scalar.muli c32_i32_727 arg28
  let v1206 : BitVec 32 := Scalar.addi c128_i32_728 v1205
  let v1207 : BitVec 32 := v1206
  let v1208 : Index := Scalar.indexCast v1207
  let c0_730 : Index := 0#32
  ![5, v1208.toNat, 0]
def k0_off29 (k0_t2 : Fin k0_t2_loop.trips) : Fin 3 → Nat :=
  let c512_i32_733 : BitVec 32 := 512#32
  let c32_i32_732 : BitVec 32 := 32#32
  let c0_i32_491 : BitVec 32 := 0#32
  let c1_i32_493 : BitVec 32 := 1#32
  let arg28 : BitVec 32 := Scf.iv c0_i32_491 c1_i32_493 k0_t2
  let c1_i32_731 : BitVec 32 := 1#32
  let v1212 : BitVec 32 := Scalar.addi arg28 c1_i32_731
  let v1213 : BitVec 32 := Scalar.muli c32_i32_732 v1212
  let v1214 : BitVec 32 := Scalar.subi c512_i32_733 v1213
  let v1215 : Index := Scalar.indexCast v1214
  let c6_734 : Index := 6#32
  let c0_735 : Index := 0#32
  ![v1215.toNat, 6, 0]
def k0_mult15 (k0_t2 : Fin k0_t2_loop.trips) : BitVec 32 :=
  let c128_i32_739 : BitVec 32 := 128#32
  let c32_i32_738 : BitVec 32 := 32#32
  let c0_i32_491 : BitVec 32 := 0#32
  let c1_i32_493 : BitVec 32 := 1#32
  let arg28 : BitVec 32 := Scf.iv c0_i32_491 c1_i32_493 k0_t2
  let v1235 : BitVec 32 := Scalar.muli c32_i32_738 arg28
  let v1236 : BitVec 32 := Scalar.addi c128_i32_739 v1235
  v1236
def k0_off30 (k0_t2 : Fin k0_t2_loop.trips) : Fin 3 → Nat :=
  let c6_740 : Index := 6#32
  let c128_i32_739 : BitVec 32 := 128#32
  let c32_i32_738 : BitVec 32 := 32#32
  let c0_i32_491 : BitVec 32 := 0#32
  let c1_i32_493 : BitVec 32 := 1#32
  let arg28 : BitVec 32 := Scf.iv c0_i32_491 c1_i32_493 k0_t2
  let v1235 : BitVec 32 := Scalar.muli c32_i32_738 arg28
  let v1236 : BitVec 32 := Scalar.addi c128_i32_739 v1235
  let v1237 : BitVec 32 := v1236
  let v1238 : Index := Scalar.indexCast v1237
  let c0_741 : Index := 0#32
  ![6, v1238.toNat, 0]
def k0_off31 (k0_t2 : Fin k0_t2_loop.trips) : Fin 3 → Nat :=
  let c512_i32_744 : BitVec 32 := 512#32
  let c32_i32_743 : BitVec 32 := 32#32
  let c0_i32_491 : BitVec 32 := 0#32
  let c1_i32_493 : BitVec 32 := 1#32
  let arg28 : BitVec 32 := Scf.iv c0_i32_491 c1_i32_493 k0_t2
  let c1_i32_742 : BitVec 32 := 1#32
  let v1242 : BitVec 32 := Scalar.addi arg28 c1_i32_742
  let v1243 : BitVec 32 := Scalar.muli c32_i32_743 v1242
  let v1244 : BitVec 32 := Scalar.subi c512_i32_744 v1243
  let v1245 : Index := Scalar.indexCast v1244
  let c7_745 : Index := 7#32
  let c0_746 : Index := 0#32
  ![v1245.toNat, 7, 0]
def k0_mult16 (k0_t2 : Fin k0_t2_loop.trips) : BitVec 32 :=
  let c128_i32_750 : BitVec 32 := 128#32
  let c32_i32_749 : BitVec 32 := 32#32
  let c0_i32_491 : BitVec 32 := 0#32
  let c1_i32_493 : BitVec 32 := 1#32
  let arg28 : BitVec 32 := Scf.iv c0_i32_491 c1_i32_493 k0_t2
  let v1265 : BitVec 32 := Scalar.muli c32_i32_749 arg28
  let v1266 : BitVec 32 := Scalar.addi c128_i32_750 v1265
  v1266
def k0_off32 (k0_t2 : Fin k0_t2_loop.trips) : Fin 3 → Nat :=
  let c7_751 : Index := 7#32
  let c128_i32_750 : BitVec 32 := 128#32
  let c32_i32_749 : BitVec 32 := 32#32
  let c0_i32_491 : BitVec 32 := 0#32
  let c1_i32_493 : BitVec 32 := 1#32
  let arg28 : BitVec 32 := Scf.iv c0_i32_491 c1_i32_493 k0_t2
  let v1265 : BitVec 32 := Scalar.muli c32_i32_749 arg28
  let v1266 : BitVec 32 := Scalar.addi c128_i32_750 v1265
  let v1267 : BitVec 32 := v1266
  let v1268 : Index := Scalar.indexCast v1267
  let c0_752 : Index := 0#32
  ![7, v1268.toNat, 0]
@[reducible] def k0_t3_loop : Scf.Loop 32 :=
  let c0_i32_390 : BitVec 32 := 0#32
  let c8_i32 : BitVec 32 := 8#32
  let v573 : BitVec 32 := Scalar.addi c0_i32_390 c8_i32
  let c1_i32 : BitVec 32 := 1#32
  ⟨c0_i32_390, v573, c1_i32⟩
def k0_off33 (k0_t3 : Fin k0_t3_loop.trips) : Fin 3 → Nat :=
  let c0_i32_390 : BitVec 32 := 0#32
  let c1_i32 : BitVec 32 := 1#32
  let arg28 : BitVec 32 := Scf.iv c0_i32_390 c1_i32 k0_t3
  let v574 : Index := Scalar.indexCast arg28
  let c0_392 : Index := 0#32
  let c0_393 : Index := 0#32
  ![v574.toNat, 0, 0]
def k0_off34 (k0_t3 : Fin k0_t3_loop.trips) : Fin 3 → Nat :=
  let c0_396 : Index := 0#32
  let c0_i32_390 : BitVec 32 := 0#32
  let c1_i32 : BitVec 32 := 1#32
  let arg28 : BitVec 32 := Scf.iv c0_i32_390 c1_i32 k0_t3
  let v580 : Index := Scalar.indexCast arg28
  let c0_397 : Index := 0#32
  ![0, v580.toNat, 0]
def k0_off35 (k0_t3 : Fin k0_t3_loop.trips) : Fin 2 → Nat :=
  let c0_i32_390 : BitVec 32 := 0#32
  let c1_i32 : BitVec 32 := 1#32
  let arg28 : BitVec 32 := Scf.iv c0_i32_390 c1_i32 k0_t3
  let v585 : Index := Scalar.indexCast arg28
  let c0_399 : Index := 0#32
  ![v585.toNat, 0]
def k0_off36 (k0_t3 : Fin k0_t3_loop.trips) : Fin 3 → Nat :=
  let c0_i32_390 : BitVec 32 := 0#32
  let c1_i32 : BitVec 32 := 1#32
  let arg28 : BitVec 32 := Scf.iv c0_i32_390 c1_i32 k0_t3
  let v587 : Index := Scalar.indexCast arg28
  let c0_400 : Index := 0#32
  let c0_401 : Index := 0#32
  ![v587.toNat, 0, 0]
def k0_off37 (k0_t3 : Fin k0_t3_loop.trips) : Fin 3 → Nat :=
  let c0_i32_390 : BitVec 32 := 0#32
  let c1_i32 : BitVec 32 := 1#32
  let arg28 : BitVec 32 := Scf.iv c0_i32_390 c1_i32 k0_t3
  let v597 : Index := Scalar.indexCast arg28
  let c256_405 : Index := 256#32
  let c0_406 : Index := 0#32
  ![v597.toNat, 256, 0]
def k0_off38 (k0_t3 : Fin k0_t3_loop.trips) : Fin 3 → Nat :=
  let c0_i32_390 : BitVec 32 := 0#32
  let c1_i32 : BitVec 32 := 1#32
  let arg28 : BitVec 32 := Scf.iv c0_i32_390 c1_i32 k0_t3
  let v607 : Index := Scalar.indexCast arg28
  let c512_410 : Index := 512#32
  let c0_411 : Index := 0#32
  ![v607.toNat, 512, 0]
def k0_mult17 (k0_t3 : Fin k0_t3_loop.trips) : BitVec 32 :=
  let c0_i32_390 : BitVec 32 := 0#32
  let c1_i32 : BitVec 32 := 1#32
  let arg28 : BitVec 32 := Scf.iv c0_i32_390 c1_i32 k0_t3
  let c128_i32 : BitVec 32 := 128#32
  let v1557 : BitVec 32 := Scalar.muli arg28 c128_i32
  v1557
def k0_off39 (k0_t3 : Fin k0_t3_loop.trips) : Fin 3 → Nat :=
  let c0_1206 : Index := 0#32
  let c0_1207 : Index := 0#32
  let c0_i32_390 : BitVec 32 := 0#32
  let c1_i32 : BitVec 32 := 1#32
  let arg28 : BitVec 32 := Scf.iv c0_i32_390 c1_i32 k0_t3
  let c128_i32 : BitVec 32 := 128#32
  let v1557 : BitVec 32 := Scalar.muli arg28 c128_i32
  let v1558 : BitVec 32 := v1557
  let v1559 : Index := Scalar.indexCast v1558
  ![0, 0, v1559.toNat]
def k0_mult18 (k0_t3 : Fin k0_t3_loop.trips) : BitVec 32 :=
  let c0_i32_390 : BitVec 32 := 0#32
  let c1_i32 : BitVec 32 := 1#32
  let arg28 : BitVec 32 := Scf.iv c0_i32_390 c1_i32 k0_t3
  let c128_i32_1517 : BitVec 32 := 128#32
  let v2008 : BitVec 32 := Scalar.muli arg28 c128_i32_1517
  v2008
def k0_off40 (k0_t3 : Fin k0_t3_loop.trips) : Fin 3 → Nat :=
  let c0_1518 : Index := 0#32
  let c256_1519 : Index := 256#32
  let c0_i32_390 : BitVec 32 := 0#32
  let c1_i32 : BitVec 32 := 1#32
  let arg28 : BitVec 32 := Scf.iv c0_i32_390 c1_i32 k0_t3
  let c128_i32_1517 : BitVec 32 := 128#32
  let v2008 : BitVec 32 := Scalar.muli arg28 c128_i32_1517
  let v2009 : BitVec 32 := v2008
  let v2010 : Index := Scalar.indexCast v2009
  ![0, 256, v2010.toNat]
def k0_mult19 (k0_t3 : Fin k0_t3_loop.trips) : BitVec 32 :=
  let c0_i32_390 : BitVec 32 := 0#32
  let c1_i32 : BitVec 32 := 1#32
  let arg28 : BitVec 32 := Scf.iv c0_i32_390 c1_i32 k0_t3
  let c128_i32_1805 : BitVec 32 := 128#32
  let v2444 : BitVec 32 := Scalar.muli arg28 c128_i32_1805
  v2444
def k0_off41 (k0_t3 : Fin k0_t3_loop.trips) : Fin 3 → Nat :=
  let c0_1806 : Index := 0#32
  let c512_1807 : Index := 512#32
  let c0_i32_390 : BitVec 32 := 0#32
  let c1_i32 : BitVec 32 := 1#32
  let arg28 : BitVec 32 := Scf.iv c0_i32_390 c1_i32 k0_t3
  let c128_i32_1805 : BitVec 32 := 128#32
  let v2444 : BitVec 32 := Scalar.muli arg28 c128_i32_1805
  let v2445 : BitVec 32 := v2444
  let v2446 : Index := Scalar.indexCast v2445
  ![0, 512, v2446.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x768x8x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x768x8x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x768x8x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x8x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x8x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x768 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x768x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "log2e_over_root" => some (((Real.log 2)⁻¹ * (Real.sqrt 384)⁻¹ : ℝ) : EReal)
  | _ => none
-- ==== ReferenceIdeal.lean ====
abbrev S2x768x24x128 : Shape := ⟨4, ![2, 768, 24, 128]⟩
abbrev S2x768x24 : Shape := ⟨3, ![2, 768, 24]⟩
abbrev S512x24x128 : Shape := ⟨3, ![512, 24, 128]⟩
abbrev S512x24 : Shape := ⟨2, ![512, 24]⟩
abbrev S2x768 : Shape := ⟨2, ![2, 768]⟩
abbrev S768 : Shape := ⟨1, ![768]⟩
abbrev S768x1 : Shape := ⟨2, ![768, 1]⟩
abbrev S1x768 : Shape := ⟨2, ![1, 768]⟩
abbrev S768x768 : Shape := ⟨2, ![768, 768]⟩
abbrev S_ : Shape := ⟨0, ![]⟩
abbrev S2x24x768 : Shape := ⟨3, ![2, 24, 768]⟩
abbrev S2x24x768x768 : Shape := ⟨4, ![2, 24, 768, 768]⟩
abbrev S2x24x768x1 : Shape := ⟨4, ![2, 24, 768, 1]⟩
abbrev S2x24x1x768 : Shape := ⟨4, ![2, 24, 1, 768]⟩
abbrev S24x512x2x768 : Shape := ⟨4, ![24, 512, 2, 768]⟩
abbrev S2x24x768x512 : Shape := ⟨4, ![2, 24, 768, 512]⟩
abbrev S1x1x768x768 : Shape := ⟨4, ![1, 1, 768, 768]⟩
abbrev S768x768x1 : Shape := ⟨3, ![768, 768, 1]⟩
abbrev S1 : Shape := ⟨1, ![1]⟩
abbrev S1x1x1 : Shape := ⟨3, ![1, 1, 1]⟩
abbrev S24x512 : Shape := ⟨2, ![24, 512]⟩
abbrev S24x768x768 : Shape := ⟨3, ![24, 768, 768]⟩
abbrev S1x24x768x768 : Shape := ⟨4, ![1, 24, 768, 768]⟩
abbrev S2x1x768x1 : Shape := ⟨4, ![2, 1, 768, 1]⟩
abbrev S2x1x1x768 : Shape := ⟨4, ![2, 1, 1, 768]⟩
abbrev S2x1x768x768 : Shape := ⟨4, ![2, 1, 768, 768]⟩
abbrev S2x24x128x768 : Shape := ⟨4, ![2, 24, 128, 768]⟩
abbrev S2x768x3072 : Shape := ⟨3, ![2, 768, 3072]⟩

abbrev nBuf : Space → Nat
  | .hbm => 166
  | .vmem => 10
  | .smem => 0
  | _ => 0

abbrev hbmTy0_0 (i : Nat) : BufTy := match i % 128 with
  | 0 => ⟨S2x768x24x128, .fp8e4m3⟩
  | 1 => ⟨S2x768x24x128, .fp8e4m3⟩
  | 2 => ⟨S2x768x24x128, .fp8e4m3⟩
  | 3 => ⟨S2x768x24, .f32⟩
  | 4 => ⟨S2x768x24, .f32⟩
  | 5 => ⟨S2x768x24, .f32⟩
  | 6 => ⟨S512x24x128, .fp8e4m3⟩
  | 7 => ⟨S512x24x128, .fp8e4m3⟩
  | 8 => ⟨S512x24, .f32⟩
  | 9 => ⟨S512x24, .f32⟩
  | 10 => ⟨S2x768, .i32⟩
  | 11 => ⟨S2x768x24x128, .bf16⟩
  | 12 => ⟨S2x768x24x128, .bf16⟩
  | 13 => ⟨S2x768x24x128, .bf16⟩
  | 14 => ⟨S512x24x128, .bf16⟩
  | 15 => ⟨S512x24x128, .bf16⟩
  | 16 => ⟨S768, .i32⟩
  | 17 => ⟨S768x1, .i32⟩
  | 18 => ⟨S1x768, .i32⟩
  | 19 => ⟨S768x768, .i32⟩
  | 20 => ⟨S768x768, .i32⟩
  | 21 => ⟨S768x768, .i32⟩
  | 22 => ⟨S_, .i32⟩
  | 23 => ⟨S768x768, .i32⟩
  | 24 => ⟨S768x768, .i32⟩
  | 25 => ⟨S_, .i32⟩
  | 26 => ⟨S_, .i32⟩
  | 27 => ⟨S_, .i32⟩
  | 28 => ⟨S768x768, .i32⟩
  | 29 => ⟨S768x768, .i32⟩
  | 30 => ⟨S_, .i32⟩
  | 31 => ⟨S768x768, .i32⟩
  | 32 => ⟨S768x768, .i32⟩
  | 33 => ⟨S2x24x768, .f32⟩
  | 34 => ⟨S2x24x768, .f32⟩
  | 35 => ⟨S2x24x768, .f32⟩
  | 36 => ⟨S2x24x768x768, .f32⟩
  | 37 => ⟨S2x24x768x1, .f32⟩
  | 38 => ⟨S2x24x768x768, .f32⟩
  | 39 => ⟨S2x24x768x768, .f32⟩
  | 40 => ⟨S2x24x1x768, .f32⟩
  | 41 => ⟨S2x24x768x768, .f32⟩
  | 42 => ⟨S2x24x768x768, .f32⟩
  | 43 => ⟨S24x512x2x768, .f32⟩
  | 44 => ⟨S2x24x768x512, .f32⟩
  | 45 => ⟨S1x1x768x768, .i32⟩
  | 46 => ⟨S_, .i32⟩
  | 47 => ⟨S1x1x768x768, .i32⟩
  | 48 => ⟨S1x1x768x768, .i1⟩
  | 49 => ⟨S_, .i32⟩
  | 50 => ⟨S1x1x768x768, .i32⟩
  | 51 => ⟨S1x1x768x768, .i32⟩
  | 52 => ⟨S1x1x768x768, .i32⟩
  | 53 => ⟨S768x768x1, .i32⟩
  | 54 => ⟨S1, .i32⟩
  | 55 => ⟨S_, .i32⟩
  | 56 => ⟨S768x768x1, .i32⟩
  | 57 => ⟨S768x768x1, .i1⟩
  | 58 => ⟨S1x1x1, .i32⟩
  | 59 => ⟨S768x768x1, .i32⟩
  | 60 => ⟨S768x768x1, .i1⟩
  | 61 => ⟨S768x768x1, .i1⟩
  | 62 => ⟨S_, .i1⟩
  | 63 => ⟨S768x768, .i1⟩
  | 64 => ⟨S2x24x768x768, .f32⟩
  | 65 => ⟨S2x24x768x768, .i1⟩
  | 66 => ⟨S_, .f32⟩
  | 67 => ⟨S2x24x768x768, .f32⟩
  | 68 => ⟨S2x24x768x768, .f32⟩
  | 69 => ⟨S2x24x768x1, .f32⟩
  | 70 => ⟨S2x24x768x768, .f32⟩
  | 71 => ⟨S2x24x768x768, .f32⟩
  | 72 => ⟨S24x512, .f32⟩
  | 73 => ⟨S_, .i32⟩
  | 74 => ⟨S768x768, .i32⟩
  | 75 => ⟨S768x768, .i1⟩
  | 76 => ⟨S_, .i32⟩
  | 77 => ⟨S768x768, .i32⟩
  | 78 => ⟨S768x768, .i32⟩
  | 79 => ⟨S768x768, .i32⟩
  | 80 => ⟨S768x768x1, .i32⟩
  | 81 => ⟨S24x768x768, .f32⟩
  | 82 => ⟨S1x24x768x768, .f32⟩
  | 83 => ⟨S2x24x768x768, .f32⟩
  | 84 => ⟨S2x24x768x768, .f32⟩
  | 85 => ⟨S24x512x2x768, .f32⟩
  | 86 => ⟨S2x24x768x512, .f32⟩
  | 87 => ⟨S1x1x768x768, .i32⟩
  | 88 => ⟨S_, .i32⟩
  | 89 => ⟨S1x1x768x768, .i32⟩
  | 90 => ⟨S1x1x768x768, .i1⟩
  | 91 => ⟨S_, .i32⟩
  | 92 => ⟨S1x1x768x768, .i32⟩
  | 93 => ⟨S1x1x768x768, .i32⟩
  | 94 => ⟨S1x1x768x768, .i32⟩
  | 95 => ⟨S768x768x1, .i32⟩
  | 96 => ⟨S1, .i32⟩
  | 97 => ⟨S_, .i32⟩
  | 98 => ⟨S768x768x1, .i32⟩
  | 99 => ⟨S768x768x1, .i1⟩
  | 100 => ⟨S1x1x1, .i32⟩
  | 101 => ⟨S768x768x1, .i32⟩
  | 102 => ⟨S768x768x1, .i1⟩
  | 103 => ⟨S768x768x1, .i1⟩
  | 104 => ⟨S_, .i1⟩
  | 105 => ⟨S768x768, .i1⟩
  | 106 => ⟨S2x24x768x768, .f32⟩
  | 107 => ⟨S2x24x768x768, .i1⟩
  | 108 => ⟨S_, .f32⟩
  | 109 => ⟨S2x24x768x768, .f32⟩
  | 110 => ⟨S2x24x768x768, .f32⟩
  | 111 => ⟨S2x24x768x1, .f32⟩
  | 112 => ⟨S2x24x768x768, .f32⟩
  | 113 => ⟨S2x24x768x768, .f32⟩
  | 114 => ⟨S24x512, .f32⟩
  | 115 => ⟨S_, .i32⟩
  | 116 => ⟨S768x768, .i32⟩
  | 117 => ⟨S768x768, .i1⟩
  | 118 => ⟨S_, .i32⟩
  | 119 => ⟨S768x768, .i32⟩
  | 120 => ⟨S768x768, .i32⟩
  | 121 => ⟨S768x768, .i32⟩
  | 122 => ⟨S768x768x1, .i32⟩
  | 123 => ⟨S24x768x768, .f32⟩
  | 124 => ⟨S1x24x768x768, .f32⟩
  | 125 => ⟨S2x24x768x768, .f32⟩
  | 126 => ⟨S2x24x768x768, .f32⟩
  | 127 => ⟨S2x24x768x768, .f32⟩
  | _ => ⟨S2x768x24x128, .fp8e4m3⟩

abbrev hbmTy0_1 (i : Nat) : BufTy := match i % 128 with
  | 0 => ⟨S2x24x768x768, .f32⟩
  | 1 => ⟨S2x24x768x768, .f32⟩
  | 2 => ⟨S_, .f32⟩
  | 3 => ⟨S_, .f32⟩
  | 4 => ⟨S2x24x768x768, .f32⟩
  | 5 => ⟨S2x24x768x768, .f32⟩
  | 6 => ⟨S2x1x768x1, .i32⟩
  | 7 => ⟨S2x1x1x768, .i32⟩
  | 8 => ⟨S2x1x768x768, .i32⟩
  | 9 => ⟨S2x1x768x768, .i32⟩
  | 10 => ⟨S2x1x768x768, .i1⟩
  | 11 => ⟨S_, .f32⟩
  | 12 => ⟨S_, .f32⟩
  | 13 => ⟨S2x24x768x768, .i1⟩
  | 14 => ⟨S2x24x768x768, .f32⟩
  | 15 => ⟨S2x24x768x768, .f32⟩
  | 16 => ⟨S_, .f32⟩
  | 17 => ⟨S2x24x768, .f32⟩
  | 18 => ⟨S2x24x768x1, .f32⟩
  | 19 => ⟨S2x24x768x768, .f32⟩
  | 20 => ⟨S2x24x768x768, .f32⟩
  | 21 => ⟨S2x24x768x768, .f32⟩
  | 22 => ⟨S_, .f32⟩
  | 23 => ⟨S2x24x768, .f32⟩
  | 24 => ⟨S2x24x768x1, .f32⟩
  | 25 => ⟨S_, .f32⟩
  | 26 => ⟨S2x24x768x1, .f32⟩
  | 27 => ⟨S2x24x768x1, .f32⟩
  | 28 => ⟨S2x24x768x768, .f32⟩
  | 29 => ⟨S2x24x768x768, .f32⟩
  | 30 => ⟨S2x24x1x768, .f32⟩
  | 31 => ⟨S2x24x768x768, .f32⟩
  | 32 => ⟨S2x24x768x768, .f32⟩
  | 33 => ⟨S2x24x768x768, .bf16⟩
  | 34 => ⟨S2x24x128x768, .f32⟩
  | 35 => ⟨S2x768x24x128, .f32⟩
  | 36 => ⟨S2x768x3072, .f32⟩
  | 37 => ⟨S2x768x3072, .bf16⟩
  | _ => ⟨S2x768x24x128, .fp8e4m3⟩

abbrev hbmTy (i : Nat) : BufTy := match i / 128 with
  | 0 => hbmTy0_0 i
  | 1 => hbmTy0_1 i
  | _ => ⟨S2x768x24x128, .fp8e4m3⟩

abbrev bufTy : (tb : Table) → Fin (tcTables nBuf tb) → BufTy
  | .hbm, ⟨i, _⟩ => hbmTy i
  | .local _ .vmem, ⟨0, _⟩ => ⟨S2x768x24x128, .fp8e4m3⟩
  | .local _ .vmem, ⟨1, _⟩ => ⟨S2x768x24x128, .fp8e4m3⟩
  | .local _ .vmem, ⟨2, _⟩ => ⟨S2x768x24x128, .fp8e4m3⟩
  | .local _ .vmem, ⟨3, _⟩ => ⟨S512x24x128, .fp8e4m3⟩
  | .local _ .vmem, ⟨4, _⟩ => ⟨S512x24x128, .fp8e4m3⟩
  | .local _ .vmem, ⟨5, _⟩ => ⟨S2x768x24x128, .bf16⟩
  | .local _ .vmem, ⟨6, _⟩ => ⟨S2x768x24x128, .bf16⟩
  | .local _ .vmem, ⟨7, _⟩ => ⟨S2x768x24x128, .bf16⟩
  | .local _ .vmem, ⟨8, _⟩ => ⟨S512x24x128, .bf16⟩
  | .local _ .vmem, ⟨9, _⟩ => ⟨S512x24x128, .bf16⟩
  | _, _ => ⟨S2x768x24x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_c_2 : Ref sig .tc := ⟨.hbm, 73, rfl⟩
abbrev main_v28 : Ref sig .tc := ⟨.hbm, 74, rfl⟩
abbrev main_v29 : Ref sig .tc := ⟨.hbm, 75, rfl⟩
abbrev main_c_3 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_call2_c : Ref sig .tc := ⟨.hbm, 88, rfl⟩
abbrev main_call2_v0 : Ref sig .tc := ⟨.hbm, 89, rfl⟩
abbrev main_call2_v1 : Ref sig .tc := ⟨.hbm, 90, rfl⟩
abbrev main_call2_c_0 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_v5 : Ref sig .tc := ⟨.hbm, 95, rfl⟩
abbrev main_call2_c_1 : Ref sig .tc := ⟨.hbm, 96, rfl⟩
abbrev main_call2_c_2 : Ref sig .tc := ⟨.hbm, 97, rfl⟩
abbrev main_call2_v6 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_call2_v11 : Ref sig .tc := ⟨.hbm, 103, rfl⟩
abbrev main_call2_c_3 : Ref sig .tc := ⟨.hbm, 104, rfl⟩
abbrev main_call2_v12 : Ref sig .tc := ⟨.hbm, 105, rfl⟩
abbrev main_call2_v13 : Ref sig .tc := ⟨.hbm, 106, rfl⟩
abbrev main_call2_v14 : Ref sig .tc := ⟨.hbm, 107, rfl⟩
abbrev main_call2_cst : Ref sig .tc := ⟨.hbm, 108, rfl⟩
abbrev main_call2_v15 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_c_4 : Ref sig .tc := ⟨.hbm, 115, rfl⟩
abbrev main_v46 : Ref sig .tc := ⟨.hbm, 116, rfl⟩
abbrev main_v47 : Ref sig .tc := ⟨.hbm, 117, rfl⟩
abbrev main_c_5 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst : Ref sig .tc := ⟨.hbm, 130, rfl⟩
abbrev main_v59 : Ref sig .tc := ⟨.hbm, 131, rfl⟩
abbrev main_v60 : Ref sig .tc := ⟨.hbm, 132, rfl⟩
abbrev main_v61 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_cst_6 : Ref sig .tc := ⟨.hbm, 139, rfl⟩
abbrev main_call3_v0 : Ref sig .tc := ⟨.hbm, 140, rfl⟩
abbrev main_call3_v1 : Ref sig .tc := ⟨.hbm, 141, rfl⟩
abbrev main_call3_v2 : Ref sig .tc := ⟨.hbm, 142, rfl⟩
abbrev main_v67 : Ref sig .tc := ⟨.hbm, 143, rfl⟩
abbrev main_cst_7 : Ref sig .tc := ⟨.hbm, 144, rfl⟩
abbrev main_v68 : Ref sig .tc := ⟨.hbm, 145, rfl⟩
abbrev main_v69 : Ref sig .tc := ⟨.hbm, 146, rfl⟩
abbrev main_v70 : Ref sig .tc := ⟨.hbm, 147, rfl⟩
abbrev main_v71 : Ref sig .tc := ⟨.hbm, 148, rfl⟩
abbrev main_v72 : Ref sig .tc := ⟨.hbm, 149, rfl⟩
abbrev main_cst_8 : Ref sig .tc := ⟨.hbm, 150, rfl⟩
abbrev main_v73 : Ref sig .tc := ⟨.hbm, 151, rfl⟩
abbrev main_v74 : Ref sig .tc := ⟨.hbm, 152, rfl⟩
abbrev main_cst_9 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev main_v83 : Ref sig .tc := ⟨.hbm, 162, rfl⟩
abbrev main_v84 : Ref sig .tc := ⟨.hbm, 163, rfl⟩
abbrev main_v85 : Ref sig .tc := ⟨.hbm, 164, rfl⟩
abbrev main_v86 : Ref sig .tc := ⟨.hbm, 165, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S2x768x24x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x768x24x128 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x768x24x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x24x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x24x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x768x24x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x768x24x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x768x24x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x24x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x24x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Trip.lean ====
module

public import proofs.«01_k».proof.Proof.Gen.KernelIdeal.Loops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

/-- What a trip of the head loop holds: the buffers it only reads at their contents, the five scratch buffers it fills
   before reading at anything, the output block at `f`. -/
abbrev Trip (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty)
    (f : BufTy.Contents (Elt F) arg13.view.ty) : sProp 𝕄G :=
  iprop((arg5.view.loc (c : Thread nD τ) ↦[arg5.view.set]{fullShare} X5) ∗ (arg7.view.loc (c : Thread nD τ) ↦[arg7.view.set]{fullShare} X7) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗
    (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗
    (arg13.view.loc (c : Thread nD τ) ↦[arg13.view.set]{fullShare} f))

/-- One trip of the head loop, with the pieces it stores into the output block. -/
@[irreducible] def trip (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (k : Fin k0_t3_loop.trips) :
    { L : List (View.Piece (Elt F) S1x768x1024 .bf16) // ∀ (E : Set ℕ) (f : BufTy.Contents (Elt F) arg13.view.ty),
      Trip (F := F) c arg5 arg7 arg13 arg14 arg15 arg16 arg17 arg18 arg19 arg20 arg21 arg22 arg23 arg24 arg25 arg26 arg27 X5 X7 X14 X15 X16 X17 X18 X19 X20 X21 X22 f
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k PUnit.unit)
          (fun _ => Trip (F := F) c arg5 arg7 arg13 arg14 arg15 arg16 arg17 arg18 arg19 arg20 arg21 arg22 arg23 arg24 arg25 arg26 arg27 X5 X7 X14 X15 X16 X17 X18 X19 X20 X21 X22 (arg13.view.writes (Elt F) f L)) } := by
  have hk : k.val < 8 := Nat.lt_of_lt_of_le k.isLt k0_t3_abs.2.1
  refine ⟨?_, fun E f => ?run⟩
  case run =>
    unfold k0_t3_body
    iintro ⟨H5, H7, H14, H15, H16, H17, H18, H19, H20, H21, H22, ⟨%f23, H23⟩, ⟨%f24, H24⟩, ⟨%f25, H25⟩, ⟨%f26, H26⟩, ⟨%f27, H27⟩, H13⟩
    sl_exec_parts
    sl_step
    sl_close

end Cert.KernelIdeal.Hand
-- ==== Proof.Body.lean ====
module

public import proofs.«01_k».proof.Proof.Trip
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The resource algebra of the generated instances: the frame kit's (Gen/<Name>/Frame.lean). -/
local notation "𝕄G" => MT nD τ sig Unit (Elt F) ℕ (UR sig nD τ) ℕ

variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

/-- Trip `k`'s pieces of the output block in front of `prev`; past the last trip, `prev`. -/
@[irreducible] def pbStep (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (k : ℕ)
    (prev : List (View.Piece (Elt F) S1x768x1024 .bf16)) : List (View.Piece (Elt F) S1x768x1024 .bf16) :=
  if h : k < k0_t3_loop.trips then
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 ⟨k, h⟩).1 ++ prev
  else prev

/-- The pieces of the trips before `k`, last first. -/
def pb (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) : ℕ → List (View.Piece (Elt F) S1x768x1024 .bf16)
  | 0 => []
  | k + 1 => pbStep 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k (pb X5 X7 X14 X15 X16 X17 X18 X19 X20 X21 X22 k)

theorem pb_succ (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (k : Fin k0_t3_loop.trips) :
    pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 (k.val + 1)
      = (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k).1 ++ pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k.val := by
  rw [pb.eq_2]; unfold pbStep; exact dif_pos k.isLt

/-- What holds before trip `k`: the read buffers at their contents, the working scratch at anything, the output block
   holding the pieces of the trips before `k` over the contents `G` at loop entry. -/
abbrev inv (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (G : BufTy.Contents (Elt F) arg13.view.ty) (k : ℕ) (_ : Unit) : sProp 𝕄G :=
  iprop((arg5.view.loc (c : Thread nD τ) ↦[arg5.view.set]{fullShare} X5) ∗ (arg7.view.loc (c : Thread nD τ) ↦[arg7.view.set]{fullShare} X7) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗
    (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗
    (∃ f, (arg13.view.loc (c : Thread nD τ) ↦[arg13.view.set]{fullShare} f) ∗ ⌜f = arg13.view.writes (Elt F) G (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k)⌝))

set_option warn.classDefReducibility false in
/-- The head loop by its invariant. -/
@[sl_loop] def loopInv_head (E : Set ℕ) (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (G : BufTy.Contents (Elt F) arg13.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 G
  step k acc := by
    iintro ⟨H5, H7, H14, H15, H16, H17, H18, H19, H20, H21, H22, ⟨%f23, H23⟩, ⟨%f24, H24⟩, ⟨%f25, H25⟩, ⟨%f26, H26⟩, ⟨%f27, H27⟩, ⟨%f13, H13, %h13⟩⟩
    iapply (wp_wand_r Idealize.ShloMosaic.frame (wpE (defs₀ (F := F)) 𝒱 (c : Thread nD τ) bd) E)
    isplitl [H5 H7 H14 H15 H16 H17 H18 H19 H20 H21 H22 H23 H24 H25 H26 H27 H13]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k).2 E f13)
      isplitl [H5]; · iexact H5
      isplitl [H7]; · iexact H7
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [H25]; · iexists _; iexact H25
      isplitl [H26]; · iexists _; iexact H26
      isplitl [H27]; · iexists _; iexact H27
      iexact H13
    · iintro %_ ⟨H5, H7, H14, H15, H16, H17, H18, H19, H20, H21, H22, H23, H24, H25, H26, H27, H13⟩
      isplitl [H5]; · iexact H5
      isplitl [H7]; · iexact H7
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      rw [pb_succ]
      iexists _; isplitl [H13]; · iexact H13
      ipureintro; rw [h13, ← View.writes_append]

set_option warn.classDefReducibility false in
/-- The loop over the second relative table's rows. Its region does not read the value it is stated over. -/
@[sl_loop] noncomputable def loopInv_second (E : Set ℕ) (hc : k0_cond1 i = 1#1) (X_arg9 : BufTy.Contents (Elt F) arg9.view.ty) (G_arg18 : BufTy.Contents (Elt F) arg18.view.ty) :=
  loopInv_k0_t2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => Scalar.ofBits .f32 0#32) X_arg9 G_arg18

/-- The body at a point of the first batch: it fills the relative tables first. -/
@[irreducible] def bodyA (hc : k0_cond1 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)
    (f17 : BufTy.Contents (Elt F) arg17.view.ty) (f18 : BufTy.Contents (Elt F) arg18.view.ty) (f19 : BufTy.Contents (Elt F) arg19.view.ty) (f20 : BufTy.Contents (Elt F) arg20.view.ty) (f14 : BufTy.Contents (Elt F) arg14.view.ty) (f15 : BufTy.Contents (Elt F) arg15.view.ty) (f16 : BufTy.Contents (Elt F) arg16.view.ty) (f21 : BufTy.Contents (Elt F) arg21.view.ty) (f22 : BufTy.Contents (Elt F) arg22.view.ty) :
    ((L13 : List (View.Piece (Elt F) S1x768x1024 .bf16)) ×' (C17 : BufTy.Contents (Elt F) arg17.view.ty) ×' (C18 : BufTy.Contents (Elt F) arg18.view.ty) ×' (C19 : BufTy.Contents (Elt F) arg19.view.ty) ×' (C20 : BufTy.Contents (Elt F) arg20.view.ty) ×' ∀ (E : Set ℕ) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg21.view.loc (c : Thread nD τ) ↦[arg21.view.set]{fullShare} f21) ∗ (arg22.view.loc (c : Thread nD τ) ↦[arg22.view.set]{fullShare} f22) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (arg13.view.loc (c : Thread nD τ) ↦[arg13.view.set]{fullShare} f13)) : sProp 𝕄G)
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (arg13.view.loc (c : Thread nD τ) ↦[arg13.view.set]{fullShare} (arg13.view.writes (Elt F) f13 L13))))) := by
  refine ⟨?_, ?_, ?_, ?_, ?_, fun E f13 => ?run⟩
  case run =>
    iintro ⟨H2, H3, H4, H5, H6, H7, H8, H9, H10, H11, H12, H17, H18, H19, H20, H14, H15, H16, H21, H22, ⟨%f23, H23⟩, ⟨%f24, H24⟩, ⟨%f25, H25⟩, ⟨%f26, H26⟩, ⟨%f27, H27⟩, H13⟩
    sl_unfold [cc0__body]
    sl_exec_parts (disch := sl_exact hc)
    sl_step
    sl_close

/-- The body at a point of a later batch, the relative tables as carried. -/
@[irreducible] def bodyB (hc : ¬ k0_cond1 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)
    (X17 : BufTy.Contents (Elt F) arg17.view.ty) (X18 : BufTy.Contents (Elt F) arg18.view.ty) (X19 : BufTy.Contents (Elt F) arg19.view.ty) (X20 : BufTy.Contents (Elt F) arg20.view.ty) (f14 : BufTy.Contents (Elt F) arg14.view.ty) (f15 : BufTy.Contents (Elt F) arg15.view.ty) (f16 : BufTy.Contents (Elt F) arg16.view.ty) (f21 : BufTy.Contents (Elt F) arg21.view.ty) (f22 : BufTy.Contents (Elt F) arg22.view.ty) :
    ((L13 : List (View.Piece (Elt F) S1x768x1024 .bf16)) ×' ∀ (E : Set ℕ) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg21.view.loc (c : Thread nD τ) ↦[arg21.view.set]{fullShare} f21) ∗ (arg22.view.loc (c : Thread nD τ) ↦[arg22.view.set]{fullShare} f22) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (arg13.view.loc (c : Thread nD τ) ↦[arg13.view.set]{fullShare} f13)) : sProp 𝕄G)
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (arg13.view.loc (c : Thread nD τ) ↦[arg13.view.set]{fullShare} (arg13.view.writes (Elt F) f13 L13))))) := by
  refine ⟨?_, fun E f13 => ?run⟩
  case run =>
    iintro ⟨H2, H3, H4, H5, H6, H7, H8, H9, H10, H11, H12, H17, H18, H19, H20, H14, H15, H16, H21, H22, ⟨%f23, H23⟩, ⟨%f24, H24⟩, ⟨%f25, H25⟩, ⟨%f26, H26⟩, ⟨%f27, H27⟩, H13⟩
    sl_unfold [cc0__body]
    sl_exec_parts (disch := sl_exact hc)
    sl_step
    sl_close

end Cert.KernelIdeal.Hand
-- ==== Proof.Run.lean ====
module

public import proofs.«01_k».proof.Proof.Body
public import proofs.«01_k».proof.Proof.Gen.KernelIdeal.Frame
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F] [Named F]

/-- The resource algebra of the generated instances: the frame kit's (Gen/<Name>/Frame.lean). -/
local notation "𝕄G" => MT nD τ sig Unit (Elt F) ℕ (UR sig nD τ) ℕ

section
variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

/-- The body at any point: the inputs are left as they were, every other buffer is left at something. -/
theorem body_run (d2 : S1x768x8x128.Idx → Elt F .fp8e4m3) (d3 : S1x768x8x128.Idx → Elt F .fp8e4m3) (d4 : S1x768x8x128.Idx → Elt F .fp8e4m3) (d5 : S1x8x768.Idx → Elt F .f32) (d6 : S1x8x768.Idx → Elt F .f32) (d7 : S1x8x768.Idx → Elt F .f32) (d8 : S512x8x128.Idx → Elt F .fp8e4m3) (d9 : S512x8x128.Idx → Elt F .fp8e4m3) (d10 : S8x512.Idx → Elt F .f32) (d11 : S8x512.Idx → Elt F .f32) (d12 : S1x1x768.Idx → Elt F .i32) (E : Set ℕ) :
    (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) : sProp 𝕄G)
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d))) := by
  unfold owns
  iintro ⟨⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩⟩
  by_cases hc : k0_cond1 i = 1#1
  · iapply (wp_wand_r Idealize.ShloMosaic.frame (wpE (defs₀ (F := F)) 𝒱 (c : Thread nD τ) bd) E)
    isplitl [H2 H3 H4 H5 H6 H7 H8 H9 H10 H11 H12 H13 H14 H15 H16 H17 H18 H19 H20 H21 H22 H23 H24 H25 H26 H27]
    · iapply ((bodyA (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2.2.2.2.2 E f13)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H17]; · iexact H17
      isplitl [H18]; · iexact H18
      isplitl [H19]; · iexact H19
      isplitl [H20]; · iexact H20
      isplitl [H14]; · iexact H14
      isplitl [H15]; · iexact H15
      isplitl [H16]; · iexact H16
      isplitl [H21]; · iexact H21
      isplitl [H22]; · iexact H22
      isplitl [H23]; · iexists _; iexact H23
      isplitl [H24]; · iexists _; iexact H24
      isplitl [H25]; · iexists _; iexact H25
      isplitl [H26]; · iexists _; iexact H26
      isplitl [H27]; · iexists _; iexact H27
      iexact H13
    · iintro %_ ⟨H2, H3, H4, H5, H6, H7, H8, H9, H10, H11, H12, H17, H18, H19, H20, ⟨%g14, H14⟩, ⟨%g15, H15⟩, ⟨%g16, H16⟩, ⟨%g21, H21⟩, ⟨%g22, H22⟩, ⟨%g23, H23⟩, ⟨%g24, H24⟩, ⟨%g25, H25⟩, ⟨%g26, H26⟩, ⟨%g27, H27⟩, H13⟩
      isplitl [H2]; · iexists X2; isplitr; swap; (· iexact H2); ipureintro; exact e2
      isplitl [H3]; · iexists X3; isplitr; swap; (· iexact H3); ipureintro; exact e3
      isplitl [H4]; · iexists X4; isplitr; swap; (· iexact H4); ipureintro; exact e4
      isplitl [H5]; · iexists X5; isplitr; swap; (· iexact H5); ipureintro; exact e5
      isplitl [H6]; · iexists X6; isplitr; swap; (· iexact H6); ipureintro; exact e6
      isplitl [H7]; · iexists X7; isplitr; swap; (· iexact H7); ipureintro; exact e7
      isplitl [H8]; · iexists X8; isplitr; swap; (· iexact H8); ipureintro; exact e8
      isplitl [H9]; · iexists X9; isplitr; swap; (· iexact H9); ipureintro; exact e9
      isplitl [H10]; · iexists X10; isplitr; swap; (· iexact H10); ipureintro; exact e10
      isplitl [H11]; · iexists X11; isplitr; swap; (· iexact H11); ipureintro; exact e11
      isplitl [H12]; · iexists X12; isplitr; swap; (· iexact H12); ipureintro; exact e12
      isplitl [H13]; · iexists _; iexists _; isplitr; swap; (· iexact H13); ipureintro; rfl
      isplitl [H14]; · iexists _; iexists _; isplitr; swap; (· iexact H14); ipureintro; rfl
      isplitl [H15]; · iexists _; iexists _; isplitr; swap; (· iexact H15); ipureintro; rfl
      isplitl [H16]; · iexists _; iexists _; isplitr; swap; (· iexact H16); ipureintro; rfl
      isplitl [H17]; · iexists _; iexists _; isplitr; swap; (· iexact H17); ipureintro; rfl
      isplitl [H18]; · iexists _; iexists _; isplitr; swap; (· iexact H18); ipureintro; rfl
      isplitl [H19]; · iexists _; iexists _; isplitr; swap; (· iexact H19); ipureintro; rfl
      isplitl [H20]; · iexists _; iexists _; isplitr; swap; (· iexact H20); ipureintro; rfl
      isplitl [H21]; · iexists _; iexists _; isplitr; swap; (· iexact H21); ipureintro; rfl
      isplitl [H22]; · iexists _; iexists _; isplitr; swap; (· iexact H22); ipureintro; rfl
      isplitl [H23]; · iexists _; iexists _; isplitr; swap; (· iexact H23); ipureintro; rfl
      isplitl [H24]; · iexists _; iexists _; isplitr; swap; (· iexact H24); ipureintro; rfl
      isplitl [H25]; · iexists _; iexists _; isplitr; swap; (· iexact H25); ipureintro; rfl
      isplitl [H26]; · iexists _; iexists _; isplitr; swap; (· iexact H26); ipureintro; rfl
      iexists _; iexists _; isplitr; swap; (· iexact H27); ipureintro; rfl
  · iapply (wp_wand_r Idealize.ShloMosaic.frame (wpE (defs₀ (F := F)) 𝒱 (c : Thread nD τ) bd) E)
    isplitl [H2 H3 H4 H5 H6 H7 H8 H9 H10 H11 H12 H13 H14 H15 H16 H17 H18 H19 H20 H21 H22 H23 H24 H25 H26 H27]
    · iapply ((bodyB (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2 E f13)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H17]; · iexact H17
      isplitl [H18]; · iexact H18
      isplitl [H19]; · iexact H19
      isplitl [H20]; · iexact H20
      isplitl [H14]; · iexact H14
      isplitl [H15]; · iexact H15
      isplitl [H16]; · iexact H16
      isplitl [H21]; · iexact H21
      isplitl [H22]; · iexact H22
      isplitl [H23]; · iexists _; iexact H23
      isplitl [H24]; · iexists _; iexact H24
      isplitl [H25]; · iexists _; iexact H25
      isplitl [H26]; · iexists _; iexact H26
      isplitl [H27]; · iexists _; iexact H27
      iexact H13
    · iintro %_ ⟨H2, H3, H4, H5, H6, H7, H8, H9, H10, H11, H12, H17, H18, H19, H20, ⟨%g14, H14⟩, ⟨%g15, H15⟩, ⟨%g16, H16⟩, ⟨%g21, H21⟩, ⟨%g22, H22⟩, ⟨%g23, H23⟩, ⟨%g24, H24⟩, ⟨%g25, H25⟩, ⟨%g26, H26⟩, ⟨%g27, H27⟩, H13⟩
      isplitl [H2]; · iexists X2; isplitr; swap; (· iexact H2); ipureintro; exact e2
      isplitl [H3]; · iexists X3; isplitr; swap; (· iexact H3); ipureintro; exact e3
      isplitl [H4]; · iexists X4; isplitr; swap; (· iexact H4); ipureintro; exact e4
      isplitl [H5]; · iexists X5; isplitr; swap; (· iexact H5); ipureintro; exact e5
      isplitl [H6]; · iexists X6; isplitr; swap; (· iexact H6); ipureintro; exact e6
      isplitl [H7]; · iexists X7; isplitr; swap; (· iexact H7); ipureintro; exact e7
      isplitl [H8]; · iexists X8; isplitr; swap; (· iexact H8); ipureintro; exact e8
      isplitl [H9]; · iexists X9; isplitr; swap; (· iexact H9); ipureintro; exact e9
      isplitl [H10]; · iexists X10; isplitr; swap; (· iexact H10); ipureintro; exact e10
      isplitl [H11]; · iexists X11; isplitr; swap; (· iexact H11); ipureintro; exact e11
      isplitl [H12]; · iexists X12; isplitr; swap; (· iexact H12); ipureintro; exact e12
      isplitl [H13]; · iexists _; iexists _; isplitr; swap; (· iexact H13); ipureintro; rfl
      isplitl [H14]; · iexists _; iexists _; isplitr; swap; (· iexact H14); ipureintro; rfl
      isplitl [H15]; · iexists _; iexists _; isplitr; swap; (· iexact H15); ipureintro; rfl
      isplitl [H16]; · iexists _; iexists _; isplitr; swap; (· iexact H16); ipureintro; rfl
      isplitl [H17]; · iexists _; iexists _; isplitr; swap; (· iexact H17); ipureintro; rfl
      isplitl [H18]; · iexists _; iexists _; isplitr; swap; (· iexact H18); ipureintro; rfl
      isplitl [H19]; · iexists _; iexists _; isplitr; swap; (· iexact H19); ipureintro; rfl
      isplitl [H20]; · iexists _; iexists _; isplitr; swap; (· iexact H20); ipureintro; rfl
      isplitl [H21]; · iexists _; iexists _; isplitr; swap; (· iexact H21); ipureintro; rfl
      isplitl [H22]; · iexists _; iexists _; isplitr; swap; (· iexact H22); ipureintro; rfl
      isplitl [H23]; · iexists _; iexists _; isplitr; swap; (· iexact H23); ipureintro; rfl
      isplitl [H24]; · iexists _; iexists _; isplitr; swap; (· iexact H24); ipureintro; rfl
      isplitl [H25]; · iexists _; iexists _; isplitr; swap; (· iexact H25); ipureintro; rfl
      isplitl [H26]; · iexists _; iexists _; isplitr; swap; (· iexact H26); ipureintro; rfl
      iexists _; iexists _; isplitr; swap; (· iexact H27); ipureintro; rfl
end

variable (m : (ℓ : Loc nD τ sig) → Buf (Elt F) ℓ) (ρ : Dev nD → PrngReg)

/-- The output window is the one whose contents this run says nothing of. -/
def forgets : Fin 12 → Bool := fun w => w == 11

/-- The proof data: each input's block left in place, the output unnamed, the scratch at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Pipeline.Dat.unnamed (cfg := cfg0) 11 t
    | ⟨n + 12, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- The scratch and the generator register, conjunct by conjunct. -/
theorem PhiA_eq (c : Dev nD) : (Pipeline.ΦA spec0 c : sProp 𝕄G)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d)) ∗ (∃ r, prngReg c r)) := by
  unfold Pipeline.ΦA
  rw [scopedRest0_eq]; simp only [owns_whole]; try rfl

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d))
    ∗ (∃ d, owns (c : Thread nD τ) (st0_11 t) fullShare d))
/-- What it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t)
    ∗ (∃ d, owns (c : Thread nD τ) (st0_11 t) fullShare d))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  simp only [before0_6_of m (dats m 0 c) (A_eq m c 6) (fun _ => rfl) t]
  simp only [before0_7_of m (dats m 0 c) (A_eq m c 7) (fun _ => rfl) t]
  simp only [before0_8_of m (dats m 0 c) (A_eq m c 8) (fun _ => rfl) t]
  simp only [before0_9_of m (dats m 0 c) (A_eq m c 9) (fun _ => rfl) t]
  simp only [before0_10_of m (dats m 0 c) (A_eq m c 10) (fun _ => rfl) t]
  iintro ⟨⟨⟨H14, H15, H16, H17, H18, H19, H20, H21, H22, H23, H24, H25, H26, H27⟩, HR⟩, HO, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19 H20 H21 H22 H23 H24 H25 H26 H27]
  · iapply (body_run (F := F) Variants.none c none (grid0.coords t) (win0_0.stage (cfg0.slots t 0)) (hstage0_0 _) (win0_1.stage (cfg0.slots t 1)) (hstage0_1 _) (win0_2.stage (cfg0.slots t 2)) (hstage0_2 _) (win0_3.stage (cfg0.slots t 3)) (hstage0_3 _) (win0_4.stage (cfg0.slots t 4)) (hstage0_4 _) (win0_5.stage (cfg0.slots t 5)) (hstage0_5 _) (win0_6.stage (cfg0.slots t 6)) (hstage0_6 _) (win0_7.stage (cfg0.slots t 7)) (hstage0_7 _) (win0_8.stage (cfg0.slots t 8)) (hstage0_8 _) (win0_9.stage (cfg0.slots t 9)) (hstage0_9 _) (win0_10.stage (cfg0.slots t 10)) (hstage0_10 _) (win0_11.stage (cfg0.slots t 11)) (hstage0_11 _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  · iintro %_ ⟨H2, H3, H4, H5, H6, H7, H8, H9, H10, H11, H12, H13, H14, H15, H16, H17, H18, H19, H20, H21, H22, H23, H24, H25, H26, H27⟩
    isplitl [HR H14 H15 H16 H17 H18 H19 H20 H21 H22 H23 H24 H25 H26 H27]
    · isplitl [H14 H15 H16 H17 H18 H19 H20 H21 H22 H23 H24 H25 H26 H27]
      · isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        iexact H27
      iexact HR
    isplitl [HO]; · iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- Every execution terminates, every array but the output ends as the region found it, every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: terminating, the arguments unchanged, the counters at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main m ρ)

end Cert.KernelIdeal.Hand

end
-- ==== Proof.K.Trip.lean ====
module

public import proofs.«01_k».proof.Proof.Gen.Kernel.Loops
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

/-- What a trip of the head loop holds: the buffers it only reads at their contents, the five scratch buffers it fills
   before reading at anything, the output block at `f`. -/
abbrev Trip (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty)
    (f : BufTy.Contents (Elt F) arg13.view.ty) : sProp 𝕄G :=
  iprop((arg5.view.loc (c : Thread nD τ) ↦[arg5.view.set]{fullShare} X5) ∗ (arg7.view.loc (c : Thread nD τ) ↦[arg7.view.set]{fullShare} X7) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗
    (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗
    (arg13.view.loc (c : Thread nD τ) ↦[arg13.view.set]{fullShare} f))

/-- One trip of the head loop, with the pieces it stores into the output block. -/
@[irreducible] def trip (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (k : Fin k0_t3_loop.trips) :
    { L : List (View.Piece (Elt F) S1x768x1024 .bf16) // ∀ (E : Set ℕ) (f : BufTy.Contents (Elt F) arg13.view.ty),
      Trip (F := F) c arg5 arg7 arg13 arg14 arg15 arg16 arg17 arg18 arg19 arg20 arg21 arg22 arg23 arg24 arg25 arg26 arg27 X5 X7 X14 X15 X16 X17 X18 X19 X20 X21 X22 f
      ⊢ wp frame (wpE (defs₀ (F := F)) 𝒱 (c : Thread nD τ) bd) E (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k PUnit.unit)
          (fun _ => Trip (F := F) c arg5 arg7 arg13 arg14 arg15 arg16 arg17 arg18 arg19 arg20 arg21 arg22 arg23 arg24 arg25 arg26 arg27 X5 X7 X14 X15 X16 X17 X18 X19 X20 X21 X22 (arg13.view.writes (Elt F) f L)) } := by
  have hk : k.val < 8 := Nat.lt_of_lt_of_le k.isLt k0_t3_abs.2.1
  refine ⟨?_, fun E f => ?run⟩
  case run =>
    unfold k0_t3_body
    iintro ⟨H5, H7, H14, H15, H16, H17, H18, H19, H20, H21, H22, ⟨%f23, H23⟩, ⟨%f24, H24⟩, ⟨%f25, H25⟩, ⟨%f26, H26⟩, ⟨%f27, H27⟩, H13⟩
    sl_exec_parts
    sl_step
    sl_close

end Cert.Kernel.Hand
-- ==== Proof.K.Body.lean ====
module

public import proofs.«01_k».proof.Proof.K.Trip
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the generated instances: the frame kit's (Gen/<Name>/Frame.lean). -/
local notation "𝕄G" => MT nD τ sig Unit (Elt F) ℕ (UR sig nD τ) ℕ

variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

/-- Trip `k`'s pieces of the output block in front of `prev`; past the last trip, `prev`. -/
@[irreducible] def pbStep (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (k : ℕ)
    (prev : List (View.Piece (Elt F) S1x768x1024 .bf16)) : List (View.Piece (Elt F) S1x768x1024 .bf16) :=
  if h : k < k0_t3_loop.trips then
    (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 ⟨k, h⟩).1 ++ prev
  else prev

/-- The pieces of the trips before `k`, last first. -/
def pb (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) : ℕ → List (View.Piece (Elt F) S1x768x1024 .bf16)
  | 0 => []
  | k + 1 => pbStep 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k (pb X5 X7 X14 X15 X16 X17 X18 X19 X20 X21 X22 k)

theorem pb_succ (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (k : Fin k0_t3_loop.trips) :
    pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 (k.val + 1)
      = (trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k).1 ++ pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k.val := by
  rw [pb.eq_2]; unfold pbStep; exact dif_pos k.isLt

/-- What holds before trip `k`: the read buffers at their contents, the working scratch at anything, the output block
   holding the pieces of the trips before `k` over the contents `G` at loop entry. -/
abbrev inv (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (G : BufTy.Contents (Elt F) arg13.view.ty) (k : ℕ) (_ : Unit) : sProp 𝕄G :=
  iprop((arg5.view.loc (c : Thread nD τ) ↦[arg5.view.set]{fullShare} X5) ∗ (arg7.view.loc (c : Thread nD τ) ↦[arg7.view.set]{fullShare} X7) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗
    (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗
    (∃ f, (arg13.view.loc (c : Thread nD τ) ↦[arg13.view.set]{fullShare} f) ∗ ⌜f = arg13.view.writes (Elt F) G (pb (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k)⌝))

set_option warn.classDefReducibility false in
/-- The head loop by its invariant. -/
@[sl_loop] def loopInv_head (E : Set ℕ) (X5 : BufTy.Contents (Elt F) arg5.view.ty) (X7 : BufTy.Contents (Elt F) arg7.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (G : BufTy.Contents (Elt F) arg13.view.ty) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 where
  inv := inv (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 G
  step k acc := by
    iintro ⟨H5, H7, H14, H15, H16, H17, H18, H19, H20, H21, H22, ⟨%f23, H23⟩, ⟨%f24, H24⟩, ⟨%f25, H25⟩, ⟨%f26, H26⟩, ⟨%f27, H27⟩, ⟨%f13, H13, %h13⟩⟩
    iapply (wp_wand_r Idealize.ShloMosaic.frame (wpE (defs₀ (F := F)) 𝒱 (c : Thread nD τ) bd) E)
    isplitl [H5 H7 H14 H15 H16 H17 H18 H19 H20 H21 H22 H23 H24 H25 H26 H27 H13]
    · iapply ((trip (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k).2 E f13)
      isplitl [H5]; · iexact H5
      isplitl [H7]; · iexact H7
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexists _; iexact H23
      isplitl [H24]; · iexists _; iexact H24
      isplitl [H25]; · iexists _; iexact H25
      isplitl [H26]; · iexists _; iexact H26
      isplitl [H27]; · iexists _; iexact H27
      iexact H13
    · iintro %_ ⟨H5, H7, H14, H15, H16, H17, H18, H19, H20, H21, H22, H23, H24, H25, H26, H27, H13⟩
      isplitl [H5]; · iexact H5
      isplitl [H7]; · iexact H7
      isplitl [H14]; · iexact H14
      isplitl [H15]; · iexact H15
      isplitl [H16]; · iexact H16
      isplitl [H17]; · iexact H17
      isplitl [H18]; · iexact H18
      isplitl [H19]; · iexact H19
      isplitl [H20]; · iexact H20
      isplitl [H21]; · iexact H21
      isplitl [H22]; · iexact H22
      isplitl [H23]; · iexact H23
      isplitl [H24]; · iexact H24
      isplitl [H25]; · iexact H25
      isplitl [H26]; · iexact H26
      isplitl [H27]; · iexact H27
      rw [pb_succ]
      iexists _; isplitl [H13]; · iexact H13
      ipureintro; rw [h13, ← View.writes_append]

set_option warn.classDefReducibility false in
/-- The loop over the second relative table's rows. Its region does not read the value it is stated over. -/
@[sl_loop] noncomputable def loopInv_second (E : Set ℕ) (hc : k0_cond1 i = 1#1) (X_arg9 : BufTy.Contents (Elt F) arg9.view.ty) (G_arg18 : BufTy.Contents (Elt F) arg18.view.ty) :=
  loopInv_k0_t2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => Scalar.ofBits .f32 0#32) X_arg9 G_arg18

/-- The body at a point of the first batch: it fills the relative tables first. -/
@[irreducible] def bodyA (hc : k0_cond1 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)
    (f17 : BufTy.Contents (Elt F) arg17.view.ty) (f18 : BufTy.Contents (Elt F) arg18.view.ty) (f19 : BufTy.Contents (Elt F) arg19.view.ty) (f20 : BufTy.Contents (Elt F) arg20.view.ty) (f14 : BufTy.Contents (Elt F) arg14.view.ty) (f15 : BufTy.Contents (Elt F) arg15.view.ty) (f16 : BufTy.Contents (Elt F) arg16.view.ty) (f21 : BufTy.Contents (Elt F) arg21.view.ty) (f22 : BufTy.Contents (Elt F) arg22.view.ty) :
    ((L13 : List (View.Piece (Elt F) S1x768x1024 .bf16)) ×' (C17 : BufTy.Contents (Elt F) arg17.view.ty) ×' (C18 : BufTy.Contents (Elt F) arg18.view.ty) ×' (C19 : BufTy.Contents (Elt F) arg19.view.ty) ×' (C20 : BufTy.Contents (Elt F) arg20.view.ty) ×' ∀ (E : Set ℕ) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg21.view.loc (c : Thread nD τ) ↦[arg21.view.set]{fullShare} f21) ∗ (arg22.view.loc (c : Thread nD τ) ↦[arg22.view.set]{fullShare} f22) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (arg13.view.loc (c : Thread nD τ) ↦[arg13.view.set]{fullShare} f13)) : sProp 𝕄G)
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (arg13.view.loc (c : Thread nD τ) ↦[arg13.view.set]{fullShare} (arg13.view.writes (Elt F) f13 L13))))) := by
  refine ⟨?_, ?_, ?_, ?_, ?_, fun E f13 => ?run⟩
  case run =>
    iintro ⟨H2, H3, H4, H5, H6, H7, H8, H9, H10, H11, H12, H17, H18, H19, H20, H14, H15, H16, H21, H22, ⟨%f23, H23⟩, ⟨%f24, H24⟩, ⟨%f25, H25⟩, ⟨%f26, H26⟩, ⟨%f27, H27⟩, H13⟩
    sl_unfold [cc0__body]
    sl_exec_parts (disch := sl_exact hc)
    sl_step
    sl_close

/-- The body at a point of a later batch, the relative tables as carried. -/
@[irreducible] def bodyB (hc : ¬ k0_cond1 i = 1#1) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty)
    (X17 : BufTy.Contents (Elt F) arg17.view.ty) (X18 : BufTy.Contents (Elt F) arg18.view.ty) (X19 : BufTy.Contents (Elt F) arg19.view.ty) (X20 : BufTy.Contents (Elt F) arg20.view.ty) (f14 : BufTy.Contents (Elt F) arg14.view.ty) (f15 : BufTy.Contents (Elt F) arg15.view.ty) (f16 : BufTy.Contents (Elt F) arg16.view.ty) (f21 : BufTy.Contents (Elt F) arg21.view.ty) (f22 : BufTy.Contents (Elt F) arg22.view.ty) :
    ((L13 : List (View.Piece (Elt F) S1x768x1024 .bf16)) ×' ∀ (E : Set ℕ) (f13 : BufTy.Contents (Elt F) arg13.view.ty),
      (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg21.view.loc (c : Thread nD τ) ↦[arg21.view.set]{fullShare} f21) ∗ (arg22.view.loc (c : Thread nD τ) ↦[arg22.view.set]{fullShare} f22) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (arg13.view.loc (c : Thread nD τ) ↦[arg13.view.set]{fullShare} f13)) : sProp 𝕄G)
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (arg13.view.loc (c : Thread nD τ) ↦[arg13.view.set]{fullShare} (arg13.view.writes (Elt F) f13 L13))))) := by
  refine ⟨?_, fun E f13 => ?run⟩
  case run =>
    iintro ⟨H2, H3, H4, H5, H6, H7, H8, H9, H10, H11, H12, H17, H18, H19, H20, H14, H15, H16, H21, H22, ⟨%f23, H23⟩, ⟨%f24, H24⟩, ⟨%f25, H25⟩, ⟨%f26, H26⟩, ⟨%f27, H27⟩, H13⟩
    sl_unfold [cc0__body]
    sl_exec_parts (disch := sl_exact hc)
    sl_step
    sl_close

end Cert.Kernel.Hand
-- ==== Proof.K.Run.lean ====
module

public import proofs.«01_k».proof.Proof.K.Body
public import proofs.«01_k».proof.Proof.Gen.Kernel.Frame
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F]

/-- The resource algebra of the generated instances: the frame kit's (Gen/<Name>/Frame.lean). -/
local notation "𝕄G" => MT nD τ sig Unit (Elt F) ℕ (UR sig nD τ) ℕ

section
variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

/-- The body at any point: the inputs are left as they were, every other buffer is left at something. -/
theorem body_run (d2 : S1x768x8x128.Idx → Elt F .fp8e4m3) (d3 : S1x768x8x128.Idx → Elt F .fp8e4m3) (d4 : S1x768x8x128.Idx → Elt F .fp8e4m3) (d5 : S1x8x768.Idx → Elt F .f32) (d6 : S1x8x768.Idx → Elt F .f32) (d7 : S1x8x768.Idx → Elt F .f32) (d8 : S512x8x128.Idx → Elt F .fp8e4m3) (d9 : S512x8x128.Idx → Elt F .fp8e4m3) (d10 : S8x512.Idx → Elt F .f32) (d11 : S8x512.Idx → Elt F .f32) (d12 : S1x1x768.Idx → Elt F .i32) (E : Set ℕ) :
    (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) : sProp 𝕄G)
      ⊢ wp frame (wpE (defs₀ (F := F)) 𝒱 (c : Thread nD τ) bd) E (cc0__body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d))) := by
  unfold owns
  iintro ⟨⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩⟩
  by_cases hc : k0_cond1 i = 1#1
  · iapply (wp_wand_r Idealize.ShloMosaic.frame (wpE (defs₀ (F := F)) 𝒱 (c : Thread nD τ) bd) E)
    isplitl [H2 H3 H4 H5 H6 H7 H8 H9 H10 H11 H12 H13 H14 H15 H16 H17 H18 H19 H20 H21 H22 H23 H24 H25 H26 H27]
    · iapply ((bodyA (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2.2.2.2.2 E f13)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H17]; · iexact H17
      isplitl [H18]; · iexact H18
      isplitl [H19]; · iexact H19
      isplitl [H20]; · iexact H20
      isplitl [H14]; · iexact H14
      isplitl [H15]; · iexact H15
      isplitl [H16]; · iexact H16
      isplitl [H21]; · iexact H21
      isplitl [H22]; · iexact H22
      isplitl [H23]; · iexists _; iexact H23
      isplitl [H24]; · iexists _; iexact H24
      isplitl [H25]; · iexists _; iexact H25
      isplitl [H26]; · iexists _; iexact H26
      isplitl [H27]; · iexists _; iexact H27
      iexact H13
    · iintro %_ ⟨H2, H3, H4, H5, H6, H7, H8, H9, H10, H11, H12, H17, H18, H19, H20, ⟨%g14, H14⟩, ⟨%g15, H15⟩, ⟨%g16, H16⟩, ⟨%g21, H21⟩, ⟨%g22, H22⟩, ⟨%g23, H23⟩, ⟨%g24, H24⟩, ⟨%g25, H25⟩, ⟨%g26, H26⟩, ⟨%g27, H27⟩, H13⟩
      isplitl [H2]; · iexists X2; isplitr; swap; (· iexact H2); ipureintro; exact e2
      isplitl [H3]; · iexists X3; isplitr; swap; (· iexact H3); ipureintro; exact e3
      isplitl [H4]; · iexists X4; isplitr; swap; (· iexact H4); ipureintro; exact e4
      isplitl [H5]; · iexists X5; isplitr; swap; (· iexact H5); ipureintro; exact e5
      isplitl [H6]; · iexists X6; isplitr; swap; (· iexact H6); ipureintro; exact e6
      isplitl [H7]; · iexists X7; isplitr; swap; (· iexact H7); ipureintro; exact e7
      isplitl [H8]; · iexists X8; isplitr; swap; (· iexact H8); ipureintro; exact e8
      isplitl [H9]; · iexists X9; isplitr; swap; (· iexact H9); ipureintro; exact e9
      isplitl [H10]; · iexists X10; isplitr; swap; (· iexact H10); ipureintro; exact e10
      isplitl [H11]; · iexists X11; isplitr; swap; (· iexact H11); ipureintro; exact e11
      isplitl [H12]; · iexists X12; isplitr; swap; (· iexact H12); ipureintro; exact e12
      isplitl [H13]; · iexists _; iexists _; isplitr; swap; (· iexact H13); ipureintro; rfl
      isplitl [H14]; · iexists _; iexists _; isplitr; swap; (· iexact H14); ipureintro; rfl
      isplitl [H15]; · iexists _; iexists _; isplitr; swap; (· iexact H15); ipureintro; rfl
      isplitl [H16]; · iexists _; iexists _; isplitr; swap; (· iexact H16); ipureintro; rfl
      isplitl [H17]; · iexists _; iexists _; isplitr; swap; (· iexact H17); ipureintro; rfl
      isplitl [H18]; · iexists _; iexists _; isplitr; swap; (· iexact H18); ipureintro; rfl
      isplitl [H19]; · iexists _; iexists _; isplitr; swap; (· iexact H19); ipureintro; rfl
      isplitl [H20]; · iexists _; iexists _; isplitr; swap; (· iexact H20); ipureintro; rfl
      isplitl [H21]; · iexists _; iexists _; isplitr; swap; (· iexact H21); ipureintro; rfl
      isplitl [H22]; · iexists _; iexists _; isplitr; swap; (· iexact H22); ipureintro; rfl
      isplitl [H23]; · iexists _; iexists _; isplitr; swap; (· iexact H23); ipureintro; rfl
      isplitl [H24]; · iexists _; iexists _; isplitr; swap; (· iexact H24); ipureintro; rfl
      isplitl [H25]; · iexists _; iexists _; isplitr; swap; (· iexact H25); ipureintro; rfl
      isplitl [H26]; · iexists _; iexists _; isplitr; swap; (· iexact H26); ipureintro; rfl
      iexists _; iexists _; isplitr; swap; (· iexact H27); ipureintro; rfl
  · iapply (wp_wand_r Idealize.ShloMosaic.frame (wpE (defs₀ (F := F)) 𝒱 (c : Thread nD τ) bd) E)
    isplitl [H2 H3 H4 H5 H6 H7 H8 H9 H10 H11 H12 H13 H14 H15 H16 H17 H18 H19 H20 H21 H22 H23 H24 H25 H26 H27]
    · iapply ((bodyB (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2 E f13)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H17]; · iexact H17
      isplitl [H18]; · iexact H18
      isplitl [H19]; · iexact H19
      isplitl [H20]; · iexact H20
      isplitl [H14]; · iexact H14
      isplitl [H15]; · iexact H15
      isplitl [H16]; · iexact H16
      isplitl [H21]; · iexact H21
      isplitl [H22]; · iexact H22
      isplitl [H23]; · iexists _; iexact H23
      isplitl [H24]; · iexists _; iexact H24
      isplitl [H25]; · iexists _; iexact H25
      isplitl [H26]; · iexists _; iexact H26
      isplitl [H27]; · iexists _; iexact H27
      iexact H13
    · iintro %_ ⟨H2, H3, H4, H5, H6, H7, H8, H9, H10, H11, H12, H17, H18, H19, H20, ⟨%g14, H14⟩, ⟨%g15, H15⟩, ⟨%g16, H16⟩, ⟨%g21, H21⟩, ⟨%g22, H22⟩, ⟨%g23, H23⟩, ⟨%g24, H24⟩, ⟨%g25, H25⟩, ⟨%g26, H26⟩, ⟨%g27, H27⟩, H13⟩
      isplitl [H2]; · iexists X2; isplitr; swap; (· iexact H2); ipureintro; exact e2
      isplitl [H3]; · iexists X3; isplitr; swap; (· iexact H3); ipureintro; exact e3
      isplitl [H4]; · iexists X4; isplitr; swap; (· iexact H4); ipureintro; exact e4
      isplitl [H5]; · iexists X5; isplitr; swap; (· iexact H5); ipureintro; exact e5
      isplitl [H6]; · iexists X6; isplitr; swap; (· iexact H6); ipureintro; exact e6
      isplitl [H7]; · iexists X7; isplitr; swap; (· iexact H7); ipureintro; exact e7
      isplitl [H8]; · iexists X8; isplitr; swap; (· iexact H8); ipureintro; exact e8
      isplitl [H9]; · iexists X9; isplitr; swap; (· iexact H9); ipureintro; exact e9
      isplitl [H10]; · iexists X10; isplitr; swap; (· iexact H10); ipureintro; exact e10
      isplitl [H11]; · iexists X11; isplitr; swap; (· iexact H11); ipureintro; exact e11
      isplitl [H12]; · iexists X12; isplitr; swap; (· iexact H12); ipureintro; exact e12
      isplitl [H13]; · iexists _; iexists _; isplitr; swap; (· iexact H13); ipureintro; rfl
      isplitl [H14]; · iexists _; iexists _; isplitr; swap; (· iexact H14); ipureintro; rfl
      isplitl [H15]; · iexists _; iexists _; isplitr; swap; (· iexact H15); ipureintro; rfl
      isplitl [H16]; · iexists _; iexists _; isplitr; swap; (· iexact H16); ipureintro; rfl
      isplitl [H17]; · iexists _; iexists _; isplitr; swap; (· iexact H17); ipureintro; rfl
      isplitl [H18]; · iexists _; iexists _; isplitr; swap; (· iexact H18); ipureintro; rfl
      isplitl [H19]; · iexists _; iexists _; isplitr; swap; (· iexact H19); ipureintro; rfl
      isplitl [H20]; · iexists _; iexists _; isplitr; swap; (· iexact H20); ipureintro; rfl
      isplitl [H21]; · iexists _; iexists _; isplitr; swap; (· iexact H21); ipureintro; rfl
      isplitl [H22]; · iexists _; iexists _; isplitr; swap; (· iexact H22); ipureintro; rfl
      isplitl [H23]; · iexists _; iexists _; isplitr; swap; (· iexact H23); ipureintro; rfl
      isplitl [H24]; · iexists _; iexists _; isplitr; swap; (· iexact H24); ipureintro; rfl
      isplitl [H25]; · iexists _; iexists _; isplitr; swap; (· iexact H25); ipureintro; rfl
      isplitl [H26]; · iexists _; iexists _; isplitr; swap; (· iexact H26); ipureintro; rfl
      iexists _; iexists _; isplitr; swap; (· iexact H27); ipureintro; rfl
end

variable (m : (ℓ : Loc nD τ sig) → Buf (Elt F) ℓ) (ρ : Dev nD → PrngReg)

/-- The output window is the one whose contents this run says nothing of. -/
def forgets : Fin 12 → Bool := fun w => w == 11

/-- The proof data: each input's block left in place, the output unnamed, the scratch at anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Pipeline.Dat.unnamed (cfg := cfg0) 11 t
    | ⟨n + 12, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by dsimp only [dats]

/-- The scratch and the generator register, conjunct by conjunct. -/
theorem PhiA_eq (c : Dev nD) : (Pipeline.ΦA spec0 c : sProp 𝕄G)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d)) ∗ (∃ r, prngReg c r)) := by
  unfold Pipeline.ΦA
  rw [scopedRest0_eq]; simp only [owns_whole]; try rfl

/-- What the body is called with at point `t`. -/
def bodyPre (c : Dev nD) (t : Fin cfg0.N) : sProp 𝕄G :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d))
    ∗ (∃ d, owns (c : Thread nD τ) (st0_11 t) fullShare d))
/-- What it returns. -/
def bodyPost (c : Dev nD) (t : Fin cfg0.N) : sProp 𝕄G :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t)
    ∗ (∃ d, owns (c : Thread nD τ) (st0_11 t) fullShare d))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = Pipeline.ΦA spec0 c from rfl,
    show (dats m 0 c).owesAt () t.succ = (dats m 0 c).owesAt () t.castSucc from rfl,
    show (dats m 0 c).Φ t.castSucc = Pipeline.ΦA spec0 c from rfl, PhiA_eq]
  simp only [before0_0_of m (dats m 0 c) (A_eq m c 0) (fun _ => rfl) t]
  simp only [before0_1_of m (dats m 0 c) (A_eq m c 1) (fun _ => rfl) t]
  simp only [before0_2_of m (dats m 0 c) (A_eq m c 2) (fun _ => rfl) t]
  simp only [before0_3_of m (dats m 0 c) (A_eq m c 3) (fun _ => rfl) t]
  simp only [before0_4_of m (dats m 0 c) (A_eq m c 4) (fun _ => rfl) t]
  simp only [before0_5_of m (dats m 0 c) (A_eq m c 5) (fun _ => rfl) t]
  simp only [before0_6_of m (dats m 0 c) (A_eq m c 6) (fun _ => rfl) t]
  simp only [before0_7_of m (dats m 0 c) (A_eq m c 7) (fun _ => rfl) t]
  simp only [before0_8_of m (dats m 0 c) (A_eq m c 8) (fun _ => rfl) t]
  simp only [before0_9_of m (dats m 0 c) (A_eq m c 9) (fun _ => rfl) t]
  simp only [before0_10_of m (dats m 0 c) (A_eq m c 10) (fun _ => rfl) t]
  iintro ⟨⟨⟨H14, H15, H16, H17, H18, H19, H20, H21, H22, H23, H24, H25, H26, H27⟩, HR⟩, HO, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, H13⟩
  iapply (wp_wand_r Idealize.ShloMosaic.frame (wpE (defs₀ (F := F)) Variants.none (c : Thread nD τ) none) Set.univ)
  isplitl [H2 H3 H4 H5 H6 H7 H8 H9 H10 H11 H12 H13 H14 H15 H16 H17 H18 H19 H20 H21 H22 H23 H24 H25 H26 H27]
  · iapply (body_run (F := F) Variants.none c none (grid0.coords t) (win0_0.stage (cfg0.slots t 0)) (hstage0_0 _) (win0_1.stage (cfg0.slots t 1)) (hstage0_1 _) (win0_2.stage (cfg0.slots t 2)) (hstage0_2 _) (win0_3.stage (cfg0.slots t 3)) (hstage0_3 _) (win0_4.stage (cfg0.slots t 4)) (hstage0_4 _) (win0_5.stage (cfg0.slots t 5)) (hstage0_5 _) (win0_6.stage (cfg0.slots t 6)) (hstage0_6 _) (win0_7.stage (cfg0.slots t 7)) (hstage0_7 _) (win0_8.stage (cfg0.slots t 8)) (hstage0_8 _) (win0_9.stage (cfg0.slots t 9)) (hstage0_9 _) (win0_10.stage (cfg0.slots t 10)) (hstage0_10 _) (win0_11.stage (cfg0.slots t 11)) (hstage0_11 _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    iexact H27
  · iintro %_ ⟨H2, H3, H4, H5, H6, H7, H8, H9, H10, H11, H12, H13, H14, H15, H16, H17, H18, H19, H20, H21, H22, H23, H24, H25, H26, H27⟩
    isplitl [HR H14 H15 H16 H17 H18 H19 H20 H21 H22 H23 H24 H25 H26 H27]
    · isplitl [H14 H15 H16 H17 H18 H19 H20 H21 H22 H23 H24 H25 H26 H27]
      · isplitl [H14]; · iexact H14
        isplitl [H15]; · iexact H15
        isplitl [H16]; · iexact H16
        isplitl [H17]; · iexact H17
        isplitl [H18]; · iexact H18
        isplitl [H19]; · iexact H19
        isplitl [H20]; · iexact H20
        isplitl [H21]; · iexact H21
        isplitl [H22]; · iexact H22
        isplitl [H23]; · iexact H23
        isplitl [H24]; · iexact H24
        isplitl [H25]; · iexact H25
        isplitl [H26]; · iexact H26
        iexact H27
      iexact HR
    isplitl [HO]; · iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

/-- Every execution terminates, every array but the output ends as the region found it, every counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m)
    (hΦ := fun _ _ => rfl)

/-- The frame: terminating, the arguments unchanged, the counters at zero. -/
theorem frame_main :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c),
      ((h.1 c).2 main_arg5 (Pipeline.mem_restRefs_of main_arg5 (by decide) (by decide))).trans (V_main_arg5 m c),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      ((h.1 c).2 main_arg8 (Pipeline.mem_restRefs_of main_arg8 (by decide) (by decide))).trans (V_main_arg8 m c),
      ((h.1 c).2 main_arg9 (Pipeline.mem_restRefs_of main_arg9 (by decide) (by decide))).trans (V_main_arg9 m c),
      ((h.1 c).2 main_arg10 (Pipeline.mem_restRefs_of main_arg10 (by decide) (by decide))).trans (V_main_arg10 m c)⟩, h.2⟩) (run_main m ρ)

end Cert.Kernel.Hand

end
-- ==== Proof.V.Cells.lean ====
/- Arrays read as functions of natural-number coordinates (`Is1` … `Is4`), and how each operation of the kernel acts on
   such readings. -/
module

public import Idealize.ShloMosaic.Lib.ValueIdxCore
public import Idealize.ShloMosaic.Lib.ValueIdx
public import Idealize.ShloMosaic.Lib.ValueLayout
public import Idealize.ShloMosaic.Lib.MatmulPlain
public import Idealize.ShloMosaic.Lib.Writes
public import Idealize.ShloMosaic.Lib.Exec.Geometry
public import Idealize.ShloMosaic.Lib.Pipeline.Value
public import Idealize.ShloMosaic.PureOps.Ideal.Laws
public import Idealize.ShloMosaic.Lib.IdealHost

@[expose] public section

noncomputable section

namespace Cells

open Idealize.ShloMosaic Idealize.ShloMosaic.ValueIdx
open scoped BigOperators

variable {α : Type}

/-- A rank-1 array whose entry at `j` is `f j`. -/
def Is1 {n : ℕ} (X : (⟨1, ![n]⟩ : Shape).Idx → α) (f : ℕ → α) : Prop := ∀ j, X j = f (j 0).val
/-- A rank-2 array whose entry at `(i, j)` is `f i j`. -/
def Is2 {n0 n1 : ℕ} (X : (⟨2, ![n0, n1]⟩ : Shape).Idx → α) (f : ℕ → ℕ → α) : Prop := ∀ j, X j = f (j 0).val (j 1).val
/-- A rank-3 array by its three coordinates. -/
def Is3 {n0 n1 n2 : ℕ} (X : (⟨3, ![n0, n1, n2]⟩ : Shape).Idx → α) (f : ℕ → ℕ → ℕ → α) : Prop :=
  ∀ j, X j = f (j 0).val (j 1).val (j 2).val
/-- A rank-4 array by its four coordinates. -/
def Is4 {n0 n1 n2 n3 : ℕ} (X : (⟨4, ![n0, n1, n2, n3]⟩ : Shape).Idx → α) (f : ℕ → ℕ → ℕ → ℕ → α) : Prop :=
  ∀ j, X j = f (j 0).val (j 1).val (j 2).val (j 3).val

theorem Is2.congr {n0 n1 : ℕ} {X : (⟨2, ![n0, n1]⟩ : Shape).Idx → α} {f g : ℕ → ℕ → α} (h : Is2 X f)
    (e : ∀ a b, a < n0 → b < n1 → f a b = g a b) : Is2 X g := fun j => (h j).trans (e _ _ (j 0).isLt (j 1).isLt)
theorem Is3.congr {n0 n1 n2 : ℕ} {X : (⟨3, ![n0, n1, n2]⟩ : Shape).Idx → α} {f g : ℕ → ℕ → ℕ → α} (h : Is3 X f)
    (e : ∀ a b c, a < n0 → b < n1 → c < n2 → f a b c = g a b c) : Is3 X g :=
  fun j => (h j).trans (e _ _ _ (j 0).isLt (j 1).isLt (j 2).isLt)
theorem Is4.congr {n0 n1 n2 n3 : ℕ} {X : (⟨4, ![n0, n1, n2, n3]⟩ : Shape).Idx → α} {f g : ℕ → ℕ → ℕ → ℕ → α} (h : Is4 X f)
    (e : ∀ a b c d, a < n0 → b < n1 → c < n2 → d < n3 → f a b c d = g a b c d) : Is4 X g :=
  fun j => (h j).trans (e _ _ _ _ (j 0).isLt (j 1).isLt (j 2).isLt (j 3).isLt)

/-! ## Layout -/

theorem Is2.transpose {a b : ℕ} {x : (⟨2, ![a, b]⟩ : Shape).Idx → α} {f : ℕ → ℕ → α} (hx : Is2 x f)
    (h : (⟨2, ![a, b]⟩ : Shape).Transposes [1, 0] ⟨2, ![b, a]⟩) :
    Is2 (Idealize.ShloMosaic.transpose ⟨2, ![b, a]⟩ [1, 0] x h) (fun r c => f c r) := fun j => by
  rw [transpose_apply _ x h j (ix2 (j 1) (j 0)) ?_, hx]
  · rfl
  · intro d
    match d with
    | ⟨0, _⟩ => rfl
    | ⟨1, _⟩ => rfl

theorem Is2.slice {n0 n1 m0 m1 : ℕ} {x : (⟨2, ![n0, n1]⟩ : Shape).Idx → α} {f : ℕ → ℕ → α} (hx : Is2 x f) (o0 o1 : ℕ)
    (h : (⟨2, ![n0, n1]⟩ : Shape).Slices ![o0, o1] ⟨2, ![m0, m1]⟩) :
    Is2 (extractStridedSlice ⟨2, ![m0, m1]⟩ ![o0, o1] x h) (fun r c => f (o0 + r) (o1 + c)) := fun j =>
  hx _

theorem Is2.row {b a : ℕ} (ha : b ≠ 1) {x : (⟨2, ![1, b]⟩ : Shape).Idx → α} {f : ℕ → ℕ → α} (hx : Is2 x f)
    (h : (⟨2, ![1, b]⟩ : Shape).Broadcasts ⟨2, ![a, b]⟩) :
    Is2 (broadcastTo ⟨2, ![a, b]⟩ x h) (fun _ c => f 0 c) := fun j => by
  rw [broadcastTo_apply x h j (ix2 (0 : Fin 1) (j 1)) ?_, hx]
  · rfl
  · intro d
    match d with
    | ⟨0, _⟩ => rfl
    | ⟨1, _⟩ => show _ = if b = 1 then _ else _
                rw [if_neg ha]; rfl

theorem Is2.col {b a : ℕ} (ha : a ≠ 1) {x : (⟨2, ![a, 1]⟩ : Shape).Idx → α} {f : ℕ → ℕ → α} (hx : Is2 x f)
    (h : (⟨2, ![a, 1]⟩ : Shape).Broadcasts ⟨2, ![a, b]⟩) :
    Is2 (broadcastTo ⟨2, ![a, b]⟩ x h) (fun r _ => f r 0) := fun j => by
  rw [broadcastTo_apply x h j (ix2 (j 0) (0 : Fin 1)) ?_, hx]
  · rfl
  · intro d
    match d with
    | ⟨0, _⟩ => show _ = if a = 1 then _ else _
                rw [if_neg ha]; rfl
    | ⟨1, _⟩ => rfl

theorem Is2.castSelf {a b : ℕ} {x : (⟨2, ![a, b]⟩ : Shape).Idx → α} {f : ℕ → ℕ → α} (hx : Is2 x f)
    (h : (⟨2, ![a, b]⟩ : Shape).ShapeCasts ⟨2, ![a, b]⟩) : Is2 (shapeCast ⟨2, ![a, b]⟩ x h) f := fun j => by
  rw [shapeCast_apply x h j j rfl, hx]

theorem Is2.cast11 {a b : ℕ} {x : (⟨2, ![a, b]⟩ : Shape).Idx → α} {f : ℕ → ℕ → α} (hx : Is2 x f)
    (h : (⟨2, ![a, b]⟩ : Shape).ShapeCasts ⟨4, ![1, 1, a, b]⟩) :
    Is4 (shapeCast ⟨4, ![1, 1, a, b]⟩ x h) (fun _ _ r c => f r c) := fun j => by
  rw [shapeCast_apply x h j (ix2 (j 2) (j 3)) ?_, hx]
  · rfl
  · have h0 : (j 0).val = 0 := by have := (j 0).isLt; simp at this; exact this
    have h1 : (j 1).val = 0 := by have := (j 1).isLt; simp at this; exact this
    rw [Shape.rowMajor_val_four, Shape.rowMajor_val_two]
    simp [h0, h1]
    rfl

theorem Is4.cast11 {a b : ℕ} {x : (⟨4, ![1, 1, a, b]⟩ : Shape).Idx → α} {f : ℕ → ℕ → ℕ → ℕ → α} (hx : Is4 x f)
    (h : (⟨4, ![1, 1, a, b]⟩ : Shape).ShapeCasts ⟨2, ![a, b]⟩) :
    Is2 (shapeCast ⟨2, ![a, b]⟩ x h) (fun r c => f 0 0 r c) := fun j => by
  rw [shapeCast_apply x h j (ix4 (0 : Fin 1) (0 : Fin 1) (j 0) (j 1)) ?_, hx]
  · rfl
  · rw [Shape.rowMajor_val_four, Shape.rowMajor_val_two]
    simp
    show ((0 + 0) * a + (j 0).val) * b + (j 1).val = (j 0).val * b + (j 1).val
    rw [Nat.add_zero, Nat.zero_mul, Nat.zero_add]

theorem Is2.cast1 {a b : ℕ} {x : (⟨2, ![a, b]⟩ : Shape).Idx → α} {f : ℕ → ℕ → α} (hx : Is2 x f)
    (h : (⟨2, ![a, b]⟩ : Shape).ShapeCasts ⟨3, ![1, a, b]⟩) :
    Is3 (shapeCast ⟨3, ![1, a, b]⟩ x h) (fun _ r c => f r c) := fun j => by
  rw [shapeCast_apply x h j (ix2 (j 1) (j 2)) ?_, hx]
  · rfl
  · have h0 : (j 0).val = 0 := by have := (j 0).isLt; simp at this; exact this
    rw [Shape.rowMajor_val_three, Shape.rowMajor_val_two]
    simp [h0]
    rfl

theorem Is3.cast1 {a b : ℕ} {x : (⟨3, ![1, a, b]⟩ : Shape).Idx → α} {f : ℕ → ℕ → ℕ → α} (hx : Is3 x f)
    (h : (⟨3, ![1, a, b]⟩ : Shape).ShapeCasts ⟨2, ![a, b]⟩) :
    Is2 (shapeCast ⟨2, ![a, b]⟩ x h) (fun r c => f 0 r c) := fun j => by
  rw [shapeCast_apply x h j (ix3 (0 : Fin 1) (j 0) (j 1)) ?_, hx]
  · rfl
  · rw [Shape.rowMajor_val_three, Shape.rowMajor_val_two]
    simp
    show (0 * a + (j 0).val) * b + (j 1).val = (j 0).val * b + (j 1).val
    rw [Nat.zero_mul, Nat.zero_add]

theorem Is3.castMid {a b : ℕ} {x : (⟨3, ![a, 1, b]⟩ : Shape).Idx → α} {f : ℕ → ℕ → ℕ → α} (hx : Is3 x f)
    (h : (⟨3, ![a, 1, b]⟩ : Shape).ShapeCasts ⟨2, ![a, b]⟩) :
    Is2 (shapeCast ⟨2, ![a, b]⟩ x h) (fun r c => f r 0 c) := fun j => by
  rw [shapeCast_apply x h j (ix3 (j 0) (0 : Fin 1) (j 1)) ?_, hx]
  · rfl
  · rw [Shape.rowMajor_val_three, Shape.rowMajor_val_two]
    simp
    rfl

theorem Is2.castSplit {x : (⟨2, ![128, 128]⟩ : Shape).Idx → α} {f : ℕ → ℕ → α} (hx : Is2 x f)
    (h : (⟨2, ![128, 128]⟩ : Shape).ShapeCasts ⟨3, ![16, 8, 128]⟩) :
    Is3 (shapeCast ⟨3, ![16, 8, 128]⟩ x h) (fun u r c => f (u * 8 + r) c) := fun j => by
  have h0 : (j 0).val < 16 := (j 0).isLt
  have h1 : (j 1).val < 8 := (j 1).isLt
  rw [shapeCast_apply x h j (ix2 (⟨(j 0).val * 8 + (j 1).val, by omega⟩ : Fin 128) (j 2)) ?_, hx]
  rw [Shape.rowMajor_val_three, Shape.rowMajor_val_two]
  rfl

theorem Is1.cast1 {a : ℕ} {x : (⟨1, ![a]⟩ : Shape).Idx → α} {f : ℕ → α} (hx : Is1 x f)
    (h : (⟨1, ![a]⟩ : Shape).ShapeCasts ⟨2, ![1, a]⟩) :
    Is2 (shapeCast ⟨2, ![1, a]⟩ x h) (fun _ c => f c) := fun j => by
  rw [shapeCast_apply x h j (ix1 (j 1)) ?_, hx]
  · rfl
  · have h0 : (j 0).val = 0 := by have := (j 0).isLt; simp at this; exact this
    rw [Shape.rowMajor_val_two, Shape.rowMajor_val_one]
    simp [h0]
    rfl

/-- Each row rotated right by one more than its number. -/
theorem Is2.rot {x : (⟨2, ![128, 128]⟩ : Shape).Idx → α} {f : ℕ → ℕ → α} (hx : Is2 x f)
    (h : (⟨2, ![128, 128]⟩ : Shape).Rotates 1 (some (1, 0))) :
    Is2 (dynamicRotate 1 1#32 (some (1, 0)) x h) (fun r c => f r ((c + 128 - (1 + r) % 128) % 128)) := fun j => by
  unfold dynamicRotate
  rw [hx]
  have e : (1#32).toNat + 1 * (j 0).val = 1 + (j 0).val := by simp
  show f (j 0).val (((j 1).val + 128 - ((1#32).toNat + 1 * (j 0).val) % 128) % 128) = _
  rw [e]

/-! ## Stores and loads -/

section
variable {sig : RefSig} {κ : Kind} {sp : Space} {e : EltTy} {Val : EltTy → Type}

/-- A store's payload is `f` at the places it writes. -/
def At2 {m n : ℕ} (f : ℕ → ℕ → Val e) (p : View.Piece Val (⟨2, ![m, n]⟩ : Shape) e) : Prop :=
  ∀ x : p.1.shape.Idx, p.2 x = f (p.1.emb x 0).val (p.1.emb x 1).val
/-- The same over three coordinates. -/
def At3 {m n l : ℕ} (f : ℕ → ℕ → ℕ → Val e) (p : View.Piece Val (⟨3, ![m, n, l]⟩ : Shape) e) : Prop :=
  ∀ x : p.1.shape.Idx, p.2 x = f (p.1.emb x 0).val (p.1.emb x 1).val (p.1.emb x 2).val
/-- The same over four. -/
def At4 {m n l k : ℕ} (f : ℕ → ℕ → ℕ → ℕ → Val e) (p : View.Piece Val (⟨4, ![m, n, l, k]⟩ : Shape) e) : Prop :=
  ∀ x : p.1.shape.Idx, p.2 x = f (p.1.emb x 0).val (p.1.emb x 1).val (p.1.emb x 2).val (p.1.emb x 3).val

theorem Is2.piece {m n a b : ℕ} {w : (⟨2, ![a, b]⟩ : Shape).Idx → Val e} {g : ℕ → ℕ → Val e} (hw : Is2 w g)
    (f : ℕ → ℕ → Val e) (o0 o1 : ℕ) (inb : ∀ d, (![o0, o1] : Fin 2 → ℕ) d + (![a, b] : Fin 2 → ℕ) d ≤ (⟨2, ![m, n]⟩ : Shape).size d)
    (he : ∀ r c, r < a → c < b → g r c = f (o0 + r) (o1 + c)) :
    At2 (Val := Val) f (⟨Rect.unit ![o0, o1] ![a, b] inb, w⟩ : View.Piece Val (⟨2, ![m, n]⟩ : Shape) e) := fun x => by
  show w x = _
  rw [hw x, he _ _ (x 0).isLt (x 1).isLt]
  show f (o0 + (x 0).val) (o1 + (x 1).val) = f (o0 + 1 * (x 0).val) (o1 + 1 * (x 1).val)
  rw [Nat.one_mul, Nat.one_mul]

theorem Is3.piece {m n l a b c : ℕ} {w : (⟨3, ![a, b, c]⟩ : Shape).Idx → Val e} {g : ℕ → ℕ → ℕ → Val e} (hw : Is3 w g)
    (f : ℕ → ℕ → ℕ → Val e) (o0 o1 o2 : ℕ) (inb : ∀ d, (![o0, o1, o2] : Fin 3 → ℕ) d + (![a, b, c] : Fin 3 → ℕ) d ≤ (⟨3, ![m, n, l]⟩ : Shape).size d)
    (he : ∀ r s t, r < a → s < b → t < c → g r s t = f (o0 + r) (o1 + s) (o2 + t)) :
    At3 (Val := Val) f (⟨Rect.unit ![o0, o1, o2] ![a, b, c] inb, w⟩ : View.Piece Val (⟨3, ![m, n, l]⟩ : Shape) e) := fun x => by
  show w x = _
  rw [hw x, he _ _ _ (x 0).isLt (x 1).isLt (x 2).isLt]
  show f (o0 + (x 0).val) (o1 + (x 1).val) (o2 + (x 2).val) = f (o0 + 1 * (x 0).val) (o1 + 1 * (x 1).val) (o2 + 1 * (x 2).val)
  rw [Nat.one_mul, Nat.one_mul, Nat.one_mul]

theorem Is4.piece {m n l k a b c d : ℕ} {w : (⟨4, ![a, b, c, d]⟩ : Shape).Idx → Val e} {g : ℕ → ℕ → ℕ → ℕ → Val e} (hw : Is4 w g)
    (f : ℕ → ℕ → ℕ → ℕ → Val e) (o0 o1 o2 o3 : ℕ)
    (inb : ∀ x, (![o0, o1, o2, o3] : Fin 4 → ℕ) x + (![a, b, c, d] : Fin 4 → ℕ) x ≤ (⟨4, ![m, n, l, k]⟩ : Shape).size x)
    (he : ∀ r s t u, r < a → s < b → t < c → u < d → g r s t u = f (o0 + r) (o1 + s) (o2 + t) (o3 + u)) :
    At4 (Val := Val) f (⟨Rect.unit ![o0, o1, o2, o3] ![a, b, c, d] inb, w⟩ : View.Piece Val (⟨4, ![m, n, l, k]⟩ : Shape) e) := fun x => by
  show w x = _
  rw [hw x, he _ _ _ _ (x 0).isLt (x 1).isLt (x 2).isLt (x 3).isLt]
  show f (o0 + (x 0).val) (o1 + (x 1).val) (o2 + (x 2).val) (o3 + (x 3).val)
    = f (o0 + 1 * (x 0).val) (o1 + 1 * (x 1).val) (o2 + 1 * (x 2).val) (o3 + 1 * (x 3).val)
  simp only [Nat.one_mul]

/-- A load of a box whose every place some store of the list wrote. -/
theorem read2 [∀ e, Nonempty (Val e)] {m n a b : ℕ} (v : View sig κ sp (⟨2, ![m, n]⟩ : Shape) e) {L : List (View.Piece Val (⟨2, ![m, n]⟩ : Shape) e)}
    {f : ℕ → ℕ → Val e} (hL : ∀ p ∈ L, At2 f p) (o0 o1 : ℕ)
    (inb : ∀ d, (![o0, o1] : Fin 2 → ℕ) d + (![a, b] : Fin 2 → ℕ) d ≤ (⟨2, ![m, n]⟩ : Shape).size d)
    (hc : ∀ j : (⟨2, ![a, b]⟩ : Shape).Idx, ∃ p ∈ L, (Rect.unit (s := ⟨2, ![m, n]⟩) ![o0, o1] ![a, b] inb).emb j ∈ p.1.set) :
    Is2 (n0 := a) (n1 := b) (v.readCov L (Rect.unit ![o0, o1] ![a, b] inb).toLoadRect) (fun r c => f (o0 + r) (o1 + c)) := fun j => by
  refine (View.read_writes_apply_of_pieces v v.junk (fun y => f (y 0).val (y 1).val) L hL _ (hc j)).trans ?_
  show f (o0 + 1 * (j 0).val) (o1 + 1 * (j 1).val) = _
  rw [Nat.one_mul, Nat.one_mul]

/-- A load after two runs of stores, the later ones alone covering the box. -/
theorem read2_append [∀ e, Nonempty (Val e)] {m n a b : ℕ} (v : View sig κ sp (⟨2, ![m, n]⟩ : Shape) e) {L L' : List (View.Piece Val (⟨2, ![m, n]⟩ : Shape) e)}
    {f : ℕ → ℕ → Val e} (hL : ∀ p ∈ L, At2 f p) (o0 o1 : ℕ)
    (inb : ∀ d, (![o0, o1] : Fin 2 → ℕ) d + (![a, b] : Fin 2 → ℕ) d ≤ (⟨2, ![m, n]⟩ : Shape).size d)
    (hc : ∀ y : (⟨2, ![m, n]⟩ : Shape).Idx, ∃ p ∈ L, y ∈ p.1.set) :
    Is2 (n0 := a) (n1 := b) (v.readCov (L ++ L') (Rect.unit ![o0, o1] ![a, b] inb).toLoadRect) (fun r c => f (o0 + r) (o1 + c)) := fun j => by
  unfold View.readCov
  rw [View.writes_append]
  refine (View.read_writes_apply_of_pieces v _ (fun y => f (y 0).val (y 1).val) L hL _ (hc _)).trans ?_
  show f (o0 + 1 * (j 0).val) (o1 + 1 * (j 1).val) = _
  rw [Nat.one_mul, Nat.one_mul]

theorem read3 [∀ e, Nonempty (Val e)] {m n l a b c : ℕ} (v : View sig κ sp (⟨3, ![m, n, l]⟩ : Shape) e)
    {L : List (View.Piece Val (⟨3, ![m, n, l]⟩ : Shape) e)}
    {f : ℕ → ℕ → ℕ → Val e} (hL : ∀ p ∈ L, At3 f p) (o0 o1 o2 : ℕ)
    (inb : ∀ d, (![o0, o1, o2] : Fin 3 → ℕ) d + (![a, b, c] : Fin 3 → ℕ) d ≤ (⟨3, ![m, n, l]⟩ : Shape).size d)
    (hc : ∀ j : (⟨3, ![a, b, c]⟩ : Shape).Idx, ∃ p ∈ L, (Rect.unit (s := ⟨3, ![m, n, l]⟩) ![o0, o1, o2] ![a, b, c] inb).emb j ∈ p.1.set) :
    Is3 (n0 := a) (n1 := b) (n2 := c) (v.readCov L (Rect.unit ![o0, o1, o2] ![a, b, c] inb).toLoadRect)
      (fun r s t => f (o0 + r) (o1 + s) (o2 + t)) := fun j => by
  refine (View.read_writes_apply_of_pieces v v.junk (fun y => f (y 0).val (y 1).val (y 2).val) L hL _ (hc j)).trans ?_
  show f (o0 + 1 * (j 0).val) (o1 + 1 * (j 1).val) (o2 + 1 * (j 2).val) = _
  simp only [Nat.one_mul]

theorem read4 [∀ e, Nonempty (Val e)] {m n l k a b c d : ℕ} (v : View sig κ sp (⟨4, ![m, n, l, k]⟩ : Shape) e)
    {L : List (View.Piece Val (⟨4, ![m, n, l, k]⟩ : Shape) e)}
    {f : ℕ → ℕ → ℕ → ℕ → Val e} (hL : ∀ p ∈ L, At4 f p) (o0 o1 o2 o3 : ℕ)
    (inb : ∀ x, (![o0, o1, o2, o3] : Fin 4 → ℕ) x + (![a, b, c, d] : Fin 4 → ℕ) x ≤ (⟨4, ![m, n, l, k]⟩ : Shape).size x)
    (hc : ∀ y : (⟨4, ![m, n, l, k]⟩ : Shape).Idx, ∃ p ∈ L, y ∈ p.1.set) :
    Is4 (n0 := a) (n1 := b) (n2 := c) (n3 := d) (v.readCov L (Rect.unit ![o0, o1, o2, o3] ![a, b, c, d] inb).toLoadRect)
      (fun r s t u => f (o0 + r) (o1 + s) (o2 + t) (o3 + u)) := fun j => by
  refine (View.read_writes_apply_of_pieces v v.junk (fun y => f (y 0).val (y 1).val (y 2).val (y 3).val) L hL _ (hc _)).trans ?_
  show f (o0 + 1 * (j 0).val) (o1 + 1 * (j 1).val) (o2 + 1 * (j 2).val) (o3 + 1 * (j 3).val) = _
  simp only [Nat.one_mul]

/-- A box that IS one store's rectangle is covered. -/
theorem cover_of_mem {s : Shape} {L : List (View.Piece Val s e)} {r : Rect s} (h : ∃ w, (⟨r, w⟩ : View.Piece Val s e) ∈ L)
    (j : r.shape.Idx) : ∃ p ∈ L, r.emb j ∈ p.1.set := by
  obtain ⟨w, hw⟩ := h
  exact ⟨_, hw, by rw [← Rect.map_emb_univ]; exact Finset.mem_map_of_mem _ (Finset.mem_univ j)⟩

/-- A load of contents known coordinate by coordinate. -/
theorem readAt2 {m n a b : ℕ} (v : View sig κ sp (⟨2, ![m, n]⟩ : Shape) e) {X : v.ty.Contents Val} {f : ℕ → ℕ → Val e}
    (hX : Is2 (v.read Val X) f) (o0 o1 : ℕ)
    (inb : ∀ d, (![o0, o1] : Fin 2 → ℕ) d + (![a, b] : Fin 2 → ℕ) d ≤ (⟨2, ![m, n]⟩ : Shape).size d) :
    Is2 (n0 := a) (n1 := b) (v.readAt Val (Rect.unit ![o0, o1] ![a, b] inb).toLoadRect X) (fun r c => f (o0 + r) (o1 + c)) := fun j => by
  refine (hX _).trans ?_
  show f (o0 + 1 * (j 0).val) (o1 + 1 * (j 1).val) = _
  rw [Nat.one_mul, Nat.one_mul]

theorem readAt3 {m n l a b c : ℕ} (v : View sig κ sp (⟨3, ![m, n, l]⟩ : Shape) e) {X : v.ty.Contents Val} {f : ℕ → ℕ → ℕ → Val e}
    (hX : Is3 (v.read Val X) f) (o : Fin 3 → ℕ) (o0 o1 o2 : ℕ) (ho : o = ![o0, o1, o2])
    (inb : ∀ d, o d + (![a, b, c] : Fin 3 → ℕ) d ≤ (⟨3, ![m, n, l]⟩ : Shape).size d) :
    Is3 (n0 := a) (n1 := b) (n2 := c) (v.readAt Val (Rect.unit o ![a, b, c] inb).toLoadRect X)
      (fun r s t => f (o0 + r) (o1 + s) (o2 + t)) := fun j => by
  subst ho
  refine (hX _).trans ?_
  show f (o0 + 1 * (j 0).val) (o1 + 1 * (j 1).val) (o2 + 1 * (j 2).val) = _
  simp only [Nat.one_mul]

theorem readAt2' {m n a b : ℕ} (v : View sig κ sp (⟨2, ![m, n]⟩ : Shape) e) {X : v.ty.Contents Val} {f : ℕ → ℕ → Val e}
    (hX : Is2 (v.read Val X) f) (o : Fin 2 → ℕ) (o0 o1 : ℕ) (ho : o = ![o0, o1])
    (inb : ∀ d, o d + (![a, b] : Fin 2 → ℕ) d ≤ (⟨2, ![m, n]⟩ : Shape).size d) :
    Is2 (n0 := a) (n1 := b) (v.readAt Val (Rect.unit o ![a, b] inb).toLoadRect X) (fun r c => f (o0 + r) (o1 + c)) := by
  subst ho
  exact readAt2 v hX o0 o1 inb

end

/-! ## Arithmetic, floats as extended reals -/

variable {s : Shape}

theorem Is2.mul {a b : ℕ} {φ : FTy} {x y : FVec Ideal (⟨2, ![a, b]⟩ : Shape) φ} {f g : ℕ → ℕ → EReal} (hx : Is2 (α := EReal) x f) (hy : Is2 (α := EReal) y g) :
    Is2 (α := EReal) (mulf x y) (fun r c => f r c * g r c) := fun j => by
  rw [mulf_apply, hx, hy]
theorem Is2.add {a b : ℕ} {φ : FTy} {x y : FVec Ideal (⟨2, ![a, b]⟩ : Shape) φ} {f g : ℕ → ℕ → EReal} (hx : Is2 (α := EReal) x f) (hy : Is2 (α := EReal) y g) :
    Is2 (α := EReal) (addf x y) (fun r c => f r c + g r c) := fun j => by
  rw [addf_apply, hx, hy]
theorem Is2.sub {a b : ℕ} {φ : FTy} {x y : FVec Ideal (⟨2, ![a, b]⟩ : Shape) φ} {f g : ℕ → ℕ → EReal} (hx : Is2 (α := EReal) x f) (hy : Is2 (α := EReal) y g) :
    Is2 (α := EReal) (subf x y) (fun r c => f r c - g r c) := fun j => by
  rw [subf_apply, hx, hy]
theorem Is2.max {a b : ℕ} {φ : FTy} {x y : FVec Ideal (⟨2, ![a, b]⟩ : Shape) φ} {f g : ℕ → ℕ → EReal} (hx : Is2 (α := EReal) x f) (hy : Is2 (α := EReal) y g) :
    Is2 (α := EReal) (maximumf x y) (fun r c => Max.max (f r c) (g r c)) := fun j => by
  rw [maximumf_apply, hx, hy]

/-- A product of rows with rows, into zero. -/
theorem Is2.nt {M K N : ℕ} {φ₁ φ₂ : FTy} (D : DotDims (⟨2, ![M, K]⟩ : Shape) ⟨2, ![N, K]⟩ ⟨2, ![M, N]⟩)
    (hD : D = DotDims.transposedRhs M K N) (prec : Option ContractPrecision)
    {x : FVec Ideal (⟨2, ![M, K]⟩ : Shape) φ₁} {y : FVec Ideal (⟨2, ![N, K]⟩ : Shape) φ₂} {f g : ℕ → ℕ → EReal}
    (hx : Is2 (α := EReal) x f) (hy : Is2 (α := EReal) y g) {acc : FVec Ideal (⟨2, ![M, N]⟩ : Shape) .f32} (hacc : ∀ j, acc j = (0 : EReal)) :
    Is2 (α := EReal) (FloatOps.matmul D prec x y acc) (fun r c => ∑ d : Fin K, f r d.val * g c d.val) := fun j => by
  subst hD
  obtain ⟨r, c, rfl⟩ : ∃ r c, j = ix2 r c := ⟨j 0, j 1, eq_ix2 j⟩
  rw [Ideal.matmul_transposedRhs_apply, hacc]
  refine (zero_add _).trans (Finset.sum_congr rfl fun d _ => ?_)
  rw [hx, hy]
  rfl

/-- A product of rows with columns, into zero. -/
theorem Is2.nn {M K N : ℕ} {φ₁ φ₂ : FTy} (D : DotDims (⟨2, ![M, K]⟩ : Shape) ⟨2, ![K, N]⟩ ⟨2, ![M, N]⟩)
    (hD : D = DotDims.plain M K N) (prec : Option ContractPrecision)
    {x : FVec Ideal (⟨2, ![M, K]⟩ : Shape) φ₁} {y : FVec Ideal (⟨2, ![K, N]⟩ : Shape) φ₂} {f g : ℕ → ℕ → EReal}
    (hx : Is2 (α := EReal) x f) (hy : Is2 (α := EReal) y g) {acc : FVec Ideal (⟨2, ![M, N]⟩ : Shape) .f32} (hacc : ∀ j, acc j = (0 : EReal)) :
    Is2 (α := EReal) (FloatOps.matmul D prec x y acc) (fun r c => ∑ d : Fin K, f r d.val * g d.val c) := fun j => by
  subst hD
  obtain ⟨r, c, rfl⟩ : ∃ r c, j = ix2 r c := ⟨j 0, j 1, eq_ix2 j⟩
  rw [Ideal.matmul_plain_apply, hacc]
  refine (zero_add _).trans (Finset.sum_congr rfl fun d _ => ?_)
  rw [hx, hy]
  rfl

end Cells

end
-- ==== Proof.V.Tab.lean ====
/- The relative tables of one head: a product of rows with a reversed table, scaled, tile by tile. -/
module

public import proofs.«01_k».proof.Proof.Trip
public import proofs.«01_k».proof.Proof.V.Cells
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open scoped BigOperators

/-- What the buffers that a trip of the head loop only reads hold, coordinate by coordinate. -/
structure Src where
  q : ℕ → ℕ → ℕ → EReal
  k : ℕ → ℕ → ℕ → EReal
  v : ℕ → ℕ → ℕ → EReal
  kr : ℕ → ℕ → ℕ → EReal
  qr : ℕ → ℕ → ℕ → EReal
  krs : ℕ → ℕ → EReal
  qrs : ℕ → ℕ → EReal
  qs : ℕ → ℕ → EReal
  vs : ℕ → ℕ → EReal
  kst : ℕ → ℕ → EReal
  mask : ℕ → ℕ → EReal

/-- The buffers hold what `S` says. -/
structure Holds (arg5 : Memref sig .tc .vmem S1x8x768 .f32) (arg7 : Memref sig .tc .vmem S1x8x768 .f32) (arg14 : Memref sig .tc .vmem S8x768x128 .fp8e4m3) (arg15 : Memref sig .tc .vmem S8x768x128 .fp8e4m3) (arg16 : Memref sig .tc .vmem S8x768x128 .fp8e4m3) (arg17 : Memref sig .tc .vmem S8x768x128 .fp8e4m3) (arg18 : Memref sig .tc .vmem S8x768x128 .fp8e4m3) (arg19 : Memref sig .tc .vmem S8x768 .f32) (arg20 : Memref sig .tc .vmem S8x768 .f32) (arg21 : Memref sig .tc .vmem S768x128 .bf16) (arg22 : Memref sig .tc .vmem S768x768 .f32) (X5 : BufTy.Contents (Elt Ideal) arg5.view.ty) (X7 : BufTy.Contents (Elt Ideal) arg7.view.ty) (X14 : BufTy.Contents (Elt Ideal) arg14.view.ty) (X15 : BufTy.Contents (Elt Ideal) arg15.view.ty) (X16 : BufTy.Contents (Elt Ideal) arg16.view.ty) (X17 : BufTy.Contents (Elt Ideal) arg17.view.ty) (X18 : BufTy.Contents (Elt Ideal) arg18.view.ty) (X19 : BufTy.Contents (Elt Ideal) arg19.view.ty) (X20 : BufTy.Contents (Elt Ideal) arg20.view.ty) (X21 : BufTy.Contents (Elt Ideal) arg21.view.ty) (X22 : BufTy.Contents (Elt Ideal) arg22.view.ty) (S : Src) : Prop where
  q : Is3 (n0 := 8) (n1 := 768) (n2 := 128) (α := EReal) (arg14.view.read (Elt Ideal) X14) S.q
  k : Is3 (n0 := 8) (n1 := 768) (n2 := 128) (α := EReal) (arg15.view.read (Elt Ideal) X15) S.k
  v : Is3 (n0 := 8) (n1 := 768) (n2 := 128) (α := EReal) (arg16.view.read (Elt Ideal) X16) S.v
  kr : Is3 (n0 := 8) (n1 := 768) (n2 := 128) (α := EReal) (arg17.view.read (Elt Ideal) X17) S.kr
  qr : Is3 (n0 := 8) (n1 := 768) (n2 := 128) (α := EReal) (arg18.view.read (Elt Ideal) X18) S.qr
  krs : Is2 (n0 := 8) (n1 := 768) (α := EReal) (arg19.view.read (Elt Ideal) X19) S.krs
  qrs : Is2 (n0 := 8) (n1 := 768) (α := EReal) (arg20.view.read (Elt Ideal) X20) S.qrs
  qs : Is3 (n0 := 1) (n1 := 8) (n2 := 768) (α := EReal) (arg5.view.read (Elt Ideal) X5) (fun _ => S.qs)
  vs : Is3 (n0 := 1) (n1 := 8) (n2 := 768) (α := EReal) (arg7.view.read (Elt Ideal) X7) (fun _ => S.vs)
  kst : Is2 (n0 := 768) (n1 := 128) (α := EReal) (arg21.view.read (Elt Ideal) X21) S.kst
  mask : Is2 (n0 := 768) (n1 := 768) (α := EReal) (arg22.view.read (Elt Ideal) X22) S.mask

/-- Head `h`'s product of the rows of `q` with the rows of the relative table `kr`, by the table's scales. -/
def tab1 (S : Src) (h i m : ℕ) : EReal := (∑ d : Fin 128, S.q h i d.val * S.kr h m d.val) * S.krs h m
/-- Head `h`'s product of the rows of `k` with the rows of the relative table `qr`, by the table's scales. -/
def tab2 (S : Src) (h j m : ℕ) : EReal := (∑ d : Fin 128, S.k h j d.val * S.qr h m d.val) * S.qrs h m

theorem zero_const (s : Shape) (j : s.Idx) : (constant (F := Ideal) s .f32 0x00000000#32 : FVec Ideal s .f32) j = (0 : EReal) := by
  show Ideal.ofBits .f32 0x00000000#32 = 0
  simp

/-- Rows against rows, by a row of scales: 256 columns of a table. -/
theorem tab_term {a : FVec Ideal S1x768x128 .fp8e4m3} {b : FVec Ideal S1x256x128 .fp8e4m3} {r : FVec Ideal S1x768 .f32}
    {f g : ℕ → ℕ → ℕ → EReal} {s : ℕ → ℕ → EReal}
    (ha : Is3 (n0 := 1) (n1 := 768) (n2 := 128) (α := EReal) a f) (hb : Is3 (n0 := 1) (n1 := 256) (n2 := 128) (α := EReal) b g)
    (hr : Is2 (n0 := 1) (n1 := 768) (α := EReal) r s) (o : ℕ) (ho : S1x768.Slices ![0, o] S1x256) :
    Is2 (n0 := 768) (n1 := 256) (α := EReal)
      (shapeCast S768x256 (mulf (matmul dot_S768x128_S256x128_S768x256_1_1_0_0_n_n none (shapeCast S768x128 a shapeCasts_S1x768x128_S768x128)
        (shapeCast S256x128 b shapeCasts_S1x256x128_S256x128) (constant S768x256 .f32 0x00000000#32))
        (broadcastTo S768x256 (extractStridedSlice S1x256 ![0, o] r ho) broadcasts_S1x256_S768x256)) shapeCasts_S768x256_S768x256)
      (fun i m => (∑ d : Fin 128, f 0 i d.val * g 0 m d.val) * s 0 (o + m)) :=
  (((Is2.nt _ rfl none (ha.cast1 _) (hb.cast1 _) (zero_const _)).mul ((hr.slice 0 o ho).row (by decide) _)).castSelf _)

variable {arg5 : Memref sig .tc .vmem S1x8x768 .f32} {arg7 : Memref sig .tc .vmem S1x8x768 .f32} {arg14 : Memref sig .tc .vmem S8x768x128 .fp8e4m3} {arg15 : Memref sig .tc .vmem S8x768x128 .fp8e4m3} {arg16 : Memref sig .tc .vmem S8x768x128 .fp8e4m3} {arg17 : Memref sig .tc .vmem S8x768x128 .fp8e4m3} {arg18 : Memref sig .tc .vmem S8x768x128 .fp8e4m3} {arg19 : Memref sig .tc .vmem S8x768 .f32} {arg20 : Memref sig .tc .vmem S8x768 .f32} {arg21 : Memref sig .tc .vmem S768x128 .bf16} {arg22 : Memref sig .tc .vmem S768x768 .f32} {arg23 : Memref sig .tc .vmem S768x768 .f32} {arg24 : Memref sig .tc .vmem S6x6x128x128 .f32} {arg25 : Memref sig .tc .vmem S6x6x128x128 .f32} {arg26 : Memref sig .tc .vmem S768x768 .f32} {arg27 : Memref sig .tc .vmem S768x768 .bf16}
  {X5 : BufTy.Contents (Elt Ideal) arg5.view.ty} {X7 : BufTy.Contents (Elt Ideal) arg7.view.ty} {X14 : BufTy.Contents (Elt Ideal) arg14.view.ty} {X15 : BufTy.Contents (Elt Ideal) arg15.view.ty} {X16 : BufTy.Contents (Elt Ideal) arg16.view.ty} {X17 : BufTy.Contents (Elt Ideal) arg17.view.ty} {X18 : BufTy.Contents (Elt Ideal) arg18.view.ty} {X19 : BufTy.Contents (Elt Ideal) arg19.view.ty} {X20 : BufTy.Contents (Elt Ideal) arg20.view.ty} {X21 : BufTy.Contents (Elt Ideal) arg21.view.ty} {X22 : BufTy.Contents (Elt Ideal) arg22.view.ty}
  {S : Src} (H : Holds arg5 arg7 arg14 arg15 arg16 arg17 arg18 arg19 arg20 arg21 arg22 X5 X7 X14 X15 X16 X17 X18 X19 X20 X21 X22 S)
include H

omit H in
theorem read_head {arg : Memref sig .tc .vmem S8x768x128 .fp8e4m3} {X : BufTy.Contents (Elt Ideal) arg.view.ty} {f : ℕ → ℕ → ℕ → EReal}
    (h : Is3 (n0 := 8) (n1 := 768) (n2 := 128) (α := EReal) (arg.view.read (Elt Ideal) X) f) (k : Fin k0_t3_loop.trips) :
    Is3 (n0 := 1) (n1 := 768) (n2 := 128) (α := EReal)
      (View.readAt (Elt Ideal) arg.view (Rect.unit (s := S8x768x128) (k0_off33 k) S1x768x128.size (k0_off33_inb k)).toLoadRect X)
      (fun _ r d => f k.val r d) :=
  (readAt3 (Val := Elt Ideal) arg.view h (k0_off33 k) k.val 0 0 (k0_off33_eq k) (k0_off33_inb k)).congr fun a b c ha _ _ => by
    rw [Nat.lt_one_iff.1 ha, Nat.add_zero, Nat.zero_add, Nat.zero_add]

omit H in
/-- 256 rows of one head, from row `o`. -/
theorem read_rows {arg : Memref sig .tc .vmem S8x768x128 .fp8e4m3} {X : BufTy.Contents (Elt Ideal) arg.view.ty} {f : ℕ → ℕ → ℕ → EReal}
    (h : Is3 (n0 := 8) (n1 := 768) (n2 := 128) (α := EReal) (arg.view.read (Elt Ideal) X) f) {h₀ o : ℕ} (off : Fin 3 → ℕ)
    (ho : off = ![h₀, o, 0]) (inb : ∀ a, off a + S1x256x128.size a ≤ S8x768x128.size a) :
    Is3 (n0 := 1) (n1 := 256) (n2 := 128) (α := EReal)
      (View.readAt (Elt Ideal) arg.view (Rect.unit (s := S8x768x128) off S1x256x128.size inb).toLoadRect X)
      (fun _ r d => f h₀ (o + r) d) :=
  (readAt3 (Val := Elt Ideal) arg.view h off h₀ o 0 ho inb).congr fun a b c ha _ _ => by
    rw [Nat.lt_one_iff.1 ha, Nat.add_zero, Nat.zero_add]

omit H in
theorem read_scale {arg : Memref sig .tc .vmem S8x768 .f32} {X : BufTy.Contents (Elt Ideal) arg.view.ty} {f : ℕ → ℕ → EReal}
    (h : Is2 (n0 := 8) (n1 := 768) (α := EReal) (arg.view.read (Elt Ideal) X) f) (k : Fin k0_t3_loop.trips) :
    Is2 (n0 := 1) (n1 := 768) (α := EReal)
      (View.readAt (Elt Ideal) arg.view (Rect.unit (s := S8x768) (k0_off35 k) S1x768.size (k0_off35_inb k)).toLoadRect X)
      (fun _ m => f k.val m) :=
  (readAt2' (Val := Elt Ideal) arg.view h (k0_off35 k) k.val 0 (k0_off35_eq k) (k0_off35_inb k)).congr fun a b ha _ => by
    rw [Nat.lt_one_iff.1 ha, Nat.add_zero, Nat.zero_add]

theorem tab1_pieces (k : Fin k0_t3_loop.trips) :
    ∀ p ∈ trip.sl.H23_3 (F := Ideal) arg14 arg17 arg19 X14 X17 X19 k, At2 (m := 768) (n := 768) (Val := Elt Ideal) (e := .f32) (tab1 S k.val) p := by
  unfold trip.sl.H23_3 trip.sl.H23_2
  refine List.forall_mem_cons.2 ⟨?_, List.forall_mem_cons.2 ⟨?_, List.forall_mem_cons.2 ⟨?_, fun _ h => absurd h List.not_mem_nil⟩⟩⟩
  · exact Is2.piece (Val := Elt Ideal) (e := .f32) (tab_term (read_head H.q k) (read_rows H.kr _ (k0_off38_eq k) (k0_off38_inb k)) (read_scale H.krs k) 512 slices_S1x768_o0_512_S1x256)
      (tab1 S k.val) 0 512 _ fun r c _ _ => by rw [Nat.zero_add r]; rfl
  · exact Is2.piece (Val := Elt Ideal) (e := .f32) (tab_term (read_head H.q k) (read_rows H.kr _ (k0_off37_eq k) (k0_off37_inb k)) (read_scale H.krs k) 256 slices_S1x768_o0_256_S1x256)
      (tab1 S k.val) 0 256 _ fun r c _ _ => by rw [Nat.zero_add r]; rfl
  · exact Is2.piece (Val := Elt Ideal) (e := .f32) (tab_term (read_head H.q k) (read_rows H.kr _ (k0_off36_eq k) (k0_off36_inb k)) (read_scale H.krs k) 0 slices_S1x768_o0_0_S1x256)
      (tab1 S k.val) 0 0 _ fun r c _ _ => by rw [Nat.zero_add r]; rfl

end Cert.KernelIdeal.Hand.Val

end
-- ==== Proof.V.Rat.lean ====
/- The two arrays of sheared tiles that the scores pick from, as functions of head, tile, row and column. -/
module

public import proofs.«01_k».proof.Proof.V.Tab
public import proofs.«01_k».proof.Proof.V.Cells
public import Idealize.ShloMosaic.Lib.Exec
public import Idealize.ShloMosaic.Lib.Ring
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open scoped BigOperators

/-- The scale of the scores, `1 / (log 2 * sqrt 384)`. -/
def L : EReal := (((Real.log 2)⁻¹ * (Real.sqrt 384)⁻¹ : ℝ) : EReal)

/-- Where column `c` of a rotated row `r` comes from. -/
def turn (r c : ℕ) : ℕ := (c + 128 - (1 + r) % 128) % 128

/-- The tile `(i, t)` of the first table, turned (all but the two edge tiles), transposed and scaled by the query's scale. -/
def rat (S : Src) (h i t r c : ℕ) : EReal :=
  tab1 S h (128 * i + c) (128 * t + if t = 0 ∨ t = 5 then r else turn c r) * (S.qs h (128 * i + c) * L)
/-- The tile `(j, t)` of the second table, turned (all but the two edge tiles). -/
def rb (S : Src) (h j t r c : ℕ) : EReal :=
  tab2 S h (128 * j + r) (128 * t + if t = 0 ∨ t = 5 then c else turn r c)

variable {arg5 : Memref sig .tc .vmem S1x8x768 .f32} {arg7 : Memref sig .tc .vmem S1x8x768 .f32} {arg14 : Memref sig .tc .vmem S8x768x128 .fp8e4m3} {arg15 : Memref sig .tc .vmem S8x768x128 .fp8e4m3} {arg16 : Memref sig .tc .vmem S8x768x128 .fp8e4m3} {arg17 : Memref sig .tc .vmem S8x768x128 .fp8e4m3} {arg18 : Memref sig .tc .vmem S8x768x128 .fp8e4m3} {arg19 : Memref sig .tc .vmem S8x768 .f32} {arg20 : Memref sig .tc .vmem S8x768 .f32} {arg21 : Memref sig .tc .vmem S768x128 .bf16} {arg22 : Memref sig .tc .vmem S768x768 .f32} {arg23 : Memref sig .tc .vmem S768x768 .f32} {arg24 : Memref sig .tc .vmem S6x6x128x128 .f32} {arg25 : Memref sig .tc .vmem S6x6x128x128 .f32} {arg26 : Memref sig .tc .vmem S768x768 .f32} {arg27 : Memref sig .tc .vmem S768x768 .bf16}
  {X5 : BufTy.Contents (Elt Ideal) arg5.view.ty} {X7 : BufTy.Contents (Elt Ideal) arg7.view.ty} {X14 : BufTy.Contents (Elt Ideal) arg14.view.ty} {X15 : BufTy.Contents (Elt Ideal) arg15.view.ty} {X16 : BufTy.Contents (Elt Ideal) arg16.view.ty} {X17 : BufTy.Contents (Elt Ideal) arg17.view.ty} {X18 : BufTy.Contents (Elt Ideal) arg18.view.ty} {X19 : BufTy.Contents (Elt Ideal) arg19.view.ty} {X20 : BufTy.Contents (Elt Ideal) arg20.view.ty} {X21 : BufTy.Contents (Elt Ideal) arg21.view.ty} {X22 : BufTy.Contents (Elt Ideal) arg22.view.ty}
  {S : Src} (H : Holds arg5 arg7 arg14 arg15 arg16 arg17 arg18 arg19 arg20 arg21 arg22 X5 X7 X14 X15 X16 X17 X18 X19 X20 X21 X22 S)
include H

theorem tab2_pieces (k : Fin k0_t3_loop.trips) :
    ∀ p ∈ [(⟨Rect.unit ![0, 512] S768x256.size inb_S768x768_S768x256_0_512, trip.sl.v930 (F := Ideal) arg15 arg18 arg20 X15 X18 X20 k⟩ : View.Piece (Elt Ideal) S768x768 .f32),
      ⟨Rect.unit ![0, 256] S768x256.size inb_S768x768_S768x256_0_256, trip.sl.v920 (F := Ideal) arg15 arg18 arg20 X15 X18 X20 k⟩,
      ⟨Rect.unit ![0, 0] S768x256.size inb_S768x768_S768x256_0_0, trip.sl.v910 (F := Ideal) arg15 arg18 arg20 X15 X18 X20 k⟩],
      At2 (m := 768) (n := 768) (Val := Elt Ideal) (e := .f32) (tab2 S k.val) p := by
  refine List.forall_mem_cons.2 ⟨?_, List.forall_mem_cons.2 ⟨?_, List.forall_mem_cons.2 ⟨?_, fun _ h => absurd h List.not_mem_nil⟩⟩⟩
  · exact Is2.piece (Val := Elt Ideal) (e := .f32) (tab_term (read_head H.k k) (read_rows H.qr _ (k0_off38_eq k) (k0_off38_inb k)) (read_scale H.qrs k) 512 slices_S1x768_o0_512_S1x256)
      (tab2 S k.val) 0 512 _ fun r c _ _ => by rw [Nat.zero_add r]; rfl
  · exact Is2.piece (Val := Elt Ideal) (e := .f32) (tab_term (read_head H.k k) (read_rows H.qr _ (k0_off37_eq k) (k0_off37_inb k)) (read_scale H.qrs k) 256 slices_S1x768_o0_256_S1x256)
      (tab2 S k.val) 0 256 _ fun r c _ _ => by rw [Nat.zero_add r]; rfl
  · exact Is2.piece (Val := Elt Ideal) (e := .f32) (tab_term (read_head H.k k) (read_rows H.qr _ (k0_off36_eq k) (k0_off36_inb k)) (read_scale H.qrs k) 0 slices_S1x768_o0_0_S1x256)
      (tab2 S k.val) 0 0 _ fun r c _ _ => by rw [Nat.zero_add r]; rfl

/-- A 128 by 128 tile of the first table. -/
theorem tab1_tile (k : Fin k0_t3_loop.trips) (o0 o1 : ℕ) (inb : ∀ d, (![o0, o1] : Fin 2 → ℕ) d + S128x128.size d ≤ S768x768.size d) :
    Is2 (n0 := 128) (n1 := 128) (α := EReal) (arg23.view.readCov (trip.sl.H23_3 (F := Ideal) arg14 arg17 arg19 X14 X17 X19 k) (Rect.unit (s := S768x768) ![o0, o1] S128x128.size inb).toLoadRect)
      (fun r c => tab1 S k.val (o0 + r) (o1 + c)) :=
  read2 (Val := Elt Ideal) arg23.view (tab1_pieces H k) o0 o1 inb fun j =>
    View.cover_of_tiledL (trip.sl.H23_3 (F := Ideal) arg14 arg17 arg19 X14 X17 X19 k) ![768, 256] (by sl_kernel_rfl) _

/-- A 128 by 128 tile of the second table. -/
theorem tab2_tile (k : Fin k0_t3_loop.trips) (o0 o1 : ℕ) (inb : ∀ d, (![o0, o1] : Fin 2 → ℕ) d + S128x128.size d ≤ S768x768.size d) :
    Is2 (n0 := 128) (n1 := 128) (α := EReal) (arg23.view.readCov (trip.sl.H23_6 (F := Ideal) arg14 arg15 arg17 arg18 arg19 arg20 X14 X15 X17 X18 X19 X20 k) (Rect.unit (s := S768x768) ![o0, o1] S128x128.size inb).toLoadRect)
      (fun r c => tab2 S k.val (o0 + r) (o1 + c)) :=
  read2_append (Val := Elt Ideal) arg23.view (L' := trip.sl.H23_3 (F := Ideal) arg14 arg17 arg19 X14 X17 X19 k) (tab2_pieces H k) o0 o1 inb
    (View.cover_of_tiledL _ ![768, 256] (by sl_kernel_rfl))

/-- A head's query scales, times the scale of the scores. -/
theorem qs_row (k : Fin k0_t3_loop.trips) :
    Is2 (n0 := 1) (n1 := 768) (α := EReal) (trip.sl.r_2 (F := Ideal) arg5 X5 k) (fun _ c => S.qs k.val c * L) := by
  have h := (readAt3 (Val := Elt Ideal) arg5.view H.qs (k0_off34 k) 0 k.val 0 (k0_off34_eq k) (k0_off34_inb k))
  refine Is2.congr (Is2.mul (φ := .f32) (h.cast1 shapeCasts_S1x1x768_S1x768) (?_ : Is2 (n0 := 1) (n1 := 768) (α := EReal) _ (fun _ _ => L))) fun a b ha _ => ?_
  · exact fun j => IdealRules.named_const.ideal_named_scalar _ _ _ _ rfl
  · show S.qs (k.val + a) (0 + b) * L = S.qs k.val b * L
    rw [Nat.lt_one_iff.1 ha, Nat.add_zero, Nat.zero_add]

theorem rat_edge (k : Fin k0_t3_loop.trips) (i t : ℕ) (ht : t = 0 ∨ t = 5)
    (inb : ∀ d, (![i, t, 0, 0] : Fin 4 → ℕ) d + S1x1x128x128.size d ≤ S6x6x128x128.size d)
    (inb' : ∀ d, (![128 * i, 128 * t] : Fin 2 → ℕ) d + S128x128.size d ≤ S768x768.size d) (hs : S1x768.Slices ![0, 128 * i] S1x128) :
    At4 (m := 6) (n := 6) (l := 128) (k := 128) (Val := Elt Ideal) (e := .f32) (rat S k.val) ⟨Rect.unit ![i, t, 0, 0] S1x1x128x128.size inb,
      shapeCast S1x1x128x128 (mulf (transpose S128x128 [1, 0]
        (arg23.view.readCov (trip.sl.H23_3 (F := Ideal) arg14 arg17 arg19 X14 X17 X19 k) (Rect.unit (s := S768x768) ![128 * i, 128 * t] S128x128.size inb').toLoadRect) transposes_S128x128_p1_0_S128x128)
        (broadcastTo S128x128 (extractStridedSlice S1x128 ![0, 128 * i] (trip.sl.r_2 (F := Ideal) arg5 X5 k) hs) broadcasts_S1x128_S128x128)) shapeCasts_S128x128_S1x1x128x128⟩ :=
  Is4.piece (Val := Elt Ideal) (e := .f32) ((((tab1_tile H k _ _ inb').transpose _).mul (φ := .f32) (((qs_row H k).slice 0 _ hs).row (by decide) _)).cast11 _)
    (rat S k.val) i t 0 0 _ fun a b r c ha hb _ _ => by
      rw [Nat.lt_one_iff.1 ha, Nat.lt_one_iff.1 hb]
      simp only [Nat.add_zero, Nat.zero_add]
      unfold rat
      rw [if_pos ht]

theorem rat_mid (k : Fin k0_t3_loop.trips) (i t : ℕ) (ht : ¬ (t = 0 ∨ t = 5))
    (inb : ∀ d, (![i, t, 0, 0] : Fin 4 → ℕ) d + S1x1x128x128.size d ≤ S6x6x128x128.size d)
    (inb' : ∀ d, (![128 * i, 128 * t] : Fin 2 → ℕ) d + S128x128.size d ≤ S768x768.size d) (hs : S1x768.Slices ![0, 128 * i] S1x128)
    (hr : S128x128.Rotates 1 (some (1, 0))) :
    At4 (m := 6) (n := 6) (l := 128) (k := 128) (Val := Elt Ideal) (e := .f32) (rat S k.val) ⟨Rect.unit ![i, t, 0, 0] S1x1x128x128.size inb,
      shapeCast S1x1x128x128 (mulf (transpose S128x128 [1, 0] (dynamicRotate 1 1#32 (some (1, 0))
        (arg23.view.readCov (trip.sl.H23_3 (F := Ideal) arg14 arg17 arg19 X14 X17 X19 k) (Rect.unit (s := S768x768) ![128 * i, 128 * t] S128x128.size inb').toLoadRect) hr) transposes_S128x128_p1_0_S128x128)
        (broadcastTo S128x128 (extractStridedSlice S1x128 ![0, 128 * i] (trip.sl.r_2 (F := Ideal) arg5 X5 k) hs) broadcasts_S1x128_S128x128)) shapeCasts_S128x128_S1x1x128x128⟩ :=
  Is4.piece (Val := Elt Ideal) (e := .f32) (((((tab1_tile H k _ _ inb').rot hr).transpose _).mul (φ := .f32) (((qs_row H k).slice 0 _ hs).row (by decide) _)).cast11 _)
    (rat S k.val) i t 0 0 _ fun a b r c ha hb _ _ => by
      rw [Nat.lt_one_iff.1 ha, Nat.lt_one_iff.1 hb]
      simp only [Nat.add_zero, Nat.zero_add]
      unfold rat
      rw [if_neg ht]
      rfl

theorem rb_edge (k : Fin k0_t3_loop.trips) (i t : ℕ) (ht : t = 0 ∨ t = 5)
    (inb : ∀ d, (![i, t, 0, 0] : Fin 4 → ℕ) d + S1x1x128x128.size d ≤ S6x6x128x128.size d)
    (inb' : ∀ d, (![128 * i, 128 * t] : Fin 2 → ℕ) d + S128x128.size d ≤ S768x768.size d) :
    At4 (m := 6) (n := 6) (l := 128) (k := 128) (Val := Elt Ideal) (e := .f32) (rb S k.val) ⟨Rect.unit ![i, t, 0, 0] S1x1x128x128.size inb,
      shapeCast S1x1x128x128
        (arg23.view.readCov (trip.sl.H23_6 (F := Ideal) arg14 arg15 arg17 arg18 arg19 arg20 X14 X15 X17 X18 X19 X20 k) (Rect.unit (s := S768x768) ![128 * i, 128 * t] S128x128.size inb').toLoadRect) shapeCasts_S128x128_S1x1x128x128⟩ :=
  Is4.piece (Val := Elt Ideal) (e := .f32) ((tab2_tile H k _ _ inb').cast11 _)
    (rb S k.val) i t 0 0 _ fun a b r c ha hb _ _ => by
      rw [Nat.lt_one_iff.1 ha, Nat.lt_one_iff.1 hb]
      simp only [Nat.add_zero, Nat.zero_add]
      unfold rb
      rw [if_pos ht]

theorem rb_mid (k : Fin k0_t3_loop.trips) (i t : ℕ) (ht : ¬ (t = 0 ∨ t = 5))
    (inb : ∀ d, (![i, t, 0, 0] : Fin 4 → ℕ) d + S1x1x128x128.size d ≤ S6x6x128x128.size d)
    (inb' : ∀ d, (![128 * i, 128 * t] : Fin 2 → ℕ) d + S128x128.size d ≤ S768x768.size d)
    (hr : S128x128.Rotates 1 (some (1, 0))) :
    At4 (m := 6) (n := 6) (l := 128) (k := 128) (Val := Elt Ideal) (e := .f32) (rb S k.val) ⟨Rect.unit ![i, t, 0, 0] S1x1x128x128.size inb,
      shapeCast S1x1x128x128 (dynamicRotate 1 1#32 (some (1, 0))
        (arg23.view.readCov (trip.sl.H23_6 (F := Ideal) arg14 arg15 arg17 arg18 arg19 arg20 X14 X15 X17 X18 X19 X20 k) (Rect.unit (s := S768x768) ![128 * i, 128 * t] S128x128.size inb').toLoadRect) hr) shapeCasts_S128x128_S1x1x128x128⟩ :=
  Is4.piece (Val := Elt Ideal) (e := .f32) (((tab2_tile H k _ _ inb').rot hr).cast11 _)
    (rb S k.val) i t 0 0 _ fun a b r c ha hb _ _ => by
      rw [Nat.lt_one_iff.1 ha, Nat.lt_one_iff.1 hb]
      simp only [Nat.add_zero, Nat.zero_add]
      unfold rb
      rw [if_neg ht]
      rfl

theorem rat_pieces (k : Fin k0_t3_loop.trips) :
    ∀ p ∈ trip.sl.H24_36 (F := Ideal) arg5 arg14 arg17 arg19 arg23 X5 X14 X17 X19 k,
      At4 (m := 6) (n := 6) (l := 128) (k := 128) (Val := Elt Ideal) (e := .f32) (rat S k.val) p := by
  iterate 6
    refine List.forall_mem_cons.2 ⟨rat_edge H k _ 5 (by decide) _ _ _, ?_⟩
    refine List.forall_mem_cons.2 ⟨rat_mid H k _ 4 (by decide) _ _ _ _, ?_⟩
    refine List.forall_mem_cons.2 ⟨rat_mid H k _ 3 (by decide) _ _ _ _, ?_⟩
    refine List.forall_mem_cons.2 ⟨rat_mid H k _ 2 (by decide) _ _ _ _, ?_⟩
    refine List.forall_mem_cons.2 ⟨rat_mid H k _ 1 (by decide) _ _ _ _, ?_⟩
    refine List.forall_mem_cons.2 ⟨rat_edge H k _ 0 (by decide) _ _ _, ?_⟩
  exact fun _ h => absurd h List.not_mem_nil

theorem rb_pieces (k : Fin k0_t3_loop.trips) :
    ∀ p ∈ trip.sl.H25_36 (F := Ideal) arg14 arg15 arg17 arg18 arg19 arg20 arg23 X14 X15 X17 X18 X19 X20 k,
      At4 (m := 6) (n := 6) (l := 128) (k := 128) (Val := Elt Ideal) (e := .f32) (rb S k.val) p := by
  iterate 6
    refine List.forall_mem_cons.2 ⟨rb_edge H k _ 5 (by decide) _ _, ?_⟩
    refine List.forall_mem_cons.2 ⟨rb_mid H k _ 4 (by decide) _ _ _, ?_⟩
    refine List.forall_mem_cons.2 ⟨rb_mid H k _ 3 (by decide) _ _ _, ?_⟩
    refine List.forall_mem_cons.2 ⟨rb_mid H k _ 2 (by decide) _ _ _, ?_⟩
    refine List.forall_mem_cons.2 ⟨rb_mid H k _ 1 (by decide) _ _ _, ?_⟩
    refine List.forall_mem_cons.2 ⟨rb_edge H k _ 0 (by decide) _ _, ?_⟩
  exact fun _ h => absurd h List.not_mem_nil

end Cert.KernelIdeal.Hand.Val

end
-- ==== Proof.V.Sc.lean ====
/- The scores of one head, tile by tile: content, the two relative terms picked from neighbouring tiles, and the mask. -/
module

public import proofs.«01_k».proof.Proof.V.Rat
public import proofs.«01_k».proof.Proof.V.Cells
public import Idealize.ShloMosaic.Lib.Exec
public import Idealize.ShloMosaic.Lib.Ring
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open scoped BigOperators

/-- The product of row `j` of `k` with row `i` of `q`. -/
def cc (S : Src) (h j i : ℕ) : EReal := ∑ d : Fin 128, S.k h j d.val * S.q h i d.val
/-- A head's scale of the row `j` of `k`, gathered from the three columns that make it up. -/
def ksc (S : Src) (h j : ℕ) : EReal := ∑ d : Fin 128, S.kst j d.val * (if d.val = h ∨ d.val = h + 8 ∨ d.val = h + 16 then 1 else 0)
/-- The part of the score from the first table, at the place `(r, c)` of the tile `(j, i)`. -/
def aT (S : Src) (h j i r c : ℕ) : EReal :=
  if i + 2 < j then rat S h i 5 0 c else if j + 2 < i then rat S h i 0 0 c
  else if r ≤ c then rat S h i (j + 2 - i) r c else rat S h i (j + 3 - i) r c
/-- The part of the score from the second table, at the place `(r, c)` of the tile `(j, i)`. -/
def bT (S : Src) (h j i r c : ℕ) : EReal :=
  if i + 2 < j then rb S h j 0 r c else if j + 2 < i then rb S h j 5 r c
  else if c ≤ r then rb S h j (i + 2 - j) r c else rb S h j (i + 3 - j) r c
/-- The score of row `j` of `k` against row `i` of `q`. -/
def score (S : Src) (h j i : ℕ) : EReal :=
  (cc S h j i * (S.qs h i * L) + bT S h (j / 128) (i / 128) (j % 128) (i % 128)) * ksc S h j
    + aT S h (j / 128) (i / 128) (j % 128) (i % 128) + S.mask j i

theorem sle_small {a b : ℕ} (ha : a < 128) (hb : b < 128) : (BitVec.ofNat 32 a).sle (BitVec.ofNat 32 b) = decide (a ≤ b) := by
  have e1 : (BitVec.ofNat 32 a).toInt = a := by
    rw [BitVec.toInt_ofNat']; exact Int.bmod_eq_of_le (by omega) (by omega)
  have e2 : (BitVec.ofNat 32 b).toInt = b := by
    rw [BitVec.toInt_ofNat']; exact Int.bmod_eq_of_le (by omega) (by omega)
  rw [BitVec.sle_eq_decide, e1, e2]
  simp

theorem eq_small {a b : ℕ} (ha : a < 2 ^ 32) (hb : b < 2 ^ 32) : (BitVec.ofNat 32 a == BitVec.ofNat 32 b) = decide (a = b) := by
  rw [Bool.eq_iff_iff]
  simp only [beq_iff_eq, decide_eq_true_eq]
  constructor
  · intro h
    have := congrArg BitVec.toNat h
    rwa [BitVec.toNat_ofNat, BitVec.toNat_ofNat, Nat.mod_eq_of_lt ha, Nat.mod_eq_of_lt hb] at this
  · rintro rfl; rfl

/-- A choice between two tiles by an ordering of the coordinates. -/
theorem Is2.pick4 {x y : FVec Ideal S128x128 .f32} {f g : ℕ → ℕ → EReal} (hx : Is2 (n0 := 128) (n1 := 128) (α := EReal) x f) (hy : Is2 (n0 := 128) (n1 := 128) (α := EReal) y g) :
    Is2 (n0 := 128) (n1 := 128) (α := EReal) (select k0_pay4 x y) (fun r c => if r ≤ c then f r c else g r c) := fun j => by
  show (if IntOp.cmpi .sle (BitVec.ofNat 32 (0 * 128 + (j 0).val)) (BitVec.ofNat 32 (0 * 128 + (j 1).val)) = 1 then x j else y j) = _
  rw [hx, hy]
  unfold IntOp.cmpi
  show (if BitVec.ofBool ((BitVec.ofNat 32 (0 * 128 + (j 0).val)).sle (BitVec.ofNat 32 (0 * 128 + (j 1).val))) = 1 then _ else _) = _
  rw [Nat.zero_mul, Nat.zero_add, Nat.zero_add, sle_small (j 0).isLt (j 1).isLt]
  by_cases h : (j 0).val ≤ (j 1).val <;> simp [h]

theorem Is2.pick3 {x y : FVec Ideal S128x128 .f32} {f g : ℕ → ℕ → EReal} (hx : Is2 (n0 := 128) (n1 := 128) (α := EReal) x f) (hy : Is2 (n0 := 128) (n1 := 128) (α := EReal) y g) :
    Is2 (n0 := 128) (n1 := 128) (α := EReal) (select k0_pay3 x y) (fun r c => if c ≤ r then f r c else g r c) := fun j => by
  show (if IntOp.cmpi .sle (BitVec.ofNat 32 (0 * 128 + (j 1).val)) (BitVec.ofNat 32 (0 * 128 + (j 0).val)) = 1 then x j else y j) = _
  rw [hx, hy]
  unfold IntOp.cmpi
  show (if BitVec.ofBool ((BitVec.ofNat 32 (0 * 128 + (j 1).val)).sle (BitVec.ofNat 32 (0 * 128 + (j 0).val))) = 1 then _ else _) = _
  rw [Nat.zero_mul, Nat.zero_add, Nat.zero_add, sle_small (j 1).isLt (j 0).isLt]
  by_cases h : (j 1).val ≤ (j 0).val <;> simp [h]

theorem iv_ofNat (n : ℕ) : Scf.iv 0#32 1#32 n = BitVec.ofNat 32 n := by
  unfold Scf.iv
  apply BitVec.eq_of_toNat_eq
  simp

variable {arg5 : Memref sig .tc .vmem S1x8x768 .f32} {arg7 : Memref sig .tc .vmem S1x8x768 .f32} {arg14 : Memref sig .tc .vmem S8x768x128 .fp8e4m3} {arg15 : Memref sig .tc .vmem S8x768x128 .fp8e4m3} {arg16 : Memref sig .tc .vmem S8x768x128 .fp8e4m3} {arg17 : Memref sig .tc .vmem S8x768x128 .fp8e4m3} {arg18 : Memref sig .tc .vmem S8x768x128 .fp8e4m3} {arg19 : Memref sig .tc .vmem S8x768 .f32} {arg20 : Memref sig .tc .vmem S8x768 .f32} {arg21 : Memref sig .tc .vmem S768x128 .bf16} {arg22 : Memref sig .tc .vmem S768x768 .f32} {arg23 : Memref sig .tc .vmem S768x768 .f32} {arg24 : Memref sig .tc .vmem S6x6x128x128 .f32} {arg25 : Memref sig .tc .vmem S6x6x128x128 .f32} {arg26 : Memref sig .tc .vmem S768x768 .f32} {arg27 : Memref sig .tc .vmem S768x768 .bf16}
  {X5 : BufTy.Contents (Elt Ideal) arg5.view.ty} {X7 : BufTy.Contents (Elt Ideal) arg7.view.ty} {X14 : BufTy.Contents (Elt Ideal) arg14.view.ty} {X15 : BufTy.Contents (Elt Ideal) arg15.view.ty} {X16 : BufTy.Contents (Elt Ideal) arg16.view.ty} {X17 : BufTy.Contents (Elt Ideal) arg17.view.ty} {X18 : BufTy.Contents (Elt Ideal) arg18.view.ty} {X19 : BufTy.Contents (Elt Ideal) arg19.view.ty} {X20 : BufTy.Contents (Elt Ideal) arg20.view.ty} {X21 : BufTy.Contents (Elt Ideal) arg21.view.ty} {X22 : BufTy.Contents (Elt Ideal) arg22.view.ty}
  {S : Src} (H : Holds arg5 arg7 arg14 arg15 arg16 arg17 arg18 arg19 arg20 arg21 arg22 X5 X7 X14 X15 X16 X17 X18 X19 X20 X21 X22 S)
include H

omit H in
/-- The columns that make up a head's scale, as a matrix of ones and zeros. -/
theorem ksc_pick (k : Fin k0_t3_loop.trips) :
    Is2 (n0 := 128) (n1 := 128) (α := EReal) (trip.sl.v1113 (F := Ideal) k) (fun d _ => if d = k.val ∨ d = k.val + 8 ∨ d = k.val + 16 then 1 else 0) := fun j => by
  have hk : k.val < 8 := k.isLt
  have hj : (j 0).val < 128 := (j 0).isLt
  have e : ∀ n, n < 100 → IntOp.cmpi .eq (BitVec.ofNat 32 (0 * 128 + (j 0).val)) (BitVec.ofNat 32 n) = BitVec.ofBool (decide ((j 0).val = n)) := fun n hn => by
    unfold IntOp.cmpi
    show BitVec.ofBool (BitVec.ofNat 32 (0 * 128 + (j 0).val) == BitVec.ofNat 32 n) = _
    rw [Nat.zero_mul, Nat.zero_add, eq_small (by omega) (by omega)]
  show (if IntOp.ori (IntOp.ori (IntOp.cmpi .eq (BitVec.ofNat 32 (0 * 128 + (j 0).val)) (Scf.iv 0#32 1#32 k.val))
      (IntOp.cmpi .eq (BitVec.ofNat 32 (0 * 128 + (j 0).val)) (Scf.iv 0#32 1#32 k.val + 8#32)))
      (IntOp.cmpi .eq (BitVec.ofNat 32 (0 * 128 + (j 0).val)) (Scf.iv 0#32 1#32 k.val + 16#32)) = 1
    then Ideal.ofBits .f32 0x3F800000#32 else Ideal.ofBits .f32 0x00000000#32) = _
  rw [iv_ofNat, ← BitVec.ofNat_add, ← BitVec.ofNat_add, e _ (by omega), e _ (by omega), e _ (by omega), Ideal.ofBits_one_f32, Ideal.ofBits_zero_f32]
  unfold IntOp.ori
  by_cases h1 : (j 0).val = k.val <;> by_cases h2 : (j 0).val = k.val + 8 <;> by_cases h3 : (j 0).val = k.val + 16 <;> simp [h1, h2, h3]

theorem ksc_mat (k : Fin k0_t3_loop.trips) :
    Is2 (n0 := 768) (n1 := 128) (α := EReal) (trip.sl.v1115 (F := Ideal) arg21 X21 k) (fun j _ => ksc S k.val j) :=
  (Is2.nn _ rfl none (readAt2 (Val := Elt Ideal) (a := 768) (b := 128) arg21.view H.kst 0 0 inb_S768x128_S768x128_0_0) (ksc_pick k) (zero_const _)).congr fun a b _ _ => by
    simp only [Nat.zero_add]
    rfl

/-- The products of all rows of `k` with 256 rows of `q`. -/
theorem cc_mat (k : Fin k0_t3_loop.trips) (off : Fin 3 → ℕ) (o : ℕ) (ho : off = ![k.val, o, 0]) (inb : ∀ a, off a + S1x256x128.size a ≤ S8x768x128.size a) :
    Is2 (n0 := 768) (n1 := 256) (α := EReal) (matmul (F := Ideal) (φ₁ := .fp8e4m3) (φ₂ := .fp8e4m3) dot_S768x128_S256x128_S768x256_1_1_0_0_n_n none (trip.sl.r_1 (F := Ideal) arg15 X15 k)
      (shapeCast (α := EReal) S256x128 (View.readAt (Elt Ideal) arg14.view (Rect.unit (s := S8x768x128) off S1x256x128.size inb).toLoadRect X14) shapeCasts_S1x256x128_S256x128)
      (constant S768x256 .f32 0x00000000#32)) (fun j i => cc S k.val j (o + i)) :=
  Is2.nt (φ₁ := .fp8e4m3) (φ₂ := .fp8e4m3) _ rfl none ((read_head H.k k).cast1 shapeCasts_S1x768x128_S768x128) ((read_rows H.q off ho inb).cast1 _) (zero_const _)

theorem rat_tile (k : Fin k0_t3_loop.trips) (i t : ℕ) (inb : ∀ d, (![i, t, 0, 0] : Fin 4 → ℕ) d + S1x1x128x128.size d ≤ S6x6x128x128.size d) :
    Is2 (n0 := 128) (n1 := 128) (α := EReal) (shapeCast S128x128 (arg24.view.readCov (trip.sl.H24_36 (F := Ideal) arg5 arg14 arg17 arg19 arg23 X5 X14 X17 X19 k) (Rect.unit (s := S6x6x128x128) ![i, t, 0, 0] S1x1x128x128.size inb).toLoadRect) shapeCasts_S1x1x128x128_S128x128) (rat S k.val i t) :=
  ((read4 (Val := Elt Ideal) arg24.view (rat_pieces H k) i t 0 0 inb
    (View.cover_of_tiledL _ ![1, 1, 128, 128] (by sl_kernel_rfl))).cast11 _).congr fun _ _ _ _ => by simp only [Nat.zero_add, Nat.add_zero]

theorem rat_row (k : Fin k0_t3_loop.trips) (i t : ℕ) (inb : ∀ d, (![i, t, 0, 0] : Fin 4 → ℕ) d + S1x1x1x128.size d ≤ S6x6x128x128.size d) :
    Is2 (n0 := 128) (n1 := 128) (α := EReal) (broadcastTo S128x128 (shapeCast S1x128 (arg24.view.readCov (trip.sl.H24_36 (F := Ideal) arg5 arg14 arg17 arg19 arg23 X5 X14 X17 X19 k) (Rect.unit (s := S6x6x128x128) ![i, t, 0, 0] S1x1x1x128.size inb).toLoadRect) shapeCasts_S1x1x1x128_S1x128) broadcasts_S1x128_S128x128) (fun _ c => rat S k.val i t 0 c) :=
  (((read4 (Val := Elt Ideal) arg24.view (rat_pieces H k) i t 0 0 inb
    (View.cover_of_tiledL _ ![1, 1, 128, 128] (by sl_kernel_rfl))).cast11 _).row (by decide) _).congr fun _ _ _ _ => by simp only [Nat.zero_add, Nat.add_zero]

theorem rb_tile (k : Fin k0_t3_loop.trips) (i t : ℕ) (inb : ∀ d, (![i, t, 0, 0] : Fin 4 → ℕ) d + S1x1x128x128.size d ≤ S6x6x128x128.size d) :
    Is2 (n0 := 128) (n1 := 128) (α := EReal) (shapeCast S128x128 (arg25.view.readCov (trip.sl.H25_36 (F := Ideal) arg14 arg15 arg17 arg18 arg19 arg20 arg23 X14 X15 X17 X18 X19 X20 k) (Rect.unit (s := S6x6x128x128) ![i, t, 0, 0] S1x1x128x128.size inb).toLoadRect) shapeCasts_S1x1x128x128_S128x128) (rb S k.val i t) :=
  ((read4 (Val := Elt Ideal) arg25.view (rb_pieces H k) i t 0 0 inb
    (View.cover_of_tiledL _ ![1, 1, 128, 128] (by sl_kernel_rfl))).cast11 _).congr fun _ _ _ _ => by simp only [Nat.zero_add, Nat.add_zero]

theorem sc_mid (k : Fin k0_t3_loop.trips) {C : FVec Ideal S768x256 .f32} {cb : ℕ} (hC : Is2 (n0 := 768) (n1 := 256) (α := EReal) C (fun j i => cc S k.val j (cb + i)))
    (o0 o1 o1' : ℕ) (hd : ¬ ((o1 / 128) + 2 < (o0 / 128)) ∧ ¬ ((o0 / 128) + 2 < (o1 / 128))) (ho : cb + o1' = o1 ∧ o0 % 128 = 0 ∧ o1 % 128 = 0)
    (inb : ∀ d, (![o0, o1] : Fin 2 → ℕ) d + S128x128.size d ≤ S768x768.size d)
    (hs1 : S768x256.Slices ![o0, o1'] S128x128) (hs2 : S1x768.Slices ![0, o1] S1x128) (hs3 : S768x128.Slices ![o0, 0] S128x128)
    {a0 a1 b0 b1 a1' b1' : ℕ} (hab : (a0 = o1 / 128 ∧ b0 = o0 / 128) ∧ (a1 = o0 / 128 + 2 - o1 / 128 ∧ a1' = o0 / 128 + 3 - o1 / 128) ∧ (b1 = o1 / 128 + 2 - o0 / 128 ∧ b1' = o1 / 128 + 3 - o0 / 128))
    (i1 : ∀ d, (![b0, b1, 0, 0] : Fin 4 → ℕ) d + S1x1x128x128.size d ≤ S6x6x128x128.size d) (i2 : ∀ d, (![b0, b1', 0, 0] : Fin 4 → ℕ) d + S1x1x128x128.size d ≤ S6x6x128x128.size d)
    (i3 : ∀ d, (![a0, a1, 0, 0] : Fin 4 → ℕ) d + S1x1x128x128.size d ≤ S6x6x128x128.size d) (i4 : ∀ d, (![a0, a1', 0, 0] : Fin 4 → ℕ) d + S1x1x128x128.size d ≤ S6x6x128x128.size d) :
    At2 (m := 768) (n := 768) (Val := Elt Ideal) (e := .f32) (score S k.val) ⟨Rect.unit ![o0, o1] S128x128.size inb,
      shapeCast S128x128 (addf (addf (mulf (addf (mulf (extractStridedSlice S128x128 ![o0, o1'] C hs1)
          (broadcastTo S128x128 (extractStridedSlice S1x128 ![0, o1] (trip.sl.r_2 (F := Ideal) arg5 X5 k) hs2) broadcasts_S1x128_S128x128))
          (select k0_pay3 (shapeCast S128x128 (arg25.view.readCov (trip.sl.H25_36 (F := Ideal) arg14 arg15 arg17 arg18 arg19 arg20 arg23 X14 X15 X17 X18 X19 X20 k) (Rect.unit (s := S6x6x128x128) ![b0, b1, 0, 0] S1x1x128x128.size i1).toLoadRect) shapeCasts_S1x1x128x128_S128x128) (shapeCast S128x128 (arg25.view.readCov (trip.sl.H25_36 (F := Ideal) arg14 arg15 arg17 arg18 arg19 arg20 arg23 X14 X15 X17 X18 X19 X20 k) (Rect.unit (s := S6x6x128x128) ![b0, b1', 0, 0] S1x1x128x128.size i2).toLoadRect) shapeCasts_S1x1x128x128_S128x128)))
        (extractStridedSlice S128x128 ![o0, 0] (trip.sl.v1115 (F := Ideal) arg21 X21 k) hs3))
        (select k0_pay4 (shapeCast S128x128 (arg24.view.readCov (trip.sl.H24_36 (F := Ideal) arg5 arg14 arg17 arg19 arg23 X5 X14 X17 X19 k) (Rect.unit (s := S6x6x128x128) ![a0, a1, 0, 0] S1x1x128x128.size i3).toLoadRect) shapeCasts_S1x1x128x128_S128x128) (shapeCast S128x128 (arg24.view.readCov (trip.sl.H24_36 (F := Ideal) arg5 arg14 arg17 arg19 arg23 X5 X14 X17 X19 k) (Rect.unit (s := S6x6x128x128) ![a0, a1', 0, 0] S1x1x128x128.size i4).toLoadRect) shapeCasts_S1x1x128x128_S128x128)))
        (View.readAt (Elt Ideal) arg22.view (Rect.unit (s := S768x768) ![o0, o1] S128x128.size inb).toLoadRect X22)) shapeCasts_S128x128_S128x128⟩ := by
  obtain ⟨⟨rfl, rfl⟩, ⟨rfl, rfl⟩, rfl, rfl⟩ := hab
  have hb := Is2.pick3 (rb_tile (arg23 := arg23) (arg25 := arg25) H k _ _ i1) (rb_tile (arg23 := arg23) (arg25 := arg25) H k _ _ i2)
  have ha := Is2.pick4 (rat_tile (arg23 := arg23) (arg24 := arg24) H k _ _ i3) (rat_tile (arg23 := arg23) (arg24 := arg24) H k _ _ i4)
  refine Is2.piece (Val := Elt Ideal) (e := .f32) ((((((((hC.slice o0 o1' hs1).mul (φ := .f32) (((qs_row H k).slice 0 o1 hs2).row (by decide) _)).add (φ := .f32) hb).mul (φ := .f32)
    ((ksc_mat H k).slice o0 0 hs3)).add (φ := .f32) ha).add (φ := .f32) (readAt2 (Val := Elt Ideal) arg22.view H.mask o0 o1 inb)).castSelf _)) (score S k.val) o0 o1 _ fun r c hr hc => ?_
  have e0 : (o0 + r) / 128 = o0 / 128 := by omega
  have e1 : (o1 + c) / 128 = o1 / 128 := by omega
  have e2 : (o0 + r) % 128 = r := by omega
  have e3 : (o1 + c) % 128 = c := by omega
  have e4 : cb + (o1' + c) = o1 + c := by omega
  simp only [score, aT, bT, e0, e1, e2, e3, e4, Nat.zero_add, Nat.add_zero, hd, if_true, if_false, ite_true, ite_false]

theorem sc_hi (k : Fin k0_t3_loop.trips) {C : FVec Ideal S768x256 .f32} {cb : ℕ} (hC : Is2 (n0 := 768) (n1 := 256) (α := EReal) C (fun j i => cc S k.val j (cb + i)))
    (o0 o1 o1' : ℕ) (hd : (o1 / 128) + 2 < (o0 / 128)) (ho : cb + o1' = o1 ∧ o0 % 128 = 0 ∧ o1 % 128 = 0)
    (inb : ∀ d, (![o0, o1] : Fin 2 → ℕ) d + S128x128.size d ≤ S768x768.size d)
    (hs1 : S768x256.Slices ![o0, o1'] S128x128) (hs2 : S1x768.Slices ![0, o1] S1x128) (hs3 : S768x128.Slices ![o0, 0] S128x128)
    {a0 b0 : ℕ} (hab : a0 = o1 / 128 ∧ b0 = o0 / 128)
    (i1 : ∀ d, (![b0, 0, 0, 0] : Fin 4 → ℕ) d + S1x1x128x128.size d ≤ S6x6x128x128.size d) (i3 : ∀ d, (![a0, 5, 0, 0] : Fin 4 → ℕ) d + S1x1x1x128.size d ≤ S6x6x128x128.size d) :
    At2 (m := 768) (n := 768) (Val := Elt Ideal) (e := .f32) (score S k.val) ⟨Rect.unit ![o0, o1] S128x128.size inb,
      shapeCast S128x128 (addf (addf (mulf (addf (mulf (extractStridedSlice S128x128 ![o0, o1'] C hs1)
          (broadcastTo S128x128 (extractStridedSlice S1x128 ![0, o1] (trip.sl.r_2 (F := Ideal) arg5 X5 k) hs2) broadcasts_S1x128_S128x128))
          (shapeCast S128x128 (arg25.view.readCov (trip.sl.H25_36 (F := Ideal) arg14 arg15 arg17 arg18 arg19 arg20 arg23 X14 X15 X17 X18 X19 X20 k) (Rect.unit (s := S6x6x128x128) ![b0, 0, 0, 0] S1x1x128x128.size i1).toLoadRect) shapeCasts_S1x1x128x128_S128x128))
        (extractStridedSlice S128x128 ![o0, 0] (trip.sl.v1115 (F := Ideal) arg21 X21 k) hs3))
        (broadcastTo S128x128 (shapeCast S1x128 (arg24.view.readCov (trip.sl.H24_36 (F := Ideal) arg5 arg14 arg17 arg19 arg23 X5 X14 X17 X19 k) (Rect.unit (s := S6x6x128x128) ![a0, 5, 0, 0] S1x1x1x128.size i3).toLoadRect) shapeCasts_S1x1x1x128_S1x128) broadcasts_S1x128_S128x128))
        (View.readAt (Elt Ideal) arg22.view (Rect.unit (s := S768x768) ![o0, o1] S128x128.size inb).toLoadRect X22)) shapeCasts_S128x128_S128x128⟩ := by
  obtain ⟨rfl, rfl⟩ := hab
  have hb := rb_tile (arg23 := arg23) (arg25 := arg25) H k _ _ i1
  have ha := rat_row (arg23 := arg23) (arg24 := arg24) H k _ _ i3
  refine Is2.piece (Val := Elt Ideal) (e := .f32) ((((((((hC.slice o0 o1' hs1).mul (φ := .f32) (((qs_row H k).slice 0 o1 hs2).row (by decide) _)).add (φ := .f32) hb).mul (φ := .f32)
    ((ksc_mat H k).slice o0 0 hs3)).add (φ := .f32) ha).add (φ := .f32) (readAt2 (Val := Elt Ideal) arg22.view H.mask o0 o1 inb)).castSelf _)) (score S k.val) o0 o1 _ fun r c hr hc => ?_
  have e0 : (o0 + r) / 128 = o0 / 128 := by omega
  have e1 : (o1 + c) / 128 = o1 / 128 := by omega
  have e2 : (o0 + r) % 128 = r := by omega
  have e3 : (o1 + c) % 128 = c := by omega
  have e4 : cb + (o1' + c) = o1 + c := by omega
  simp only [score, aT, bT, e0, e1, e2, e3, e4, Nat.zero_add, Nat.add_zero, hd, if_true, if_false, ite_true, ite_false]

theorem sc_lo (k : Fin k0_t3_loop.trips) {C : FVec Ideal S768x256 .f32} {cb : ℕ} (hC : Is2 (n0 := 768) (n1 := 256) (α := EReal) C (fun j i => cc S k.val j (cb + i)))
    (o0 o1 o1' : ℕ) (hd : ¬ ((o1 / 128) + 2 < (o0 / 128)) ∧ (o0 / 128) + 2 < (o1 / 128)) (ho : cb + o1' = o1 ∧ o0 % 128 = 0 ∧ o1 % 128 = 0)
    (inb : ∀ d, (![o0, o1] : Fin 2 → ℕ) d + S128x128.size d ≤ S768x768.size d)
    (hs1 : S768x256.Slices ![o0, o1'] S128x128) (hs2 : S1x768.Slices ![0, o1] S1x128) (hs3 : S768x128.Slices ![o0, 0] S128x128)
    {a0 b0 : ℕ} (hab : a0 = o1 / 128 ∧ b0 = o0 / 128)
    (i1 : ∀ d, (![b0, 5, 0, 0] : Fin 4 → ℕ) d + S1x1x128x128.size d ≤ S6x6x128x128.size d) (i3 : ∀ d, (![a0, 0, 0, 0] : Fin 4 → ℕ) d + S1x1x1x128.size d ≤ S6x6x128x128.size d) :
    At2 (m := 768) (n := 768) (Val := Elt Ideal) (e := .f32) (score S k.val) ⟨Rect.unit ![o0, o1] S128x128.size inb,
      shapeCast S128x128 (addf (addf (mulf (addf (mulf (extractStridedSlice S128x128 ![o0, o1'] C hs1)
          (broadcastTo S128x128 (extractStridedSlice S1x128 ![0, o1] (trip.sl.r_2 (F := Ideal) arg5 X5 k) hs2) broadcasts_S1x128_S128x128))
          (shapeCast S128x128 (arg25.view.readCov (trip.sl.H25_36 (F := Ideal) arg14 arg15 arg17 arg18 arg19 arg20 arg23 X14 X15 X17 X18 X19 X20 k) (Rect.unit (s := S6x6x128x128) ![b0, 5, 0, 0] S1x1x128x128.size i1).toLoadRect) shapeCasts_S1x1x128x128_S128x128))
        (extractStridedSlice S128x128 ![o0, 0] (trip.sl.v1115 (F := Ideal) arg21 X21 k) hs3))
        (broadcastTo S128x128 (shapeCast S1x128 (arg24.view.readCov (trip.sl.H24_36 (F := Ideal) arg5 arg14 arg17 arg19 arg23 X5 X14 X17 X19 k) (Rect.unit (s := S6x6x128x128) ![a0, 0, 0, 0] S1x1x1x128.size i3).toLoadRect) shapeCasts_S1x1x1x128_S1x128) broadcasts_S1x128_S128x128))
        (View.readAt (Elt Ideal) arg22.view (Rect.unit (s := S768x768) ![o0, o1] S128x128.size inb).toLoadRect X22)) shapeCasts_S128x128_S128x128⟩ := by
  obtain ⟨rfl, rfl⟩ := hab
  have hb := rb_tile (arg23 := arg23) (arg25 := arg25) H k _ _ i1
  have ha := rat_row (arg23 := arg23) (arg24 := arg24) H k _ _ i3
  refine Is2.piece (Val := Elt Ideal) (e := .f32) ((((((((hC.slice o0 o1' hs1).mul (φ := .f32) (((qs_row H k).slice 0 o1 hs2).row (by decide) _)).add (φ := .f32) hb).mul (φ := .f32)
    ((ksc_mat H k).slice o0 0 hs3)).add (φ := .f32) ha).add (φ := .f32) (readAt2 (Val := Elt Ideal) arg22.view H.mask o0 o1 inb)).castSelf _)) (score S k.val) o0 o1 _ fun r c hr hc => ?_
  have e0 : (o0 + r) / 128 = o0 / 128 := by omega
  have e1 : (o1 + c) / 128 = o1 / 128 := by omega
  have e2 : (o0 + r) % 128 = r := by omega
  have e3 : (o1 + c) % 128 = c := by omega
  have e4 : cb + (o1' + c) = o1 + c := by omega
  simp only [score, aT, bT, e0, e1, e2, e3, e4, Nat.zero_add, Nat.add_zero, hd, if_true, if_false, ite_true, ite_false]

theorem score_pieces (k : Fin k0_t3_loop.trips) :
    ∀ p ∈ trip.sl.H26_36 (F := Ideal) arg5 arg14 arg15 arg17 arg18 arg19 arg20 arg21 arg22 arg23 arg24 arg25 X5 X14 X15 X17 X18 X19 X20 X21 X22 k,
      At2 (m := 768) (n := 768) (Val := Elt Ideal) (e := .f32) (score S k.val) p := by
  iterate 3 refine List.forall_mem_cons.2 ⟨sc_mid H k (cc_mat H k _ 512 (k0_off38_eq k) (k0_off38_inb k)) _ _ _ (by decide) (by decide) _ _ _ _ (by decide) _ _ _ _, ?_⟩
  iterate 3 refine List.forall_mem_cons.2 ⟨sc_lo H k (cc_mat H k _ 512 (k0_off38_eq k) (k0_off38_inb k)) _ _ _ (by decide) (by decide) _ _ _ _ (by decide) _ _, ?_⟩
  iterate 4 refine List.forall_mem_cons.2 ⟨sc_mid H k (cc_mat H k _ 512 (k0_off38_eq k) (k0_off38_inb k)) _ _ _ (by decide) (by decide) _ _ _ _ (by decide) _ _ _ _, ?_⟩
  iterate 2 refine List.forall_mem_cons.2 ⟨sc_lo H k (cc_mat H k _ 512 (k0_off38_eq k) (k0_off38_inb k)) _ _ _ (by decide) (by decide) _ _ _ _ (by decide) _ _, ?_⟩
  iterate 5 refine List.forall_mem_cons.2 ⟨sc_mid H k (cc_mat H k _ 256 (k0_off37_eq k) (k0_off37_inb k)) _ _ _ (by decide) (by decide) _ _ _ _ (by decide) _ _ _ _, ?_⟩
  iterate 1 refine List.forall_mem_cons.2 ⟨sc_lo H k (cc_mat H k _ 256 (k0_off37_eq k) (k0_off37_inb k)) _ _ _ (by decide) (by decide) _ _ _ _ (by decide) _ _, ?_⟩
  iterate 1 refine List.forall_mem_cons.2 ⟨sc_hi H k (cc_mat H k _ 256 (k0_off37_eq k) (k0_off37_inb k)) _ _ _ (by decide) (by decide) _ _ _ _ (by decide) _ _, ?_⟩
  iterate 5 refine List.forall_mem_cons.2 ⟨sc_mid H k (cc_mat H k _ 256 (k0_off37_eq k) (k0_off37_inb k)) _ _ _ (by decide) (by decide) _ _ _ _ (by decide) _ _ _ _, ?_⟩
  iterate 2 refine List.forall_mem_cons.2 ⟨sc_hi H k (cc_mat H k _ 0 (k0_off36_eq k) (k0_off36_inb k)) _ _ _ (by decide) (by decide) _ _ _ _ (by decide) _ _, ?_⟩
  iterate 4 refine List.forall_mem_cons.2 ⟨sc_mid H k (cc_mat H k _ 0 (k0_off36_eq k) (k0_off36_inb k)) _ _ _ (by decide) (by decide) _ _ _ _ (by decide) _ _ _ _, ?_⟩
  iterate 3 refine List.forall_mem_cons.2 ⟨sc_hi H k (cc_mat H k _ 0 (k0_off36_eq k) (k0_off36_inb k)) _ _ _ (by decide) (by decide) _ _ _ _ (by decide) _ _, ?_⟩
  iterate 3 refine List.forall_mem_cons.2 ⟨sc_mid H k (cc_mat H k _ 0 (k0_off36_eq k) (k0_off36_inb k)) _ _ _ (by decide) (by decide) _ _ _ _ (by decide) _ _ _ _, ?_⟩
  exact fun _ h => absurd h List.not_mem_nil

end Cert.KernelIdeal.Hand.Val

end
-- ==== Proof.V.Soft.lean ====
/- The softmax of one head and the contraction with the values: the block of the output that one trip of the head loop writes. -/
module

public import proofs.«01_k».proof.Proof.V.Rat
public import proofs.«01_k».proof.Proof.V.Sc
public import Idealize.ShloMosaic.Lib.Pointwise
public import Idealize.ShloMosaic.Lib.Exec
public import Idealize.ShloMosaic.Lib.Ring
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx
open scoped BigOperators

/-- The greatest score of column `i`. -/
def mx (S : Src) (h i : ℕ) : EReal := Finset.univ.sup fun j : Fin 768 => score S h j.val i
/-- The weight, before its normalization, of row `j` in column `i`. -/
def ef (S : Src) (h j i : ℕ) : EReal := Ideal.exp2 (score S h j i - mx S h i)
/-- The sum of the weights of column `i`. -/
def lf (S : Src) (h i : ℕ) : EReal := ∑ j : Fin 768, ef S h j.val i
/-- A head's output at row `i`, lane `d`. -/
def outS (S : Src) (h i d : ℕ) : EReal := (∑ j : Fin 768, (S.v h j.val d * S.vs h j.val) * ef S h j.val i) * Ideal.div 1 (lf S h i)
/-- All heads' outputs side by side. -/
def blk (S : Src) (i x : ℕ) : EReal := outS S (x / 128) i (x % 128)

theorem neg_inf : Ideal.ofBits .f32 0xFF800000#32 = ⊥ := by simp [Ideal.ofBits, Ideal.ieee]

theorem fold_max_sup {n : ℕ} (g : Fin n → EReal) : (Finset.univ : Finset (Fin n)).fold max ⊥ g = Finset.univ.sup g := rfl

/-- The sum over a product of ranges, factor by factor. -/
theorem sum_split (a b : ℕ) (g : ℕ → EReal) : ∑ j : Fin (a * b), g j.val = ∑ x : Fin a, ∑ y : Fin b, g (b * x.val + y.val) := by
  rw [← Fintype.sum_prod_type' (fun (x : Fin a) (y : Fin b) => g (b * x.val + y.val))]
  exact (Fintype.sum_equiv finProdFinEquiv _ _ fun x => by rw [finProdFinEquiv_apply_val, Nat.add_comm]).symm

theorem part_max {T : FVec Ideal S128x128 .f32} {f : ℕ → ℕ → EReal} (hT : Is2 (n0 := 128) (n1 := 128) (α := EReal) T f)
    (hc16 : S128x128.ShapeCasts S16x8x128) (hr : S16x8x128.Reduces [0] S8x128) (hφ : FKind.Formats .f32) (hacc : (0xFF800000#32 : BitVec 32) = FKind.maximumf.neutral .f32 hφ) :
    Is2 (n0 := 8) (n1 := 128) (α := EReal) (multiReduction .maximumf [0] S8x128 (shapeCast S16x8x128 T hc16) 0xFF800000#32 hr hφ hacc) (fun r c => Finset.univ.sup fun u : Fin 16 => f (u.val * 8 + r) c) := fun j => by
  rw [Ideal.multiReduction_maximumf_single]
  show (Finset.univ : Finset (Fin 16)).fold max (Ideal.ofBits .f32 0xFF800000#32) _ = _
  rw [neg_inf]
  refine (fold_max_sup _).trans (Finset.sup_congr rfl fun u _ => ?_)
  exact (hT.castSplit hc16) (hr.lift j u)

theorem row_max {T : FVec Ideal S8x128 .f32} {f : ℕ → ℕ → EReal} (hT : Is2 (n0 := 8) (n1 := 128) (α := EReal) T f)
    (hr' : S8x128.Reduces [0] S128) (hφ : FKind.Formats .f32) (hacc : (0xFF800000#32 : BitVec 32) = FKind.maximumf.neutral .f32 hφ) :
    Is1 (n := 128) (α := EReal) (multiReduction .maximumf [0] S128 T 0xFF800000#32 hr' hφ hacc) (fun c => Finset.univ.sup fun r : Fin 8 => f r.val c) := fun j => by
  rw [Ideal.multiReduction_maximumf_single]
  show (Finset.univ : Finset (Fin 8)).fold max (Ideal.ofBits .f32 0xFF800000#32) _ = _
  rw [neg_inf]
  refine (fold_max_sup _).trans (Finset.sup_congr rfl fun u _ => ?_)
  exact hT (hr'.lift j u)

theorem part_sum {T : FVec Ideal S128x128 .f32} {f : ℕ → ℕ → EReal} (hT : Is2 (n0 := 128) (n1 := 128) (α := EReal) T f)
    (hc16 : S128x128.ShapeCasts S16x8x128) (hr : S16x8x128.Reduces [0] S8x128) (hφ : FKind.Formats .f32) (hacc : (0x00000000#32 : BitVec 32) = FKind.add.neutral .f32 hφ) :
    Is2 (n0 := 8) (n1 := 128) (α := EReal) (multiReduction .add [0] S8x128 (shapeCast S16x8x128 T hc16) 0x00000000#32 hr hφ hacc) (fun r c => ∑ u : Fin 16, f (u.val * 8 + r) c) := fun j => by
  rw [Ideal.multiReduction_add_single]
  exact Finset.sum_congr rfl fun u _ => (hT.castSplit hc16) (hr.lift j u)

theorem row_sum {T : FVec Ideal S8x128 .f32} {f : ℕ → ℕ → EReal} (hT : Is2 (n0 := 8) (n1 := 128) (α := EReal) T f)
    (hr' : S8x128.Reduces [0] S128) (hφ : FKind.Formats .f32) (hacc : (0x00000000#32 : BitVec 32) = FKind.add.neutral .f32 hφ) :
    Is1 (n := 128) (α := EReal) (multiReduction .add [0] S128 T 0x00000000#32 hr' hφ hacc) (fun c => ∑ r : Fin 8, f r.val c) := fun j => by
  rw [Ideal.multiReduction_add_single]
  exact Finset.sum_congr rfl fun u _ => hT (hr'.lift j u)

/-- A column's maximum, taken tile by tile. -/
theorem col_max {T0 T1 T2 T3 T4 T5 : FVec Ideal S128x128 .f32} (f : ℕ → ℕ → EReal) (o : ℕ)
    (h0 : Is2 (n0 := 128) (n1 := 128) (α := EReal) T0 (fun r c => f (128 * 0 + r) (o + c)))
    (h1 : Is2 (n0 := 128) (n1 := 128) (α := EReal) T1 (fun r c => f (128 * 1 + r) (o + c)))
    (h2 : Is2 (n0 := 128) (n1 := 128) (α := EReal) T2 (fun r c => f (128 * 2 + r) (o + c)))
    (h3 : Is2 (n0 := 128) (n1 := 128) (α := EReal) T3 (fun r c => f (128 * 3 + r) (o + c)))
    (h4 : Is2 (n0 := 128) (n1 := 128) (α := EReal) T4 (fun r c => f (128 * 4 + r) (o + c)))
    (h5 : Is2 (n0 := 128) (n1 := 128) (α := EReal) T5 (fun r c => f (128 * 5 + r) (o + c)))
    (hc16 : S128x128.ShapeCasts S16x8x128) (hr : S16x8x128.Reduces [0] S8x128) (hφ : FKind.Formats .f32) (hacc : (0xFF800000#32 : BitVec 32) = FKind.maximumf.neutral .f32 hφ)
    (hr' : S8x128.Reduces [0] S128) (hc1 : S128.ShapeCasts S1x128) :
    Is2 (n0 := 1) (n1 := 128) (α := EReal) (shapeCast S1x128 (multiReduction .maximumf [0] S128 (maximumf (maximumf (maximumf (maximumf (maximumf (multiReduction .maximumf [0] S8x128 (shapeCast S16x8x128 T0 hc16) 0xFF800000#32 hr hφ hacc) (multiReduction .maximumf [0] S8x128 (shapeCast S16x8x128 T1 hc16) 0xFF800000#32 hr hφ hacc)) (multiReduction .maximumf [0] S8x128 (shapeCast S16x8x128 T2 hc16) 0xFF800000#32 hr hφ hacc)) (multiReduction .maximumf [0] S8x128 (shapeCast S16x8x128 T3 hc16) 0xFF800000#32 hr hφ hacc)) (multiReduction .maximumf [0] S8x128 (shapeCast S16x8x128 T4 hc16) 0xFF800000#32 hr hφ hacc)) (multiReduction .maximumf [0] S8x128 (shapeCast S16x8x128 T5 hc16) 0xFF800000#32 hr hφ hacc)) 0xFF800000#32 hr' hφ hacc) hc1)
      (fun _ c => Finset.univ.sup fun j : Fin 768 => f j.val (o + c)) :=
  ((row_max ((((((part_max h0 hc16 hr hφ hacc).max (φ := .f32) (part_max h1 hc16 hr hφ hacc)).max (φ := .f32) (part_max h2 hc16 hr hφ hacc)).max (φ := .f32)
    (part_max h3 hc16 hr hφ hacc)).max (φ := .f32) (part_max h4 hc16 hr hφ hacc)).max (φ := .f32) (part_max h5 hc16 hr hφ hacc)) hr' hφ hacc).cast1 hc1).congr fun a c _ _ => by
    apply le_antisymm
    · refine Finset.sup_le fun r _ => ?_
      have e : ∀ n : ℕ, n < 6 → (Finset.univ.sup fun u : Fin 16 => f (128 * n + (u.val * 8 + r.val)) (o + c)) ≤ Finset.univ.sup fun j : Fin 768 => f j.val (o + c) := fun n hn =>
        Finset.sup_le fun u _ => Finset.le_sup (f := fun j : Fin 768 => f j.val (o + c)) (Finset.mem_univ (⟨128 * n + (u.val * 8 + r.val), by omega⟩ : Fin 768))
      exact max_le (max_le (max_le (max_le (max_le (e 0 (by decide)) (e 1 (by decide))) (e 2 (by decide))) (e 3 (by decide))) (e 4 (by decide))) (e 5 (by decide))
    · refine Finset.sup_le fun j _ => ?_
      refine le_trans ?_ (Finset.le_sup (Finset.mem_univ (⟨j.val % 8, by omega⟩ : Fin 8)))
      have e : ∀ n : ℕ, j.val / 128 = n → f j.val (o + c) ≤ Finset.univ.sup fun u : Fin 16 => f (128 * n + (u.val * 8 + j.val % 8)) (o + c) := fun n hn => by
        have := Finset.le_sup (f := fun u : Fin 16 => f (128 * n + (u.val * 8 + j.val % 8)) (o + c)) (Finset.mem_univ (⟨j.val % 128 / 8, by omega⟩ : Fin 16))
        refine le_trans (le_of_eq ?_) this
        show _ = f (128 * n + (j.val % 128 / 8 * 8 + j.val % 8)) (o + c)
        congr 1
        omega
      have hj : j.val / 128 < 6 := by omega
      simp only [le_max_iff]
      have h6 : j.val / 128 = 0 ∨ j.val / 128 = 1 ∨ j.val / 128 = 2 ∨ j.val / 128 = 3 ∨ j.val / 128 = 4 ∨ j.val / 128 = 5 := by omega
      rcases h6 with h | h | h | h | h | h <;> have := e _ h <;> tauto

/-- A column's sum, taken tile by tile. -/
theorem col_sum {T0 T1 T2 T3 T4 T5 : FVec Ideal S128x128 .f32} (f : ℕ → ℕ → EReal) (o : ℕ)
    (h0 : Is2 (n0 := 128) (n1 := 128) (α := EReal) T0 (fun r c => f (128 * 0 + r) (o + c)))
    (h1 : Is2 (n0 := 128) (n1 := 128) (α := EReal) T1 (fun r c => f (128 * 1 + r) (o + c)))
    (h2 : Is2 (n0 := 128) (n1 := 128) (α := EReal) T2 (fun r c => f (128 * 2 + r) (o + c)))
    (h3 : Is2 (n0 := 128) (n1 := 128) (α := EReal) T3 (fun r c => f (128 * 3 + r) (o + c)))
    (h4 : Is2 (n0 := 128) (n1 := 128) (α := EReal) T4 (fun r c => f (128 * 4 + r) (o + c)))
    (h5 : Is2 (n0 := 128) (n1 := 128) (α := EReal) T5 (fun r c => f (128 * 5 + r) (o + c)))
    (hc16 : S128x128.ShapeCasts S16x8x128) (hr : S16x8x128.Reduces [0] S8x128) (hφ : FKind.Formats .f32) (hacc : (0x00000000#32 : BitVec 32) = FKind.add.neutral .f32 hφ)
    (hr' : S8x128.Reduces [0] S128) (hc1 : S128.ShapeCasts S1x128) {Z : FVec Ideal S8x128 .f32} (hZ : ∀ j, Z j = (0 : EReal)) :
    Is2 (n0 := 1) (n1 := 128) (α := EReal) (shapeCast S1x128 (multiReduction .add [0] S128 (addf (addf (addf (addf (addf (addf Z (multiReduction .add [0] S8x128 (shapeCast S16x8x128 T0 hc16) 0x00000000#32 hr hφ hacc)) (multiReduction .add [0] S8x128 (shapeCast S16x8x128 T1 hc16) 0x00000000#32 hr hφ hacc)) (multiReduction .add [0] S8x128 (shapeCast S16x8x128 T2 hc16) 0x00000000#32 hr hφ hacc)) (multiReduction .add [0] S8x128 (shapeCast S16x8x128 T3 hc16) 0x00000000#32 hr hφ hacc)) (multiReduction .add [0] S8x128 (shapeCast S16x8x128 T4 hc16) 0x00000000#32 hr hφ hacc)) (multiReduction .add [0] S8x128 (shapeCast S16x8x128 T5 hc16) 0x00000000#32 hr hφ hacc)) 0x00000000#32 hr' hφ hacc) hc1)
      (fun _ c => ∑ j : Fin 768, f j.val (o + c)) :=
  ((row_sum (((((((show Is2 (n0 := 8) (n1 := 128) (α := EReal) Z (fun _ _ => 0) from fun j => hZ j).add (φ := .f32) (part_sum h0 hc16 hr hφ hacc)).add (φ := .f32) (part_sum h1 hc16 hr hφ hacc)).add (φ := .f32) (part_sum h2 hc16 hr hφ hacc)).add (φ := .f32)
    (part_sum h3 hc16 hr hφ hacc)).add (φ := .f32) (part_sum h4 hc16 hr hφ hacc)).add (φ := .f32) (part_sum h5 hc16 hr hφ hacc)) hr' hφ hacc).cast1 hc1).congr fun a c _ _ => by
    have e := (sum_split 6 128 fun j => f j (o + c)).trans (Finset.sum_congr rfl fun x _ => (sum_split 16 8 fun y => f (128 * x.val + y) (o + c)).trans Finset.sum_comm)
    refine Eq.trans ?_ e.symm
    rw [Finset.sum_comm]
    refine Finset.sum_congr rfl fun r _ => ?_
    simp only [Fin.sum_univ_succ (n := 5), Fin.sum_univ_five, zero_add, Nat.mul_comm _ 8]
    simp only [add_assoc]
    rfl

theorem tile_of {f : ℕ → ℕ → EReal} {o0 o1 : ℕ} {inb : ∀ d, (![o0, o1] : Fin 2 → ℕ) d + S128x128.size d ≤ S768x768.size d} {T : FVec Ideal S128x128 .f32} {h : S128x128.ShapeCasts S128x128}
    (hp : At2 (m := 768) (n := 768) (Val := Elt Ideal) (e := .f32) f ⟨Rect.unit ![o0, o1] S128x128.size inb, shapeCast S128x128 T h⟩) :
    Is2 (n0 := 128) (n1 := 128) (α := EReal) T (fun r c => f (o0 + r) (o1 + c)) := fun j => by
  have h1 := hp j
  have h2 : shapeCast S128x128 T h j = T j := shapeCast_apply T h j j rfl
  refine h2.symm.trans (h1.trans ?_)
  show f (o0 + 1 * (j 0).val) (o1 + 1 * (j 1).val) = f (o0 + (j 0).val) (o1 + (j 1).val)
  rw [Nat.one_mul, Nat.one_mul]

theorem Is2.ex2 {a b : ℕ} {x : FVec Ideal (⟨2, ![a, b]⟩ : Shape) .f32} {f : ℕ → ℕ → EReal} (hx : Is2 (α := EReal) x f) :
    Is2 (α := EReal) (exp2 x) (fun r c => Ideal.exp2 (f r c)) := fun j => congrArg Ideal.exp2 (hx j)

theorem Is2.dv {a b : ℕ} {x y : FVec Ideal (⟨2, ![a, b]⟩ : Shape) .f32} {f g : ℕ → ℕ → EReal} (hx : Is2 (α := EReal) x f) (hy : Is2 (α := EReal) y g) :
    Is2 (α := EReal) (divf x y) (fun r c => Ideal.div (f r c) (g r c)) := fun j => by rw [ValueIdx.divf_apply, hx, hy]

theorem Is2.concat {x y : FVec Ideal S1x128 .f32} {f : ℕ → EReal} (o : ℕ) (hx : Is2 (n0 := 1) (n1 := 128) (α := EReal) x (fun _ c => f (o + c)))
    (hy : Is2 (n0 := 1) (n1 := 128) (α := EReal) y (fun _ c => f (o + 128 + c))) (h : Shape.Concatenates [S1x128, S1x128] S1x256 1) :
    Is2 (n0 := 1) (n1 := 256) (α := EReal) (concatenate S1x256 1 [⟨S1x128, x⟩, ⟨S1x128, y⟩] h) (fun _ c => f (o + c)) := fun j => by
  rw [concatenate_pair_apply]
  split
  · rename_i hlt
    rw [hx]; rfl
  · rename_i hlt
    have hlt' : ¬ (j 1).val < 128 := hlt
    rw [hy]
    show f (o + 128 + ((j 1).val - 128)) = f (o + (j 1).val)
    congr 1
    omega

/-- A 768 by 256 box is covered where its twelve tiles are stores of the list. -/
theorem cover_box {e : EltTy} {L : List (View.Piece (Elt Ideal) S768x768 e)} (o : ℕ) (inb : ∀ d, (![0, o] : Fin 2 → ℕ) d + S768x256.size d ≤ S768x768.size d)
    (h : ∀ n < 6, ∀ m < 2, ∃ inb w, (⟨Rect.unit (s := S768x768) ![128 * n, o + 128 * m] S128x128.size inb, w⟩ : View.Piece (Elt Ideal) S768x768 e) ∈ L)
    (j : (⟨2, ![768, 256]⟩ : Shape).Idx) : ∃ p ∈ L, (Rect.unit (s := S768x768) ![0, o] S768x256.size inb).emb j ∈ p.1.set := by
  have h0 : (j 0).val < 768 := (j 0).isLt
  have h1 : (j 1).val < 256 := (j 1).isLt
  obtain ⟨inb', w, hm⟩ := h ((j 0).val / 128) (by omega) ((j 1).val / 128) (by omega)
  refine ⟨_, hm, ?_⟩
  rw [← Rect.map_emb_univ]
  refine Finset.mem_map.2 ⟨ValueIdx.ix2 (⟨(j 0).val % 128, by omega⟩ : Fin 128) (⟨(j 1).val % 128, by omega⟩ : Fin 128), Finset.mem_univ _, ?_⟩
  funext d
  apply Fin.ext
  match d with
  | ⟨0, _⟩ => show 128 * ((j 0).val / 128) + 1 * ((j 0).val % 128) = 0 + 1 * (j 0).val
              omega
  | ⟨1, _⟩ => show (o + 128 * ((j 1).val / 128)) + 1 * ((j 1).val % 128) = o + 1 * (j 1).val
              omega

variable {arg5 : Memref sig .tc .vmem S1x8x768 .f32} {arg7 : Memref sig .tc .vmem S1x8x768 .f32} {arg14 : Memref sig .tc .vmem S8x768x128 .fp8e4m3} {arg15 : Memref sig .tc .vmem S8x768x128 .fp8e4m3} {arg16 : Memref sig .tc .vmem S8x768x128 .fp8e4m3} {arg17 : Memref sig .tc .vmem S8x768x128 .fp8e4m3} {arg18 : Memref sig .tc .vmem S8x768x128 .fp8e4m3} {arg19 : Memref sig .tc .vmem S8x768 .f32} {arg20 : Memref sig .tc .vmem S8x768 .f32} {arg21 : Memref sig .tc .vmem S768x128 .bf16} {arg22 : Memref sig .tc .vmem S768x768 .f32} {arg23 : Memref sig .tc .vmem S768x768 .f32} {arg24 : Memref sig .tc .vmem S6x6x128x128 .f32} {arg25 : Memref sig .tc .vmem S6x6x128x128 .f32} {arg26 : Memref sig .tc .vmem S768x768 .f32} {arg27 : Memref sig .tc .vmem S768x768 .bf16}
  {X5 : BufTy.Contents (Elt Ideal) arg5.view.ty} {X7 : BufTy.Contents (Elt Ideal) arg7.view.ty} {X14 : BufTy.Contents (Elt Ideal) arg14.view.ty} {X15 : BufTy.Contents (Elt Ideal) arg15.view.ty} {X16 : BufTy.Contents (Elt Ideal) arg16.view.ty} {X17 : BufTy.Contents (Elt Ideal) arg17.view.ty} {X18 : BufTy.Contents (Elt Ideal) arg18.view.ty} {X19 : BufTy.Contents (Elt Ideal) arg19.view.ty} {X20 : BufTy.Contents (Elt Ideal) arg20.view.ty} {X21 : BufTy.Contents (Elt Ideal) arg21.view.ty} {X22 : BufTy.Contents (Elt Ideal) arg22.view.ty}
  {S : Src} (H : Holds arg5 arg7 arg14 arg15 arg16 arg17 arg18 arg19 arg20 arg21 arg22 X5 X7 X14 X15 X16 X17 X18 X19 X20 X21 X22 S)
include H

theorem score_get (k : Fin k0_t3_loop.trips) (n : ℕ) {p : View.Piece (Elt Ideal) S768x768 .f32}
    (hp : (trip.sl.H26_36 (F := Ideal) arg5 arg14 arg15 arg17 arg18 arg19 arg20 arg21 arg22 arg23 arg24 arg25 X5 X14 X15 X17 X18 X19 X20 X21 X22 k)[n]? = some p) : At2 (m := 768) (n := 768) (Val := Elt Ideal) (e := .f32) (score S k.val) p :=
  score_pieces H k p (List.mem_of_getElem? hp)

theorem score_drop (k : Fin k0_t3_loop.trips) (n : ℕ) : ∀ p ∈ (trip.sl.H26_36 (F := Ideal) arg5 arg14 arg15 arg17 arg18 arg19 arg20 arg21 arg22 arg23 arg24 arg25 X5 X14 X15 X17 X18 X19 X20 X21 X22 k).drop n,
    At2 (m := 768) (n := 768) (Val := Elt Ideal) (e := .f32) (score S k.val) p :=
  fun p hp => score_pieces H k p (List.mem_of_mem_drop hp)

theorem mx0 (k : Fin k0_t3_loop.trips) : Is2 (n0 := 1) (n1 := 128) (α := EReal) (trip.sl.v1267 (F := Ideal) arg5 arg14 arg15 arg17 arg18 arg19 arg20 arg21 arg22 arg23 arg24 arg25 X5 X14 X15 X17 X18 X19 X20 X21 X22 k) (fun _ c => mx S k.val (0 + c)) :=
  col_max (score S k.val) 0 (tile_of (score_get H k 35 rfl)) (tile_of (score_get H k 34 rfl)) (tile_of (score_get H k 33 rfl)) (tile_of (score_get H k 32 rfl)) (tile_of (score_get H k 31 rfl)) (tile_of (score_get H k 30 rfl)) _ _ _ _ _ _

theorem mx1 (k : Fin k0_t3_loop.trips) : Is2 (n0 := 1) (n1 := 128) (α := EReal) (trip.sl.v1478 (F := Ideal) arg5 arg14 arg15 arg17 arg18 arg19 arg20 arg21 arg22 arg23 arg24 arg25 X5 X14 X15 X17 X18 X19 X20 X21 X22 k) (fun _ c => mx S k.val (128 + c)) :=
  col_max (score S k.val) 128 (tile_of (score_get H k 29 rfl)) (tile_of (score_get H k 28 rfl)) (tile_of (score_get H k 27 rfl)) (tile_of (score_get H k 26 rfl)) (tile_of (score_get H k 25 rfl)) (tile_of (score_get H k 24 rfl)) _ _ _ _ _ _

theorem mx2 (k : Fin k0_t3_loop.trips) : Is2 (n0 := 1) (n1 := 128) (α := EReal) (trip.sl.v1713 (F := Ideal) arg5 arg14 arg15 arg17 arg18 arg19 arg20 arg21 arg22 arg23 arg24 arg25 X5 X14 X15 X17 X18 X19 X20 X21 X22 k) (fun _ c => mx S k.val (256 + c)) :=
  col_max (score S k.val) 256 (tile_of (score_get H k 23 rfl)) (tile_of (score_get H k 22 rfl)) (tile_of (score_get H k 21 rfl)) (tile_of (score_get H k 20 rfl)) (tile_of (score_get H k 19 rfl)) (tile_of (score_get H k 18 rfl)) _ _ _ _ _ _

theorem mx3 (k : Fin k0_t3_loop.trips) : Is2 (n0 := 1) (n1 := 128) (α := EReal) (trip.sl.v1929 (F := Ideal) arg5 arg14 arg15 arg17 arg18 arg19 arg20 arg21 arg22 arg23 arg24 arg25 X5 X14 X15 X17 X18 X19 X20 X21 X22 k) (fun _ c => mx S k.val (384 + c)) :=
  col_max (score S k.val) 384 (tile_of (score_get H k 17 rfl)) (tile_of (score_get H k 16 rfl)) (tile_of (score_get H k 15 rfl)) (tile_of (score_get H k 14 rfl)) (tile_of (score_get H k 13 rfl)) (tile_of (score_get H k 12 rfl)) _ _ _ _ _ _

theorem mx4 (k : Fin k0_t3_loop.trips) : Is2 (n0 := 1) (n1 := 128) (α := EReal) (trip.sl.v2159 (F := Ideal) arg5 arg14 arg15 arg17 arg18 arg19 arg20 arg21 arg22 arg23 arg24 arg25 X5 X14 X15 X17 X18 X19 X20 X21 X22 k) (fun _ c => mx S k.val (512 + c)) :=
  col_max (score S k.val) 512 (tile_of (score_get H k 11 rfl)) (tile_of (score_get H k 10 rfl)) (tile_of (score_get H k 9 rfl)) (tile_of (score_get H k 8 rfl)) (tile_of (score_get H k 7 rfl)) (tile_of (score_get H k 6 rfl)) _ _ _ _ _ _

theorem mx5 (k : Fin k0_t3_loop.trips) : Is2 (n0 := 1) (n1 := 128) (α := EReal) (trip.sl.v2365 (F := Ideal) arg5 arg14 arg15 arg17 arg18 arg19 arg20 arg21 arg22 arg23 arg24 arg25 X5 X14 X15 X17 X18 X19 X20 X21 X22 k) (fun _ c => mx S k.val (640 + c)) :=
  col_max (score S k.val) 640 (tile_of (score_get H k 5 rfl)) (tile_of (score_get H k 4 rfl)) (tile_of (score_get H k 3 rfl)) (tile_of (score_get H k 2 rfl)) (tile_of (score_get H k 1 rfl)) (tile_of (score_get H k 0 rfl)) _ _ _ _ _ _

omit H in
theorem e_tile (k : Fin k0_t3_loop.trips) {L : List (View.Piece (Elt Ideal) S768x768 .f32)} (hL : ∀ p ∈ L, At2 (m := 768) (n := 768) (Val := Elt Ideal) (e := .f32) (score S k.val) p)
    {arg : Memref sig .tc .vmem S768x768 .f32} {M : FVec Ideal S1x128 .f32} (o0 o1 : ℕ) (hM : Is2 (n0 := 1) (n1 := 128) (α := EReal) M (fun _ c => mx S k.val (o1 + c)))
    (inb : ∀ d, (![o0, o1] : Fin 2 → ℕ) d + S128x128.size d ≤ S768x768.size d)
    (hm : ∃ w, L[5 - o0 / 128]? = some ⟨Rect.unit (s := S768x768) ![o0, o1] S128x128.size inb, w⟩) (hb : S1x128.Broadcasts S128x128) :
    Is2 (n0 := 128) (n1 := 128) (α := EReal) (exp2 (subf (arg.view.readCov L (Rect.unit (s := S768x768) ![o0, o1] S128x128.size inb).toLoadRect) (broadcastTo S128x128 M hb)))
      (fun r c => ef S k.val (o0 + r) (o1 + c)) := by
  obtain ⟨w, hw⟩ := hm
  exact Is2.ex2 ((read2 (Val := Elt Ideal) (a := 128) (b := 128) arg.view hL o0 o1 inb (cover_of_mem ⟨w, List.mem_of_getElem? hw⟩)).sub (φ := .f32) (hM.row (by decide) hb))

omit H in
theorem e_piece (k : Fin k0_t3_loop.trips) {L : List (View.Piece (Elt Ideal) S768x768 .f32)} (hL : ∀ p ∈ L, At2 (m := 768) (n := 768) (Val := Elt Ideal) (e := .f32) (score S k.val) p)
    {arg : Memref sig .tc .vmem S768x768 .f32} {M : FVec Ideal S1x128 .f32} (o0 o1 : ℕ) (hM : Is2 (n0 := 1) (n1 := 128) (α := EReal) M (fun _ c => mx S k.val (o1 + c)))
    (inb : ∀ d, (![o0, o1] : Fin 2 → ℕ) d + S128x128.size d ≤ S768x768.size d)
    (hm : ∃ w, L[5 - o0 / 128]? = some ⟨Rect.unit (s := S768x768) ![o0, o1] S128x128.size inb, w⟩) (hb : S1x128.Broadcasts S128x128) (ht : FTy.bf16.bits < FTy.f32.bits) (hs : S128x128.ShapeCasts S128x128) :
    At2 (m := 768) (n := 768) (Val := Elt Ideal) (e := .bf16) (ef S k.val) ⟨Rect.unit (s := S768x768) ![o0, o1] S128x128.size inb,
      shapeCast S128x128 (truncf .bf16 (exp2 (subf (arg.view.readCov L (Rect.unit (s := S768x768) ![o0, o1] S128x128.size inb).toLoadRect) (broadcastTo S128x128 M hb))) ht) hs⟩ :=
  Is2.piece (Val := Elt Ideal) (e := .bf16) (Is2.castSelf (show Is2 (n0 := 128) (n1 := 128) (α := EReal) _ _ from e_tile k hL o0 o1 hM inb hm hb) hs) (ef S k.val) o0 o1 inb fun _ _ _ _ => rfl

theorem e_pieces (k : Fin k0_t3_loop.trips) : ∀ p ∈ trip.sl.H27_36 (F := Ideal) arg5 arg14 arg15 arg17 arg18 arg19 arg20 arg21 arg22 arg23 arg24 arg25 arg26 X5 X14 X15 X17 X18 X19 X20 X21 X22 k, At2 (m := 768) (n := 768) (Val := Elt Ideal) (e := .bf16) (ef S k.val) p := by
  iterate 6 refine List.forall_mem_cons.2 ⟨e_piece k (score_drop H k 0) _ 640 (mx5 H k) _ ⟨_, rfl⟩ _ _ _, ?_⟩
  iterate 6 refine List.forall_mem_cons.2 ⟨e_piece k (score_drop H k 6) _ 512 (mx4 H k) _ ⟨_, rfl⟩ _ _ _, ?_⟩
  iterate 6 refine List.forall_mem_cons.2 ⟨e_piece k (score_drop H k 12) _ 384 (mx3 H k) _ ⟨_, rfl⟩ _ _ _, ?_⟩
  iterate 6 refine List.forall_mem_cons.2 ⟨e_piece k (score_drop H k 18) _ 256 (mx2 H k) _ ⟨_, rfl⟩ _ _ _, ?_⟩
  iterate 6 refine List.forall_mem_cons.2 ⟨e_piece k (score_drop H k 24) _ 128 (mx1 H k) _ ⟨_, rfl⟩ _ _ _, ?_⟩
  iterate 6 refine List.forall_mem_cons.2 ⟨e_piece k (score_drop H k 30) _ 0 (mx0 H k) _ ⟨_, rfl⟩ _ _ _, ?_⟩
  exact fun _ h => absurd h List.not_mem_nil

theorem l0 (k : Fin k0_t3_loop.trips) : Is2 (n0 := 1) (n1 := 128) (α := EReal) (trip.sl.v1336 (F := Ideal) arg5 arg14 arg15 arg17 arg18 arg19 arg20 arg21 arg22 arg23 arg24 arg25 arg26 X5 X14 X15 X17 X18 X19 X20 X21 X22 k) (fun _ c => lf S k.val (0 + c)) :=
  col_sum (ef S k.val) 0 (e_tile k (score_drop H k 30) 0 0 (mx0 H k) _ ⟨_, rfl⟩ _) (e_tile k (score_drop H k 30) 128 0 (mx0 H k) _ ⟨_, rfl⟩ _) (e_tile k (score_drop H k 30) 256 0 (mx0 H k) _ ⟨_, rfl⟩ _) (e_tile k (score_drop H k 30) 384 0 (mx0 H k) _ ⟨_, rfl⟩ _) (e_tile k (score_drop H k 30) 512 0 (mx0 H k) _ ⟨_, rfl⟩ _) (e_tile k (score_drop H k 30) 640 0 (mx0 H k) _ ⟨_, rfl⟩ _) _ _ _ _ _ _ (zero_const _)

theorem l1 (k : Fin k0_t3_loop.trips) : Is2 (n0 := 1) (n1 := 128) (α := EReal) (trip.sl.v1547 (F := Ideal) arg5 arg14 arg15 arg17 arg18 arg19 arg20 arg21 arg22 arg23 arg24 arg25 arg26 X5 X14 X15 X17 X18 X19 X20 X21 X22 k) (fun _ c => lf S k.val (128 + c)) :=
  col_sum (ef S k.val) 128 (e_tile k (score_drop H k 24) 0 128 (mx1 H k) _ ⟨_, rfl⟩ _) (e_tile k (score_drop H k 24) 128 128 (mx1 H k) _ ⟨_, rfl⟩ _) (e_tile k (score_drop H k 24) 256 128 (mx1 H k) _ ⟨_, rfl⟩ _) (e_tile k (score_drop H k 24) 384 128 (mx1 H k) _ ⟨_, rfl⟩ _) (e_tile k (score_drop H k 24) 512 128 (mx1 H k) _ ⟨_, rfl⟩ _) (e_tile k (score_drop H k 24) 640 128 (mx1 H k) _ ⟨_, rfl⟩ _) _ _ _ _ _ _ (zero_const _)

theorem l2 (k : Fin k0_t3_loop.trips) : Is2 (n0 := 1) (n1 := 128) (α := EReal) (trip.sl.v1782 (F := Ideal) arg5 arg14 arg15 arg17 arg18 arg19 arg20 arg21 arg22 arg23 arg24 arg25 arg26 X5 X14 X15 X17 X18 X19 X20 X21 X22 k) (fun _ c => lf S k.val (256 + c)) :=
  col_sum (ef S k.val) 256 (e_tile k (score_drop H k 18) 0 256 (mx2 H k) _ ⟨_, rfl⟩ _) (e_tile k (score_drop H k 18) 128 256 (mx2 H k) _ ⟨_, rfl⟩ _) (e_tile k (score_drop H k 18) 256 256 (mx2 H k) _ ⟨_, rfl⟩ _) (e_tile k (score_drop H k 18) 384 256 (mx2 H k) _ ⟨_, rfl⟩ _) (e_tile k (score_drop H k 18) 512 256 (mx2 H k) _ ⟨_, rfl⟩ _) (e_tile k (score_drop H k 18) 640 256 (mx2 H k) _ ⟨_, rfl⟩ _) _ _ _ _ _ _ (zero_const _)

theorem l3 (k : Fin k0_t3_loop.trips) : Is2 (n0 := 1) (n1 := 128) (α := EReal) (trip.sl.v1998 (F := Ideal) arg5 arg14 arg15 arg17 arg18 arg19 arg20 arg21 arg22 arg23 arg24 arg25 arg26 X5 X14 X15 X17 X18 X19 X20 X21 X22 k) (fun _ c => lf S k.val (384 + c)) :=
  col_sum (ef S k.val) 384 (e_tile k (score_drop H k 12) 0 384 (mx3 H k) _ ⟨_, rfl⟩ _) (e_tile k (score_drop H k 12) 128 384 (mx3 H k) _ ⟨_, rfl⟩ _) (e_tile k (score_drop H k 12) 256 384 (mx3 H k) _ ⟨_, rfl⟩ _) (e_tile k (score_drop H k 12) 384 384 (mx3 H k) _ ⟨_, rfl⟩ _) (e_tile k (score_drop H k 12) 512 384 (mx3 H k) _ ⟨_, rfl⟩ _) (e_tile k (score_drop H k 12) 640 384 (mx3 H k) _ ⟨_, rfl⟩ _) _ _ _ _ _ _ (zero_const _)

theorem l4 (k : Fin k0_t3_loop.trips) : Is2 (n0 := 1) (n1 := 128) (α := EReal) (trip.sl.v2228 (F := Ideal) arg5 arg14 arg15 arg17 arg18 arg19 arg20 arg21 arg22 arg23 arg24 arg25 arg26 X5 X14 X15 X17 X18 X19 X20 X21 X22 k) (fun _ c => lf S k.val (512 + c)) :=
  col_sum (ef S k.val) 512 (e_tile k (score_drop H k 6) 0 512 (mx4 H k) _ ⟨_, rfl⟩ _) (e_tile k (score_drop H k 6) 128 512 (mx4 H k) _ ⟨_, rfl⟩ _) (e_tile k (score_drop H k 6) 256 512 (mx4 H k) _ ⟨_, rfl⟩ _) (e_tile k (score_drop H k 6) 384 512 (mx4 H k) _ ⟨_, rfl⟩ _) (e_tile k (score_drop H k 6) 512 512 (mx4 H k) _ ⟨_, rfl⟩ _) (e_tile k (score_drop H k 6) 640 512 (mx4 H k) _ ⟨_, rfl⟩ _) _ _ _ _ _ _ (zero_const _)

theorem l5 (k : Fin k0_t3_loop.trips) : Is2 (n0 := 1) (n1 := 128) (α := EReal) (shapeCast S1x128 (multiReduction .add [0] S128 (trip.sl.v2428 (F := Ideal) arg5 arg14 arg15 arg17 arg18 arg19 arg20 arg21 arg22 arg23 arg24 arg25 arg26 X5 X14 X15 X17 X18 X19 X20 X21 X22 k) 0x00000000#32 reduces_S8x128_S128 (.inl rfl) rfl) shapeCasts_S128_S1x128) (fun _ c => lf S k.val (640 + c)) :=
  col_sum (ef S k.val) 640 (e_tile k (score_drop H k 0) 0 640 (mx5 H k) _ ⟨_, rfl⟩ _) (e_tile k (score_drop H k 0) 128 640 (mx5 H k) _ ⟨_, rfl⟩ _) (e_tile k (score_drop H k 0) 256 640 (mx5 H k) _ ⟨_, rfl⟩ _) (e_tile k (score_drop H k 0) 384 640 (mx5 H k) _ ⟨_, rfl⟩ _) (e_tile k (score_drop H k 0) 512 640 (mx5 H k) _ ⟨_, rfl⟩ _) (e_tile k (score_drop H k 0) 640 640 (mx5 H k) _ ⟨_, rfl⟩ _) _ _ _ _ _ _ (zero_const _)

/-- A head's values, transposed and scaled. -/
theorem vt_mat (k : Fin k0_t3_loop.trips) : Is2 (n0 := 128) (n1 := 768) (α := EReal) (trip.sl.v1126 (F := Ideal) arg7 arg16 X7 X16 k) (fun d j => S.v k.val j d * S.vs k.val j) := by
  have h := (readAt3 (Val := Elt Ideal) (a := 1) (b := 1) (c := 768) arg7.view H.vs (k0_off34 k) 0 k.val 0 (k0_off34_eq k) (k0_off34_inb k)).cast1 shapeCasts_S1x1x768_S1x768
  have h1 := (read_head H.v k).cast1 shapeCasts_S1x768x128_S768x128
  exact ((Is2.transpose h1 transposes_S768x128_p1_0_S128x768).mul (φ := .bf16) (h.row (by decide) broadcasts_S1x768_S128x768)).congr fun a b _ _ => by
    show S.v k.val b a * S.vs (k.val + 0) (0 + b) = _
    rw [Nat.add_zero, Nat.zero_add]

/-- The rows `o … o + 255` of a head's output. -/
theorem out_piece (k : Fin k0_t3_loop.trips) (o : ℕ) (off : Fin 3 → ℕ) (hoff : off = ![0, o, 128 * k.val]) (inb : ∀ d, off d + S1x256x128.size d ≤ S1x768x1024.size d)
    {P : FVec Ideal S768x256 .bf16} (hP : Is2 (n0 := 768) (n1 := 256) (α := EReal) P (fun j c => ef S k.val j (o + c)))
    {x y : FVec Ideal S1x128 .f32} (hx : Is2 (n0 := 1) (n1 := 128) (α := EReal) x (fun _ c => lf S k.val (o + c))) (hy : Is2 (n0 := 1) (n1 := 128) (α := EReal) y (fun _ c => lf S k.val (o + 128 + c)))
    (h : Shape.Concatenates [S1x128, S1x128] S1x256 1) (hb : S1x256.Broadcasts S128x256) (ht : FTy.bf16.bits < FTy.f32.bits) (hp : S128x256.Transposes [1, 0] S256x128) (hs : S256x128.ShapeCasts S1x256x128) :
    At3 (m := 1) (n := 768) (l := 1024) (Val := Elt Ideal) (e := .bf16) (fun _ => blk S) ⟨Rect.unit (s := S1x768x1024) off S1x256x128.size inb,
      shapeCast S1x256x128 (transpose S256x128 [1, 0] (truncf .bf16 (mulf (matmul dot_S128x768_S768x256_S128x256_1_0_0_1_n_n none (trip.sl.v1126 (F := Ideal) arg7 arg16 X7 X16 k) P (constant S128x256 .f32 0x00000000#32))
        (broadcastTo S128x256 (divf (broadcast S1x256 (Scalar.ofBits .f32 0x3F800000#32)) (concatenate S1x256 1 [⟨S1x128, x⟩, ⟨S1x128, y⟩] h)) hb)) ht) hp) hs⟩ := by
  subst hoff
  have h1 : Is2 (n0 := 1) (n1 := 256) (α := EReal) (broadcast S1x256 (Scalar.ofBits (F := Ideal) .f32 0x3F800000#32) : FVec Ideal S1x256 .f32) (fun _ _ => 1) := fun _ => Ideal.ofBits_one_f32
  have hm := (Is2.nn (φ₁ := .bf16) (φ₂ := .bf16) dot_S128x768_S768x256_S128x256_1_0_0_1_n_n rfl none (vt_mat H k) hP (zero_const S128x256)).mul (φ := .f32) ((Is2.dv h1 (Is2.concat o hx hy h)).row (by decide) hb)
  have ht' : Is2 (n0 := 128) (n1 := 256) (α := EReal) (truncf .bf16 (mulf (matmul dot_S128x768_S768x256_S128x256_1_0_0_1_n_n none (trip.sl.v1126 (F := Ideal) arg7 arg16 X7 X16 k) P (constant S128x256 .f32 0x00000000#32))
        (broadcastTo S128x256 (divf (broadcast S1x256 (Scalar.ofBits .f32 0x3F800000#32)) (concatenate S1x256 1 [⟨S1x128, x⟩, ⟨S1x128, y⟩] h)) hb)) ht) _ := hm
  refine Is3.piece (Val := Elt Ideal) (e := .bf16) ((ht'.transpose hp).cast1 hs) (fun _ => blk S) 0 o (128 * k.val) inb fun r s t _ _ ht => ?_
  have e1 : (128 * k.val + t) / 128 = k.val := by omega
  have e2 : (128 * k.val + t) % 128 = t := by omega
  simp only [blk, outS, e1, e2]

end Cert.KernelIdeal.Hand.Val

end
-- ==== Proof.V.Pro.lean ====
/- The steps before the head loop: the per-head copies of the codes, the pieces of the key scales, the mask, the padded scales of the relative tables. -/
module

public import proofs.«01_k».proof.Proof.Body
public import proofs.«01_k».proof.Proof.V.Soft
public import Idealize.ShloMosaic.Lib.Pointwise
public import Idealize.ShloMosaic.Lib.Ring
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx
open scoped BigOperators

/-- The row of a relative table at padded position `m`: the table reversed, its end rows repeated. -/
def pad (m : ℕ) : ℕ := if m < 128 then 511 else if m < 640 then 639 - m else 0

/-- The scales of the keys in three pieces, eight rows each; the rest zero. -/
def kst3 (ks : ℕ → ℕ → EReal) (j d : ℕ) : EReal :=
  if d < 8 then ks d j else if d < 16 then ks (d - 8) j - ks (d - 8) j
  else if d < 24 then ks (d - 16) j - ks (d - 16) j - (ks (d - 16) j - ks (d - 16) j) else 0

/-- Zero where two tokens belong to the same segment, else the bottom. -/
def mask2 (seg : ℕ → EReal) (j i : ℕ) : EReal := if seg j = seg i then 0 else ⊥

/-! ## Operations -/

theorem Is2.bcastFn {a b : ℕ} {x : (⟨2, ![a, b]⟩ : Shape).Idx → EReal} {c : EReal} (h : ∀ j, x j = c) :
    Is2 (n0 := a) (n1 := b) (α := EReal) x (fun _ _ => c) := fun j => h j

theorem Is3.join {x : (⟨3, ![4, 8, 128]⟩ : Shape).Idx → EReal} {f : ℕ → ℕ → ℕ → EReal} (hx : Is3 x f)
    (h : (⟨3, ![4, 8, 128]⟩ : Shape).ShapeCasts ⟨2, ![32, 128]⟩) :
    Is2 (shapeCast ⟨2, ![32, 128]⟩ x h) (fun r c => f (r / 8) (r % 8) c) := fun j => by
  have h0 : (j 0).val < 32 := (j 0).isLt
  rw [shapeCast_apply x h j (ValueIdx.ix3 (⟨(j 0).val / 8, by omega⟩ : Fin 4) (⟨(j 0).val % 8, by omega⟩ : Fin 8) (j 1)) ?_, hx]
  rw [Shape.rowMajor_val_three, Shape.rowMajor_val_two]
  show ((j 0).val / 8 * 8 + (j 0).val % 8) * 128 + (j 1).val = (j 0).val * 128 + (j 1).val
  omega

theorem Is2.split32 {x : (⟨2, ![32, 128]⟩ : Shape).Idx → EReal} {f : ℕ → ℕ → EReal} (hx : Is2 x f)
    (h : (⟨2, ![32, 128]⟩ : Shape).ShapeCasts ⟨3, ![4, 8, 128]⟩) :
    Is3 (shapeCast ⟨3, ![4, 8, 128]⟩ x h) (fun u r c => f (u * 8 + r) c) := fun j => by
  have h0 : (j 0).val < 4 := (j 0).isLt
  have h1 : (j 1).val < 8 := (j 1).isLt
  rw [shapeCast_apply x h j (ValueIdx.ix2 (⟨(j 0).val * 8 + (j 1).val, by omega⟩ : Fin 32) (j 2)) ?_, hx]
  rw [Shape.rowMajor_val_three, Shape.rowMajor_val_two]
  rfl

theorem Is3.flip {x : (⟨3, ![4, 8, 128]⟩ : Shape).Idx → EReal} {f : ℕ → ℕ → ℕ → EReal} (hx : Is3 x f)
    {idx : IVec (⟨3, ![4, 8, 128]⟩ : Shape) 32} (hi : ∀ j, (idx j).toNat % 8 = 7 - (j 1).val) :
    Is3 (n0 := 4) (n1 := 8) (n2 := 128) (α := EReal) (dynamicGather 1 x idx) (fun u r c => f u (7 - r) c) := fun j => by
  unfold dynamicGather
  rw [hx]
  show f (j 0).val ((idx j).toNat % 8) (j 2).val = _
  rw [hi]

theorem Is2.flip {x : (⟨2, ![8, 128]⟩ : Shape).Idx → EReal} {f : ℕ → ℕ → EReal} (hx : Is2 x f)
    {idx : IVec (⟨2, ![8, 128]⟩ : Shape) 32} (hi : ∀ j, (idx j).toNat % 128 = 127 - (j 1).val) :
    Is2 (n0 := 8) (n1 := 128) (α := EReal) (dynamicGather 1 x idx) (fun r c => f r (127 - c)) := fun j => by
  unfold dynamicGather
  rw [hx]
  show f (j 0).val ((idx j).toNat % 128) = _
  rw [hi]

/-- Four slabs of one, in reverse. -/
theorem Is3.rev4 {x : (⟨3, ![4, 8, 128]⟩ : Shape).Idx → EReal} {f : ℕ → ℕ → ℕ → EReal} (hx : Is3 x f)
    (h0 : (⟨3, ![4, 8, 128]⟩ : Shape).Slices ![0, 0, 0] ⟨3, ![1, 8, 128]⟩) (h1 : (⟨3, ![4, 8, 128]⟩ : Shape).Slices ![1, 0, 0] ⟨3, ![1, 8, 128]⟩)
    (h2 : (⟨3, ![4, 8, 128]⟩ : Shape).Slices ![2, 0, 0] ⟨3, ![1, 8, 128]⟩) (h3 : (⟨3, ![4, 8, 128]⟩ : Shape).Slices ![3, 0, 0] ⟨3, ![1, 8, 128]⟩)
    (h : Shape.Concatenates [(⟨3, ![1, 8, 128]⟩ : Shape), ⟨3, ![1, 8, 128]⟩, ⟨3, ![1, 8, 128]⟩, ⟨3, ![1, 8, 128]⟩] ⟨3, ![4, 8, 128]⟩ 0) :
    Is3 (n0 := 4) (n1 := 8) (n2 := 128) (α := EReal) (concatenate ⟨3, ![4, 8, 128]⟩ 0 [⟨⟨3, ![1, 8, 128]⟩, extractStridedSlice ⟨3, ![1, 8, 128]⟩ ![3, 0, 0] x h3⟩, ⟨⟨3, ![1, 8, 128]⟩, extractStridedSlice ⟨3, ![1, 8, 128]⟩ ![2, 0, 0] x h2⟩,
      ⟨⟨3, ![1, 8, 128]⟩, extractStridedSlice ⟨3, ![1, 8, 128]⟩ ![1, 0, 0] x h1⟩, ⟨⟨3, ![1, 8, 128]⟩, extractStridedSlice ⟨3, ![1, 8, 128]⟩ ![0, 0, 0] x h0⟩] h)
      (fun u r c => f (3 - u) r c) := fun j => by
  have hj : (j 0).val < 4 := (j 0).isLt
  have piece : ∀ (k : ℕ) (hk : k < 4) (hs : (⟨3, ![4, 8, 128]⟩ : Shape).Slices ![3 - k, 0, 0] ⟨3, ![1, 8, 128]⟩), (j 0).val = k →
      extractStridedSlice ⟨3, ![1, 8, 128]⟩ ![3 - k, 0, 0] x hs (ValueIdx.ix3 (0 : Fin 1) (j 1) (j 2)) = f (3 - (j 0).val) (j 1).val (j 2).val := fun k hk hs e => by
    refine (hx _).trans ?_
    show f ((3 - k) + 0) (0 + (j 1).val) (0 + (j 2).val) = _
    rw [Nat.add_zero, Nat.zero_add, Nat.zero_add, e]
  have off : ∀ b : Fin 3, b.cast (rfl : 3 = 3) ≠ 0 → ((ValueIdx.ix3 (0 : Fin 1) (j 1) (j 2) : (⟨3, ![1, 8, 128]⟩ : Shape).Idx) b).val = (j (b.cast rfl)).val := fun b hb => by
    match b with
    | ⟨0, _⟩ => exact absurd rfl hb
    | ⟨1, _⟩ => rfl
    | ⟨2, _⟩ => rfl
  rcases (by omega : (j 0).val = 0 ∨ (j 0).val = 1 ∨ (j 0).val = 2 ∨ (j 0).val = 3) with e | e | e | e
  · exact Eq.trans (concatenate_apply_piece _ _ _ j 0 (by show 0 < 4; decide) _ _ (by exact rfl) (by exact rfl) 0 (by exact rfl) (ValueIdx.ix3 (0 : Fin 1) (j 1) (j 2)) off (by exact e.symm)) (piece 0 (by omega) h3 e)
  · exact Eq.trans (concatenate_apply_piece _ _ _ j 1 (by show 1 < 4; decide) _ _ (by exact rfl) (by exact rfl) 1 (by exact rfl) (ValueIdx.ix3 (0 : Fin 1) (j 1) (j 2)) off (by exact e.symm)) (piece 1 (by omega) h2 e)
  · exact Eq.trans (concatenate_apply_piece _ _ _ j 2 (by show 2 < 4; decide) _ _ (by exact rfl) (by exact rfl) 2 (by exact rfl) (ValueIdx.ix3 (0 : Fin 1) (j 1) (j 2)) off (by exact e.symm)) (piece 2 (by omega) h1 e)
  · exact Eq.trans (concatenate_apply_piece _ _ _ j 3 (by show 3 < 4; decide) _ _ (by exact rfl) (by exact rfl) 3 (by exact rfl) (ValueIdx.ix3 (0 : Fin 1) (j 1) (j 2)) off (by exact e.symm)) (piece 3 (by omega) h0 e)

/-- Three bands of eight rows over a band of zeros. -/
theorem Is2.bands {x0 x1 x2 : S8x768.Idx → EReal} {x3 : S104x768.Idx → EReal} {f0 f1 f2 f3 : ℕ → ℕ → EReal}
    (h0 : Is2 (n0 := 8) (n1 := 768) x0 f0) (h1 : Is2 (n0 := 8) (n1 := 768) x1 f1) (h2 : Is2 (n0 := 8) (n1 := 768) x2 f2) (h3 : Is2 (n0 := 104) (n1 := 768) x3 f3)
    (h : Shape.Concatenates [S8x768, S8x768, S8x768, S104x768] S128x768 0) :
    Is2 (n0 := 128) (n1 := 768) (α := EReal) (concatenate S128x768 0 [⟨S8x768, x0⟩, ⟨S8x768, x1⟩, ⟨S8x768, x2⟩, ⟨S104x768, x3⟩] h)
      (fun d j => if d < 8 then f0 d j else if d < 16 then f1 (d - 8) j else if d < 24 then f2 (d - 16) j else f3 (d - 24) j) := fun j => by
  have hj : (j 0).val < 128 := (j 0).isLt
  show _ = if (j 0).val < 8 then f0 (j 0).val (j 1).val else if (j 0).val < 16 then f1 ((j 0).val - 8) (j 1).val else if (j 0).val < 24 then f2 ((j 0).val - 16) (j 1).val else f3 ((j 0).val - 24) (j 1).val
  have off : ∀ {n : ℕ} (a : Fin n) (b : Fin 2), b.cast (rfl : 2 = 2) ≠ 0 → ((ValueIdx.ix2 a (j 1) : (⟨2, ![n, 768]⟩ : Shape).Idx) b).val = (j (b.cast rfl)).val := fun a b hb => by
    match b with
    | ⟨0, _⟩ => exact absurd rfl hb
    | ⟨1, _⟩ => rfl
  by_cases c0 : (j 0).val < 8
  · rw [if_pos c0]
    exact Eq.trans (concatenate_apply_piece _ _ _ j 0 (by show 0 < 4; decide) _ _ (by exact rfl) (by exact rfl) 0 (by exact rfl) (ValueIdx.ix2 (⟨(j 0).val, c0⟩ : Fin 8) (j 1)) (off _) (Nat.zero_add _)) (h0 _)
  rw [if_neg c0]
  by_cases c1 : (j 0).val < 16
  · rw [if_pos c1]
    exact Eq.trans (concatenate_apply_piece _ _ _ j 1 (by show 1 < 4; decide) _ _ (by exact rfl) (by exact rfl) 8 (by exact rfl) (ValueIdx.ix2 (⟨(j 0).val - 8, by omega⟩ : Fin 8) (j 1)) (off _) (by show 8 + ((j 0).val - 8) = _; omega)) (h1 _)
  rw [if_neg c1]
  by_cases c2 : (j 0).val < 24
  · rw [if_pos c2]
    exact Eq.trans (concatenate_apply_piece _ _ _ j 2 (by show 2 < 4; decide) _ _ (by exact rfl) (by exact rfl) 16 (by exact rfl) (ValueIdx.ix2 (⟨(j 0).val - 16, by omega⟩ : Fin 8) (j 1)) (off _) (by show 16 + ((j 0).val - 16) = _; omega)) (h2 _)
  rw [if_neg c2]
  exact Eq.trans (concatenate_apply_piece _ _ _ j 3 (by show 3 < 4; decide) _ _ (by exact rfl) (by exact rfl) 24 (by exact rfl) (ValueIdx.ix2 (⟨(j 0).val - 24, by omega⟩ : Fin 104) (j 1)) (off _) (by show 24 + ((j 0).val - 24) = _; omega)) (h3 _)

/-- Stores covering a buffer, read back. -/
theorem whole3 {m n l : ℕ} {e : EltTy} (arg : Memref sig .tc .vmem (⟨3, ![m, n, l]⟩ : Shape) e) (G : BufTy.Contents (Elt Ideal) arg.view.ty)
    {L : List (View.Piece (Elt Ideal) (⟨3, ![m, n, l]⟩ : Shape) e)} {f : ℕ → ℕ → ℕ → Elt Ideal e} (hL : ∀ p ∈ L, At3 (Val := Elt Ideal) f p)
    (hc : ∀ y : (⟨3, ![m, n, l]⟩ : Shape).Idx, ∃ p ∈ L, y ∈ p.1.set) :
    Is3 (arg.view.read (Elt Ideal) (arg.view.writes (Elt Ideal) G L)) f := fun j =>
  View.read_writes_apply_of_pieces (Val := Elt Ideal) arg.view G (fun y => f (y 0).val (y 1).val (y 2).val) L hL j (hc j)

theorem whole2 {m n : ℕ} {e : EltTy} (arg : Memref sig .tc .vmem (⟨2, ![m, n]⟩ : Shape) e) (G : BufTy.Contents (Elt Ideal) arg.view.ty)
    {L : List (View.Piece (Elt Ideal) (⟨2, ![m, n]⟩ : Shape) e)} {f : ℕ → ℕ → Elt Ideal e} (hL : ∀ p ∈ L, At2 (Val := Elt Ideal) f p)
    (hc : ∀ y : (⟨2, ![m, n]⟩ : Shape).Idx, ∃ p ∈ L, y ∈ p.1.set) :
    Is2 (arg.view.read (Elt Ideal) (arg.view.writes (Elt Ideal) G L)) f := fun j =>
  View.read_writes_apply_of_pieces (Val := Elt Ideal) arg.view G (fun y => f (y 0).val (y 1).val) L hL j (hc j)

/-! ## The heads' splits -/

/-- One head's rows of a block of codes. -/
theorem split_piece {arg : Memref sig .tc .vmem S1x768x8x128 .fp8e4m3} {X : BufTy.Contents (Elt Ideal) arg.view.ty} {f : ℕ → ℕ → ℕ → EReal}
    (hX : Is4 (n0 := 1) (n1 := 768) (n2 := 8) (n3 := 128) (α := EReal) (arg.view.read (Elt Ideal) X) (fun _ s h d => f h s d)) (x : ℕ)
    (i4 : ∀ a, (![0, 0, 0, 0] : Fin 4 → ℕ) a + S1x768x8x128.size a ≤ S1x768x8x128.size a) (hs) (hq : S1x768x8x128.Squeezes S768x8x128)
    (i3 : ∀ a, (![0, x, 0] : Fin 3 → ℕ) a + S768x1x128.size a ≤ S768x8x128.size a) (inb : ∀ a, (![x, 0, 0] : Fin 3 → ℕ) a + S1x768x128.size a ≤ S8x768x128.size a) :
    At3 (m := 8) (n := 768) (l := 128) (Val := Elt Ideal) (e := .fp8e4m3) f ⟨Rect.unit ![x, 0, 0] S1x768x128.size inb,
      shapeCast S1x768x128 (shapeCast S768x128 (View.readAt (Elt Ideal) ((arg.slice (Rect.unit (s := S1x768x8x128) ![0, 0, 0, 0] S1x768x8x128.size i4) hs).squeeze S768x8x128 hq).view
        (Rect.unit (s := S768x8x128) ![0, x, 0] S768x1x128.size i3).toLoadRect X) shapeCasts_S768x1x128_S768x128) shapeCasts_S768x128_S1x768x128⟩ := by
  have h0 : Is3 (n0 := 768) (n1 := 8) (n2 := 128) (α := EReal) (((arg.slice (Rect.unit (s := S1x768x8x128) ![0, 0, 0, 0] S1x768x8x128.size i4) hs).squeeze S768x8x128 hq).view.read (Elt Ideal) X)
      (fun s h d => f h s d) := fun j => by
    refine (congrFun (Memref.read_squeeze_slice arg _ hs hq (show Shape.ShapeCasts ⟨4, ![1, 768, 8, 128]⟩ ⟨3, ![768, 8, 128]⟩ by decide) X) j).trans ?_
    refine (shapeCast_apply _ _ j (ValueIdx.ix4 (0 : Fin 1) (j 0) (j 1) (j 2)) ?_).trans ?_
    · rw [Shape.rowMajor_val_four, Shape.rowMajor_val_three]
      show (((0 * 768 + (j 0).val) * 8 + (j 1).val) * 128 + (j 2).val) = ((j 0).val * 8 + (j 1).val) * 128 + (j 2).val
      omega
    · refine (hX _).trans ?_
      show f (0 + 1 * (j 1).val) (0 + 1 * (j 0).val) (0 + 1 * (j 2).val) = _
      simp only [Nat.one_mul, Nat.zero_add]
  exact Is3.piece (Val := Elt Ideal) (e := .fp8e4m3) (((readAt3 (Val := Elt Ideal) _ h0 _ 0 x 0 rfl i3).castMid _).cast1 _) f x 0 0 inb fun r s t hr _ _ => by
    rw [Nat.lt_one_iff.1 hr]

theorem split_pieces {arg : Memref sig .tc .vmem S1x768x8x128 .fp8e4m3} {X : BufTy.Contents (Elt Ideal) arg.view.ty} {f : ℕ → ℕ → ℕ → EReal}
    (hX : Is4 (n0 := 1) (n1 := 768) (n2 := 8) (n3 := 128) (α := EReal) (arg.view.read (Elt Ideal) X) (fun _ s h d => f h s d)) :
    ∀ p ∈ bodyA.sl.H14_8 (F := Ideal) arg X, At3 (m := 8) (n := 768) (l := 128) (Val := Elt Ideal) (e := .fp8e4m3) f p := by
  iterate 8 refine List.forall_mem_cons.2 ⟨split_piece hX _ _ _ _ _ _, ?_⟩
  exact fun _ h => absurd h List.not_mem_nil

/-- The heads of a block, read back. -/
theorem split_whole {arg : Memref sig .tc .vmem S1x768x8x128 .fp8e4m3} {X : BufTy.Contents (Elt Ideal) arg.view.ty} {f : ℕ → ℕ → ℕ → EReal}
    (hX : Is4 (n0 := 1) (n1 := 768) (n2 := 8) (n3 := 128) (α := EReal) (arg.view.read (Elt Ideal) X) (fun _ s h d => f h s d))
    (arg' : Memref sig .tc .vmem S8x768x128 .fp8e4m3) (G : BufTy.Contents (Elt Ideal) arg'.view.ty) :
    Is3 (n0 := 8) (n1 := 768) (n2 := 128) (α := EReal) (arg'.view.read (Elt Ideal) (arg'.view.writes (Elt Ideal) G (bodyA.sl.H14_8 (F := Ideal) arg X))) f :=
  whole3 arg' G (split_pieces hX) (View.cover_of_tiledL _ ![1, 768, 128] (by sl_kernel_rfl))

/-! ## The scales of the keys -/

theorem kst_piece {arg6 : Memref sig .tc .vmem S1x8x768 .f32} {X6 : BufTy.Contents (Elt Ideal) arg6.view.ty} {ks : ℕ → ℕ → EReal}
    (hX : Is3 (n0 := 1) (n1 := 8) (n2 := 768) (α := EReal) (arg6.view.read (Elt Ideal) X6) (fun _ => ks)) (o : ℕ) (hs : S128x768.Slices ![0, o] S128x128)
    (inb : ∀ a, (![o, 0] : Fin 2 → ℕ) a + S128x128.size a ≤ S768x128.size a) (hb) :
    At2 (m := 768) (n := 128) (Val := Elt Ideal) (e := .bf16) (kst3 ks) ⟨Rect.unit ![o, 0] S128x128.size inb,
      shapeCast S128x128 (truncf .bf16 (transpose S128x128 [1, 0] (extractStridedSlice S128x128 ![0, o] (bodyA.sl.v181 (F := Ideal) arg6 X6) hs) transposes_S128x128_p1_0_S128x128) hb) shapeCasts_S128x128_S128x128⟩ := by
  have h0 : Is2 (n0 := 8) (n1 := 768) (α := EReal) (bodyA.sl.v172 (F := Ideal) arg6 X6) ks :=
    ((readAt3 (Val := Elt Ideal) arg6.view hX _ 0 0 0 rfl _).cast1 shapeCasts_S1x8x768_S8x768).congr fun r c _ _ => by rw [Nat.zero_add, Nat.zero_add]
  have p0 : Is2 (n0 := 8) (n1 := 768) (α := EReal) (bodyA.sl.v174 (F := Ideal) arg6 X6) ks := h0
  have d1 : Is2 (n0 := 8) (n1 := 768) (α := EReal) (bodyA.sl.v175 (F := Ideal) arg6 X6) (fun d j => ks d j - ks d j) := h0.sub (φ := .f32) p0
  have p1 : Is2 (n0 := 8) (n1 := 768) (α := EReal) (bodyA.sl.v177 (F := Ideal) arg6 X6) (fun d j => ks d j - ks d j) := d1
  have p2 : Is2 (n0 := 8) (n1 := 768) (α := EReal) (bodyA.sl.v179 (F := Ideal) arg6 X6) (fun d j => ks d j - ks d j - (ks d j - ks d j)) := d1.sub (φ := .f32) p1
  have z : Is2 (n0 := 104) (n1 := 768) (α := EReal) (bodyA.sl.v180 (F := Ideal)) (fun _ _ => 0) := fun j => Ideal.ofBits_zero_f32
  have hp : Is2 (n0 := 128) (n1 := 768) (α := EReal) (bodyA.sl.v181 (F := Ideal) arg6 X6) _ := Is2.bands p0 p1 p2 z _
  have hw : Is2 (n0 := 128) (n1 := 128) (α := EReal) (truncf (F := Ideal) .bf16 (transpose S128x128 [1, 0] (extractStridedSlice S128x128 ![0, o] (bodyA.sl.v181 (F := Ideal) arg6 X6) hs) transposes_S128x128_p1_0_S128x128) hb) _ := (hp.slice 0 o hs).transpose _
  exact Is2.piece (Val := Elt Ideal) (e := .bf16) (hw.castSelf _) (kst3 ks) o 0 inb fun r c _ _ => by
    simp only [Nat.zero_add]
    rfl

theorem kst_whole {arg6 : Memref sig .tc .vmem S1x8x768 .f32} {X6 : BufTy.Contents (Elt Ideal) arg6.view.ty} {ks : ℕ → ℕ → EReal}
    (hX : Is3 (n0 := 1) (n1 := 8) (n2 := 768) (α := EReal) (arg6.view.read (Elt Ideal) X6) (fun _ => ks))
    (arg21 : Memref sig .tc .vmem S768x128 .bf16) (G : BufTy.Contents (Elt Ideal) arg21.view.ty) :
    Is2 (n0 := 768) (n1 := 128) (α := EReal) (arg21.view.read (Elt Ideal) (arg21.view.writes (Elt Ideal) G (bodyA.sl.H21_6 (F := Ideal) arg6 X6))) (kst3 ks) := by
  refine whole2 arg21 G (e := .bf16) ?_ (View.cover_of_tiledL _ ![128, 128] (by sl_kernel_rfl))
  iterate 6 refine List.forall_mem_cons.2 ⟨kst_piece hX _ _ _ _, ?_⟩
  exact fun _ h => absurd h List.not_mem_nil

/-! ## The mask -/

theorem mask_piece {sg : FVec Ideal S1x768 .f32} {seg : ℕ → EReal} (hsg : Is2 (n0 := 1) (n1 := 768) (α := EReal) sg (fun _ j => seg j)) (o1 o2 : ℕ)
    (h1 : S1x768.Slices ![0, o1] S1x128) (h2 : S1x768.Slices ![0, o2] S1x128) (inb : ∀ a, (![o1, o2] : Fin 2 → ℕ) a + S128x128.size a ≤ S768x768.size a) :
    At2 (m := 768) (n := 768) (Val := Elt Ideal) (e := .f32) (mask2 seg) ⟨Rect.unit ![o1, o2] S128x128.size inb,
      shapeCast S128x128 (select (cmpf .oeq (transpose S128x128 [1, 0] (broadcastTo S128x128 (shapeCast S1x128 (extractStridedSlice S1x128 ![0, o1] sg h1) shapeCasts_S1x128_S1x128) broadcasts_S1x128_S128x128) transposes_S128x128_p1_0_S128x128)
        (broadcastTo S128x128 (extractStridedSlice S1x128 ![0, o2] sg h2) broadcasts_S1x128_S128x128))
        (broadcast S128x128 (FloatOps.ofBits (F := Ideal) .f32 0#32)) (broadcast S128x128 (FloatOps.ofBits (F := Ideal) .f32 4286578688#32))) shapeCasts_S128x128_S128x128⟩ := by
  have a1 : Is2 (n0 := 128) (n1 := 128) (α := EReal) (transpose S128x128 [1, 0] (broadcastTo S128x128 (shapeCast S1x128 (extractStridedSlice S1x128 ![0, o1] sg h1) shapeCasts_S1x128_S1x128) broadcasts_S1x128_S128x128) transposes_S128x128_p1_0_S128x128)
      (fun r _ => seg (o1 + r)) := ((((hsg.slice 0 o1 h1).castSelf _).row (by decide) _).transpose _)
  have a2 : Is2 (n0 := 128) (n1 := 128) (α := EReal) (broadcastTo S128x128 (extractStridedSlice S1x128 ![0, o2] sg h2) broadcasts_S1x128_S128x128) (fun _ c => seg (o2 + c)) :=
    (hsg.slice 0 o2 h2).row (by decide) _
  refine Is2.piece (Val := Elt Ideal) (e := .f32) (g := fun r c => mask2 seg (o1 + r) (o2 + c)) (Is2.castSelf (fun j => ?_) _) (mask2 seg) o1 o2 inb fun r c _ _ => rfl
  rw [ValueIdx.select_apply, ValueIdx.cmpf_apply, a1, a2]
  show Scalar.select (Ideal.cmp .oeq _ _) (Ideal.ofBits .f32 0#32) (Ideal.ofBits .f32 4286578688#32) = _
  rw [Ideal.ofBits_zero_f32, neg_inf]
  unfold Scalar.select Ideal.cmp mask2
  by_cases e : seg (o1 + (j 0).val) = seg (o2 + (j 1).val) <;> simp [e]

theorem mask_whole {arg12 : Memref sig .tc .vmem S1x1x768 .i32} {X12 : BufTy.Contents (Elt Ideal) arg12.view.ty} {seg : ℕ → EReal}
    (hsg : Is2 (n0 := 1) (n1 := 768) (α := EReal) (bodyA.sl.v220 (F := Ideal) arg12 X12) (fun _ j => seg j))
    (arg22 : Memref sig .tc .vmem S768x768 .f32) (G : BufTy.Contents (Elt Ideal) arg22.view.ty) :
    Is2 (n0 := 768) (n1 := 768) (α := EReal) (arg22.view.read (Elt Ideal) (arg22.view.writes (Elt Ideal) G (bodyA.sl.H22_36 (F := Ideal) arg12 X12))) (mask2 seg) := by
  refine whole2 arg22 G (e := .f32) ?_ (View.cover_of_tiledL _ ![128, 128] (by sl_kernel_rfl))
  iterate 36 refine List.forall_mem_cons.2 ⟨mask_piece hsg _ _ _ _ _, ?_⟩
  exact fun _ h => absurd h List.not_mem_nil

/-! ## The relative scales -/

/-- Positions counted down from 127. -/
theorem down_nat : ∀ n < 128, (Scalar.select (Scalar.cmpi .slt (127#32 - BitVec.ofNat 32 n) 0#32) ((127#32 - BitVec.ofNat 32 n) + 128#32) (127#32 - BitVec.ofNat 32 n)).toNat % 128 = 127 - n := by
  decide +kernel

theorem down_cast : bodyA.sl.v881 = bodyA.sl.v879 := shapeCast_shapeCast _ _ _

theorem down_idx (j : S8x128.Idx) : ((bodyA.sl.v881) j).toNat % 128 = 127 - (j 1).val := by
  rw [down_cast]
  have e : bodyA.sl.v870 j = BitVec.ofNat 32 (j 1).val := iota_single_apply _ _ _ _ _ _
  refine Eq.trans ?_ (down_nat (j 1).val (j 1).isLt)
  rw [← e]
  rfl

theorem rel_piece {arg : Memref sig .tc .vmem S8x512 .f32} {X : BufTy.Contents (Elt Ideal) arg.view.ty} {f : ℕ → ℕ → EReal} {m : EReal}
    (hX : Is2 (n0 := 8) (n1 := 512) (α := EReal) (arg.view.read (Elt Ideal) X) f) {cv : FVec Ideal S8x128 .f32} (hm : ∀ j, cv j = m) (t o : ℕ) (ht : t = 128 ∨ t = 256 ∨ t = 384 ∨ t = 512)
    (ho : o + t = 512) (i1 : ∀ a, (![0, o] : Fin 2 → ℕ) a + S8x128.size a ≤ S8x512.size a) (inb : ∀ a, (![0, t] : Fin 2 → ℕ) a + S8x128.size a ≤ S8x768.size a) :
    At2 (m := 8) (n := 768) (Val := Elt Ideal) (e := .f32) (fun h p => f h (pad p) * m) ⟨Rect.unit ![0, t] S8x128.size inb,
      shapeCast S8x128 (mulf (dynamicGather 1 (shapeCast S8x128 (View.readAt (Elt Ideal) arg.view (Rect.unit (s := S8x512) ![0, o] S8x128.size i1).toLoadRect X) shapeCasts_S8x128_S8x128) bodyA.sl.v881) cv) shapeCasts_S8x128_S8x128⟩ := by
  refine Is2.piece (Val := Elt Ideal) (e := .f32) (Is2.castSelf (Is2.mul (φ := .f32) (Is2.flip ((readAt2 (Val := Elt Ideal) arg.view hX 0 o i1).castSelf _) down_idx) (Is2.bcastFn hm)) _) _ 0 t inb fun r c _ hc => ?_
  show f (0 + r) (o + (127 - c)) * m = f (0 + r) (pad (t + c)) * m
  have : pad (t + c) = o + (127 - c) := by unfold pad; rw [if_neg (by omega), if_pos (by omega)]; omega
  rw [this]

theorem end_piece {arg : Memref sig .tc .vmem S8x512 .f32} {X : BufTy.Contents (Elt Ideal) arg.view.ty} {f : ℕ → ℕ → EReal} {m : EReal}
    (hX : Is2 (n0 := 8) (n1 := 512) (α := EReal) (arg.view.read (Elt Ideal) X) f) {cv : FVec Ideal S8x128 .f32} (hm : ∀ j, cv j = m) (t o : ℕ) (ht : (t = 0 ∧ o = 511) ∨ (t = 640 ∧ o = 0))
    (i1 : ∀ a, (![0, o] : Fin 2 → ℕ) a + S8x1.size a ≤ S8x512.size a) (inb : ∀ a, (![0, t] : Fin 2 → ℕ) a + S8x128.size a ≤ S8x768.size a) :
    At2 (m := 8) (n := 768) (Val := Elt Ideal) (e := .f32) (fun h p => f h (pad p) * m) ⟨Rect.unit ![0, t] S8x128.size inb,
      shapeCast S8x128 (mulf (broadcastTo S8x128 (shapeCast S8x1 (shapeCast S8x1 (View.readAt (Elt Ideal) arg.view (Rect.unit (s := S8x512) ![0, o] S8x1.size i1).toLoadRect X) shapeCasts_S8x1_S8x1) shapeCasts_S8x1_S8x1) broadcasts_S8x1_S8x128) cv) shapeCasts_S8x128_S8x128⟩ := by
  refine Is2.piece (Val := Elt Ideal) (e := .f32) (Is2.castSelf (Is2.mul (φ := .f32) (Is2.col (by decide) (((readAt2 (Val := Elt Ideal) arg.view hX 0 o i1).castSelf _).castSelf _) _) (Is2.bcastFn hm)) _) _ 0 t inb fun r c _ hc => ?_
  show f (0 + r) (o + 0) * m = f (0 + r) (pad (t + c)) * m
  have : pad (t + c) = o + 0 := by
    unfold pad
    rcases ht with ⟨rfl, rfl⟩ | ⟨rfl, rfl⟩
    · rw [if_pos (by omega)]
    · rw [if_neg (by omega), if_neg (by omega)]
  rw [this]

theorem krs_whole {arg : Memref sig .tc .vmem S8x512 .f32} {X : BufTy.Contents (Elt Ideal) arg.view.ty} {f : ℕ → ℕ → EReal}
    (hX : Is2 (n0 := 8) (n1 := 512) (α := EReal) (arg.view.read (Elt Ideal) X) f) (arg' : Memref sig .tc .vmem S8x768 .f32) (G : BufTy.Contents (Elt Ideal) arg'.view.ty) :
    Is2 (n0 := 8) (n1 := 768) (α := EReal) (arg'.view.read (Elt Ideal) (arg'.view.writes (Elt Ideal) G (bodyA.sl.H19_6 (F := Ideal) arg X))) (fun h p => f h (pad p) * 1) := by
  refine whole2 arg' G (e := .f32) ?_ (View.cover_of_tiledL _ ![8, 128] (by sl_kernel_rfl))
  have hm : ∀ j, (bodyA.sl.v883 (F := Ideal)) j = (1 : EReal) := fun j => Ideal.ofBits_one_f32
  refine List.forall_mem_cons.2 ⟨end_piece hX hm 640 0 (by decide) _ _, List.forall_mem_cons.2 ⟨end_piece hX hm 0 511 (by decide) _ _,
    List.forall_mem_cons.2 ⟨rel_piece hX hm 512 0 (by decide) (by decide) _ _, List.forall_mem_cons.2 ⟨rel_piece hX hm 384 128 (by decide) (by decide) _ _,
    List.forall_mem_cons.2 ⟨rel_piece hX hm 256 256 (by decide) (by decide) _ _, List.forall_mem_cons.2 ⟨rel_piece hX hm 128 384 (by decide) (by decide) _ _,
    fun _ h => absurd h List.not_mem_nil⟩⟩⟩⟩⟩⟩

theorem qrs_whole {arg : Memref sig .tc .vmem S8x512 .f32} {X : BufTy.Contents (Elt Ideal) arg.view.ty} {f : ℕ → ℕ → EReal}
    (hX : Is2 (n0 := 8) (n1 := 512) (α := EReal) (arg.view.read (Elt Ideal) X) f) (arg' : Memref sig .tc .vmem S8x768 .f32) (G : BufTy.Contents (Elt Ideal) arg'.view.ty) :
    Is2 (n0 := 8) (n1 := 768) (α := EReal) (arg'.view.read (Elt Ideal) (arg'.view.writes (Elt Ideal) G (bodyA.sl.H20_6 (F := Ideal) arg X))) (fun h p => f h (pad p) * L) := by
  refine whole2 arg' G (e := .f32) ?_ (View.cover_of_tiledL _ ![8, 128] (by sl_kernel_rfl))
  refine List.forall_mem_cons.2 ⟨end_piece hX (fun j => IdealRules.named_const.ideal_named_scalar _ _ _ _ rfl) 640 0 (by decide) _ _, List.forall_mem_cons.2 ⟨end_piece hX (fun j => IdealRules.named_const.ideal_named_scalar _ _ _ _ rfl) 0 511 (by decide) _ _,
    List.forall_mem_cons.2 ⟨rel_piece hX (fun j => IdealRules.named_const.ideal_named_scalar _ _ _ _ rfl) 512 0 (by decide) (by decide) _ _, List.forall_mem_cons.2 ⟨rel_piece hX (fun j => IdealRules.named_const.ideal_named_scalar _ _ _ _ rfl) 384 128 (by decide) (by decide) _ _,
    List.forall_mem_cons.2 ⟨rel_piece hX (fun j => IdealRules.named_const.ideal_named_scalar _ _ _ _ rfl) 256 256 (by decide) (by decide) _ _, List.forall_mem_cons.2 ⟨rel_piece hX (fun j => IdealRules.named_const.ideal_named_scalar _ _ _ _ rfl) 128 384 (by decide) (by decide) _ _,
    fun _ h => absurd h List.not_mem_nil⟩⟩⟩⟩⟩⟩

end Cert.KernelIdeal.Hand.Val

end
-- ==== Proof.V.Pro2.lean ====
/- The reversed and padded relative tables, which the first batch of a group of heads leaves for both. -/
module

public import proofs.«01_k».proof.Proof.V.Pro
public import Idealize.ShloMosaic.Lib.Pointwise
public import Idealize.ShloMosaic.Lib.Ring
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open scoped BigOperators

/-! ## The relative tables' rows, reversed -/

theorem flip_nat : ∀ n < 8, (Scalar.select (Scalar.cmpi .slt (7#32 - BitVec.ofNat 32 n) 0#32) ((7#32 - BitVec.ofNat 32 n) + 8#32) (7#32 - BitVec.ofNat 32 n)).toNat % 8 = 7 - n := by
  decide +kernel

theorem flip_idx (j : S4x8x128.Idx) : (shapeCast S4x8x128 (shapeCast S4x8x128x1 trip_k0_t1.sl.v1044 shapeCasts_S4x8x128_S4x8x128x1) shapeCasts_S4x8x128x1_S4x8x128 j).toNat % 8 = 7 - (j 1).val := by
  rw [shapeCast_shapeCast]
  have e : iota .tc S4x8x128 32 [1] iota_S4x8x128_d1_w32 j = BitVec.ofNat 32 (j 1).val := iota_single_apply _ _ _ _ _ _
  refine Eq.trans ?_ (flip_nat (j 1).val (j 1).isLt)
  rw [← e]
  rfl

/-- Thirty-two rows in reverse. -/
theorem rev_pay {z : S32x1x128.Idx → EReal} {f : ℕ → ℕ → ℕ → EReal} (hz : Is3 (n0 := 32) (n1 := 1) (n2 := 128) (α := EReal) z f) :
    Is3 (n0 := 1) (n1 := 32) (n2 := 128) (α := EReal) (k0_pay31 (F := Ideal) z) (fun _ r d => f (31 - r) 0 d) := by
  have h1 : Is2 (n0 := 32) (n1 := 128) (α := EReal) (extf (F := Ideal) .f32 (shapeCast S32x128 (α := Ideal .fp8e4m3) z shapeCasts_S32x1x128_S32x128) bitsLt_fp8e4m3_f32) (fun r d => f r 0 d) := hz.castMid _
  have h2 := Is3.rev4 (Is3.flip (Is2.split32 h1 shapeCasts_S32x128_S4x8x128) flip_idx) slices_S4x8x128_o0_0_0_S1x8x128 slices_S4x8x128_o1_0_0_S1x8x128 slices_S4x8x128_o2_0_0_S1x8x128 slices_S4x8x128_o3_0_0_S1x8x128
    (by decide)
  have h3 : Is3 (n0 := 1) (n1 := 32) (n2 := 128) (α := EReal) (k0_pay31 (F := Ideal) z) _ := Is2.cast1 (Is3.join h2 shapeCasts_S4x8x128_S32x128) shapeCasts_S32x128_S1x32x128
  refine h3.congr fun a r d _ hr _ => ?_
  show f ((3 - r / 8) * 8 + (7 - r % 8)) 0 d = f (31 - r) 0 d
  rw [show (3 - r / 8) * 8 + (7 - r % 8) = 31 - r by omega]

/-- The reversed rows of one head, in their place. -/
theorem rev_piece {arg : Memref sig .tc .vmem S512x8x128 .fp8e4m3} {X : BufTy.Contents (Elt Ideal) arg.view.ty} {f : ℕ → ℕ → ℕ → EReal}
    (hX : Is3 (n0 := 512) (n1 := 8) (n2 := 128) (α := EReal) (arg.view.read (Elt Ideal) X) f) (k : ℕ) (hk : k < 16) (x : ℕ)
    (o1 : Fin 3 → ℕ) (e1 : o1 = ![480 - 32 * k, x, 0]) (o2 : Fin 3 → ℕ) (e2 : o2 = ![x, 32 * k + 128, 0])
    (i1 : ∀ a, o1 a + S32x1x128.size a ≤ S512x8x128.size a) (i2 : ∀ a, o2 a + S1x32x128.size a ≤ S8x768x128.size a) :
    At3 (m := 8) (n := 768) (l := 128) (Val := Elt Ideal) (e := .fp8e4m3) (fun h p d => f (pad p) h d) ⟨Rect.unit (s := S8x768x128) o2 S1x32x128.size i2,
      k0_pay31 (F := Ideal) (View.readAt (Elt Ideal) arg.view (Rect.unit (s := S512x8x128) o1 S32x1x128.size i1).toLoadRect X)⟩ := by
  subst e1 e2
  refine Is3.piece (Val := Elt Ideal) (e := .fp8e4m3) (rev_pay (readAt3 (Val := Elt Ideal) arg.view hX _ (480 - 32 * k) x 0 rfl i1)) _ x (32 * k + 128) 0 i2 fun a r d ha hr _ => ?_
  show f (480 - 32 * k + (31 - r)) (x + 0) (0 + d) = f (pad (32 * k + 128 + r)) (x + a) (0 + d)
  have h1 : pad (32 * k + 128 + r) = 480 - 32 * k + (31 - r) := by unfold pad; rw [if_neg (by omega), if_pos (by omega)]; omega
  rw [h1, Nat.lt_one_iff.1 ha]

/-- A row repeated past an end. -/
theorem edge_piece {arg : Memref sig .tc .vmem S512x8x128 .fp8e4m3} {X : BufTy.Contents (Elt Ideal) arg.view.ty} {f : ℕ → ℕ → ℕ → EReal}
    (hX : Is3 (n0 := 512) (n1 := 8) (n2 := 128) (α := EReal) (arg.view.read (Elt Ideal) X) f) (x row pos : ℕ) (hr : (pos = 0 ∧ row = 511) ∨ (pos = 640 ∧ row = 0))
    (i1 : ∀ a, (![row, x, 0] : Fin 3 → ℕ) a + S1x1x128.size a ≤ S512x8x128.size a) (i2 : ∀ a, (![x, pos, 0] : Fin 3 → ℕ) a + S1x128x128.size a ≤ S8x768x128.size a) :
    At3 (m := 8) (n := 768) (l := 128) (Val := Elt Ideal) (e := .fp8e4m3) (fun h p d => f (pad p) h d) ⟨Rect.unit (s := S8x768x128) ![x, pos, 0] S1x128x128.size i2,
      k0_pay58 (F := Ideal) (View.readAt (Elt Ideal) arg.view (Rect.unit (s := S512x8x128) ![row, x, 0] S1x1x128.size i1).toLoadRect X)⟩ := by
  have h0 : Is2 (n0 := 1) (n1 := 128) (α := EReal) (extf (F := Ideal) .f32 (shapeCast S1x128 (View.readAt (Elt Ideal) arg.view (Rect.unit (s := S512x8x128) ![row, x, 0] S1x1x128.size i1).toLoadRect X) shapeCasts_S1x1x128_S1x128) bitsLt_fp8e4m3_f32) (fun r d => f (row + r) (x + 0) (0 + d)) :=
    (readAt3 (Val := Elt Ideal) arg.view hX _ row x 0 rfl i1).castMid _
  have h1 : Is3 (n0 := 1) (n1 := 128) (n2 := 128) (α := EReal) (k0_pay58 (F := Ideal) (View.readAt (Elt Ideal) arg.view (Rect.unit (s := S512x8x128) ![row, x, 0] S1x1x128.size i1).toLoadRect X)) _ :=
    Is2.cast1 (Is2.row (by decide) (Is2.castSelf h0 shapeCasts_S1x128_S1x128) broadcasts_S1x128_S128x128) shapeCasts_S128x128_S1x128x128
  refine Is3.piece (Val := Elt Ideal) (e := .fp8e4m3) h1 _ x pos 0 i2 fun a r d ha hlt _ => ?_
  show f (row + 0) (x + 0) (0 + d) = f (pad (pos + r)) (x + a) (0 + d)
  have h2 : pad (pos + r) = row + 0 := by
    unfold pad
    rcases hr with ⟨rfl, rfl⟩ | ⟨rfl, rfl⟩
    · rw [if_pos (by omega)]
    · rw [if_neg (by omega), if_neg (by omega)]
  rw [h2, Nat.lt_one_iff.1 ha]

/-! ## The loops -/

theorem loop_pieces {α : Type*} {P : α → Prop} {n : ℕ} (pbf : ℕ → List α) (tr : Fin n → List α) (h0 : pbf 0 = []) (hs : ∀ k : Fin n, pbf (k.val + 1) = tr k ++ pbf k.val)
    (ht : ∀ k, ∀ p ∈ tr k, P p) (m : ℕ) (hm : m ≤ n) : ∀ p ∈ pbf m, P p := by
  induction m with
  | zero => rw [h0]; exact fun _ h => absurd h List.not_mem_nil
  | succ m ih =>
    rw [hs ⟨m, hm⟩]
    exact fun p hp => (List.mem_append.1 hp).elim (ht _ p) (ih (by omega) p)

theorem loop_mem {α : Type*} {n : ℕ} (pbf : ℕ → List α) (tr : Fin n → List α) (hs : ∀ k : Fin n, pbf (k.val + 1) = tr k ++ pbf k.val)
    (m : ℕ) (hm : m ≤ n) (k : Fin n) (hk : k.val < m) (p : α) (hp : p ∈ tr k) : p ∈ pbf m := by
  induction m with
  | zero => omega
  | succ m ih =>
    rw [hs ⟨m, hm⟩]
    rcases Nat.lt_or_ge k.val m with h | h
    · exact List.mem_append.2 (Or.inr (ih (by omega) h))
    · have : k = ⟨m, hm⟩ := Fin.ext (by show k.val = m; omega)
      subst this
      exact List.mem_append.2 (Or.inl hp)

/-- The edges and the reversed rows make up a padded table. -/
theorem padded_cover {L : List (View.Piece (Elt Ideal) S8x768x128 .fp8e4m3)} (hlo : ∀ x < 8, ∃ inb w, (⟨Rect.unit (s := S8x768x128) ![x, 0, 0] S1x128x128.size inb, w⟩ : View.Piece (Elt Ideal) S8x768x128 .fp8e4m3) ∈ L)
    (hhi : ∀ x < 8, ∃ inb w, (⟨Rect.unit (s := S8x768x128) ![x, 640, 0] S1x128x128.size inb, w⟩ : View.Piece (Elt Ideal) S8x768x128 .fp8e4m3) ∈ L)
    (hmid : ∀ x < 8, ∀ k < 16, ∃ off inb w, off = ![x, 32 * k + 128, 0] ∧ (⟨Rect.unit (s := S8x768x128) off S1x32x128.size inb, w⟩ : View.Piece (Elt Ideal) S8x768x128 .fp8e4m3) ∈ L)
    (y : S8x768x128.Idx) : ∃ p ∈ L, y ∈ p.1.set := by
  have y0 : (y 0).val < 8 := (y 0).isLt
  have y1 : (y 1).val < 768 := (y 1).isLt
  have y2 : (y 2).val < 128 := (y 2).isLt
  by_cases c0 : (y 1).val < 128
  · obtain ⟨inb, w, h⟩ := hlo _ y0
    refine ⟨_, h, (Rect.mem_set_unit (inb := inb)).2 fun d => ?_⟩
    match d with
    | ⟨0, _⟩ => exact ⟨le_rfl, Nat.lt_succ_self _⟩
    | ⟨1, _⟩ => exact ⟨Nat.zero_le _, (Nat.zero_add 128).symm ▸ c0⟩
    | ⟨2, _⟩ => exact ⟨Nat.zero_le _, (Nat.zero_add 128).symm ▸ y2⟩
  by_cases c1 : (y 1).val < 640
  · obtain ⟨off, inb, w, e, h⟩ := hmid _ y0 (((y 1).val - 128) / 32) (by omega)
    subst e
    refine ⟨_, h, (Rect.mem_set_unit (inb := inb)).2 fun d => ?_⟩
    match d with
    | ⟨0, _⟩ => exact ⟨le_rfl, Nat.lt_succ_self _⟩
    | ⟨1, _⟩ => exact ⟨(by show 32 * (((y 1).val - 128) / 32) + 128 ≤ (y 1).val; omega), (by show (y 1).val < 32 * (((y 1).val - 128) / 32) + 128 + 32; omega)⟩
    | ⟨2, _⟩ => exact ⟨Nat.zero_le _, (Nat.zero_add 128).symm ▸ y2⟩
  · obtain ⟨inb, w, h⟩ := hhi _ y0
    refine ⟨_, h, (Rect.mem_set_unit (inb := inb)).2 fun d => ?_⟩
    match d with
    | ⟨0, _⟩ => exact ⟨le_rfl, Nat.lt_succ_self _⟩
    | ⟨1, _⟩ => exact ⟨(by show 640 ≤ (y 1).val; omega), (by show (y 1).val < 640 + 128; omega)⟩
    | ⟨2, _⟩ => exact ⟨Nat.zero_le _, (Nat.zero_add 128).symm ▸ y2⟩

variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

section
variable (hc : k0_cond1 i = 1#1) {X : BufTy.Contents (Elt Ideal) arg8.view.ty} {f : ℕ → ℕ → ℕ → EReal}
  (hX : Is3 (n0 := 512) (n1 := 8) (n2 := 128) (α := EReal) (arg8.view.read (Elt Ideal) X) f)
include hX in
theorem krp_trip (k : Fin k0_t1_loop.trips) : ∀ p ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X k).1,
    At3 (m := 8) (n := 768) (l := 128) (Val := Elt Ideal) (e := .fp8e4m3) (fun h p d => f (pad p) h d) p := by
  unfold trip_k0_t1
  refine List.forall_mem_cons.2 ⟨rev_piece hX k.val k.isLt 7 _ (k0_off15_eq k) _ (k0_off16_eq k) _ _, List.forall_mem_cons.2 ⟨rev_piece hX k.val k.isLt 6 _ (k0_off13_eq k) _ (k0_off14_eq k) _ _, List.forall_mem_cons.2 ⟨rev_piece hX k.val k.isLt 5 _ (k0_off11_eq k) _ (k0_off12_eq k) _ _, List.forall_mem_cons.2 ⟨rev_piece hX k.val k.isLt 4 _ (k0_off9_eq k) _ (k0_off10_eq k) _ _, List.forall_mem_cons.2 ⟨rev_piece hX k.val k.isLt 3 _ (k0_off7_eq k) _ (k0_off8_eq k) _ _, List.forall_mem_cons.2 ⟨rev_piece hX k.val k.isLt 2 _ (k0_off5_eq k) _ (k0_off6_eq k) _ _, List.forall_mem_cons.2 ⟨rev_piece hX k.val k.isLt 1 _ (k0_off3_eq k) _ (k0_off4_eq k) _ _, List.forall_mem_cons.2 ⟨rev_piece hX k.val k.isLt 0 _ (k0_off1_eq k) _ (k0_off2_eq k) _ _, fun _ h => absurd h List.not_mem_nil⟩⟩⟩⟩⟩⟩⟩⟩

theorem krp_rows (k : Fin k0_t1_loop.trips) (x : ℕ) (hx : x < 8) : ∃ off inb w, off = ![x, 32 * k.val + 128, 0] ∧
    (⟨Rect.unit (s := S8x768x128) off S1x32x128.size inb, w⟩ : View.Piece (Elt Ideal) S8x768x128 .fp8e4m3) ∈ (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X k).1 := by
  unfold trip_k0_t1
  interval_cases x
  · exact ⟨_, _, _, k0_off2_eq k, List.mem_of_getElem? (i := 7) rfl⟩
  · exact ⟨_, _, _, k0_off4_eq k, List.mem_of_getElem? (i := 6) rfl⟩
  · exact ⟨_, _, _, k0_off6_eq k, List.mem_of_getElem? (i := 5) rfl⟩
  · exact ⟨_, _, _, k0_off8_eq k, List.mem_of_getElem? (i := 4) rfl⟩
  · exact ⟨_, _, _, k0_off10_eq k, List.mem_of_getElem? (i := 3) rfl⟩
  · exact ⟨_, _, _, k0_off12_eq k, List.mem_of_getElem? (i := 2) rfl⟩
  · exact ⟨_, _, _, k0_off14_eq k, List.mem_of_getElem? (i := 1) rfl⟩
  · exact ⟨_, _, _, k0_off16_eq k, List.mem_of_getElem? (i := 0) rfl⟩

include hX in
/-- The padded table, read back. -/
theorem krp_whole (G : BufTy.Contents (Elt Ideal) arg17.view.ty) :
    Is3 (n0 := 8) (n1 := 768) (n2 := 128) (α := EReal) (arg17.view.read (Elt Ideal) (arg17.view.writes (Elt Ideal) G (⟨Rect.unit (s := S8x768x128) ![7, 640, 0] S1x128x128.size (by decide), bodyA.sl.v721 (F := Ideal) arg8 X⟩ :: bodyA.sl.H17_15 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X))) (fun h p d => f (pad p) h d) := by
  refine whole3 arg17 G (e := .fp8e4m3) ?_ (padded_cover ?_ ?_ ?_)
  · refine List.forall_mem_cons.2 ⟨edge_piece hX 7 0 640 (by decide) _ _, List.forall_mem_cons.2 ⟨edge_piece hX 6 0 640 (by decide) _ _, List.forall_mem_cons.2 ⟨edge_piece hX 5 0 640 (by decide) _ _, List.forall_mem_cons.2 ⟨edge_piece hX 4 0 640 (by decide) _ _, List.forall_mem_cons.2 ⟨edge_piece hX 3 0 640 (by decide) _ _, List.forall_mem_cons.2 ⟨edge_piece hX 2 0 640 (by decide) _ _, List.forall_mem_cons.2 ⟨edge_piece hX 1 0 640 (by decide) _ _, List.forall_mem_cons.2 ⟨edge_piece hX 0 0 640 (by decide) _ _, List.forall_mem_cons.2 ⟨edge_piece hX 7 511 0 (by decide) _ _, List.forall_mem_cons.2 ⟨edge_piece hX 6 511 0 (by decide) _ _, List.forall_mem_cons.2 ⟨edge_piece hX 5 511 0 (by decide) _ _, List.forall_mem_cons.2 ⟨edge_piece hX 4 511 0 (by decide) _ _, List.forall_mem_cons.2 ⟨edge_piece hX 3 511 0 (by decide) _ _, List.forall_mem_cons.2 ⟨edge_piece hX 2 511 0 (by decide) _ _, List.forall_mem_cons.2 ⟨edge_piece hX 1 511 0 (by decide) _ _, List.forall_mem_cons.2 ⟨edge_piece hX 0 511 0 (by decide) _ _, loop_pieces (fun n => pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X n) (fun k => (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X k).1) rfl (fun k => pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X k) (krp_trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc hX) 16 le_rfl⟩⟩⟩⟩⟩⟩⟩⟩⟩⟩⟩⟩⟩⟩⟩⟩
  · intro x hx
    interval_cases x
    · exact ⟨_, _, List.mem_of_getElem? (i := 15) rfl⟩
    · exact ⟨_, _, List.mem_of_getElem? (i := 14) rfl⟩
    · exact ⟨_, _, List.mem_of_getElem? (i := 13) rfl⟩
    · exact ⟨_, _, List.mem_of_getElem? (i := 12) rfl⟩
    · exact ⟨_, _, List.mem_of_getElem? (i := 11) rfl⟩
    · exact ⟨_, _, List.mem_of_getElem? (i := 10) rfl⟩
    · exact ⟨_, _, List.mem_of_getElem? (i := 9) rfl⟩
    · exact ⟨_, _, List.mem_of_getElem? (i := 8) rfl⟩
  · intro x hx
    interval_cases x
    · exact ⟨_, _, List.mem_of_getElem? (i := 7) rfl⟩
    · exact ⟨_, _, List.mem_of_getElem? (i := 6) rfl⟩
    · exact ⟨_, _, List.mem_of_getElem? (i := 5) rfl⟩
    · exact ⟨_, _, List.mem_of_getElem? (i := 4) rfl⟩
    · exact ⟨_, _, List.mem_of_getElem? (i := 3) rfl⟩
    · exact ⟨_, _, List.mem_of_getElem? (i := 2) rfl⟩
    · exact ⟨_, _, List.mem_of_getElem? (i := 1) rfl⟩
    · exact ⟨_, _, List.mem_of_getElem? (i := 0) rfl⟩
  · intro x hx k hk
    obtain ⟨off, inb, w, e, h⟩ := krp_rows 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (X := X) (⟨k, hk⟩ : Fin k0_t1_loop.trips) x hx
    refine ⟨off, inb, w, e, List.mem_of_mem_drop (i := 16) ?_⟩
    exact loop_mem (fun n => pb_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X n) (fun k => (trip_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X k).1) (fun k => pb_k0_t1_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X k) 16 le_rfl (⟨k, hk⟩ : Fin k0_t1_loop.trips) hk _ h
end

section
variable (hc : k0_cond1 i = 1#1) {X : BufTy.Contents (Elt Ideal) arg9.view.ty} {f : ℕ → ℕ → ℕ → EReal}
  (hX : Is3 (n0 := 512) (n1 := 8) (n2 := 128) (α := EReal) (arg9.view.read (Elt Ideal) X) f)
include hX in
theorem qrp_trip (k : Fin k0_t2_loop.trips) : ∀ p ∈ (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => FloatOps.ofBits (F := Ideal) FTy.f32 0#32) X k).1,
    At3 (m := 8) (n := 768) (l := 128) (Val := Elt Ideal) (e := .fp8e4m3) (fun h p d => f (pad p) h d) p := by
  unfold trip_k0_t2
  refine List.forall_mem_cons.2 ⟨rev_piece hX k.val k.isLt 7 _ (k0_off31_eq k) _ (k0_off32_eq k) _ _, List.forall_mem_cons.2 ⟨rev_piece hX k.val k.isLt 6 _ (k0_off29_eq k) _ (k0_off30_eq k) _ _, List.forall_mem_cons.2 ⟨rev_piece hX k.val k.isLt 5 _ (k0_off27_eq k) _ (k0_off28_eq k) _ _, List.forall_mem_cons.2 ⟨rev_piece hX k.val k.isLt 4 _ (k0_off25_eq k) _ (k0_off26_eq k) _ _, List.forall_mem_cons.2 ⟨rev_piece hX k.val k.isLt 3 _ (k0_off23_eq k) _ (k0_off24_eq k) _ _, List.forall_mem_cons.2 ⟨rev_piece hX k.val k.isLt 2 _ (k0_off21_eq k) _ (k0_off22_eq k) _ _, List.forall_mem_cons.2 ⟨rev_piece hX k.val k.isLt 1 _ (k0_off19_eq k) _ (k0_off20_eq k) _ _, List.forall_mem_cons.2 ⟨rev_piece hX k.val k.isLt 0 _ (k0_off17_eq k) _ (k0_off18_eq k) _ _, fun _ h => absurd h List.not_mem_nil⟩⟩⟩⟩⟩⟩⟩⟩

theorem qrp_rows (k : Fin k0_t2_loop.trips) (x : ℕ) (hx : x < 8) : ∃ off inb w, off = ![x, 32 * k.val + 128, 0] ∧
    (⟨Rect.unit (s := S8x768x128) off S1x32x128.size inb, w⟩ : View.Piece (Elt Ideal) S8x768x128 .fp8e4m3) ∈ (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => FloatOps.ofBits (F := Ideal) FTy.f32 0#32) X k).1 := by
  unfold trip_k0_t2
  interval_cases x
  · exact ⟨_, _, _, k0_off18_eq k, List.mem_of_getElem? (i := 7) rfl⟩
  · exact ⟨_, _, _, k0_off20_eq k, List.mem_of_getElem? (i := 6) rfl⟩
  · exact ⟨_, _, _, k0_off22_eq k, List.mem_of_getElem? (i := 5) rfl⟩
  · exact ⟨_, _, _, k0_off24_eq k, List.mem_of_getElem? (i := 4) rfl⟩
  · exact ⟨_, _, _, k0_off26_eq k, List.mem_of_getElem? (i := 3) rfl⟩
  · exact ⟨_, _, _, k0_off28_eq k, List.mem_of_getElem? (i := 2) rfl⟩
  · exact ⟨_, _, _, k0_off30_eq k, List.mem_of_getElem? (i := 1) rfl⟩
  · exact ⟨_, _, _, k0_off32_eq k, List.mem_of_getElem? (i := 0) rfl⟩

include hX in
/-- The padded table, read back. -/
theorem qrp_whole (G : BufTy.Contents (Elt Ideal) arg18.view.ty) :
    Is3 (n0 := 8) (n1 := 768) (n2 := 128) (α := EReal) (arg18.view.read (Elt Ideal) (arg18.view.writes (Elt Ideal) G (bodyA.sl.H18_16 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X))) (fun h p d => f (pad p) h d) := by
  refine whole3 arg18 G (e := .fp8e4m3) ?_ (padded_cover ?_ ?_ ?_)
  · refine List.forall_mem_cons.2 ⟨edge_piece hX 7 0 640 (by decide) _ _, List.forall_mem_cons.2 ⟨edge_piece hX 6 0 640 (by decide) _ _, List.forall_mem_cons.2 ⟨edge_piece hX 5 0 640 (by decide) _ _, List.forall_mem_cons.2 ⟨edge_piece hX 4 0 640 (by decide) _ _, List.forall_mem_cons.2 ⟨edge_piece hX 3 0 640 (by decide) _ _, List.forall_mem_cons.2 ⟨edge_piece hX 2 0 640 (by decide) _ _, List.forall_mem_cons.2 ⟨edge_piece hX 1 0 640 (by decide) _ _, List.forall_mem_cons.2 ⟨edge_piece hX 0 0 640 (by decide) _ _, List.forall_mem_cons.2 ⟨edge_piece hX 7 511 0 (by decide) _ _, List.forall_mem_cons.2 ⟨edge_piece hX 6 511 0 (by decide) _ _, List.forall_mem_cons.2 ⟨edge_piece hX 5 511 0 (by decide) _ _, List.forall_mem_cons.2 ⟨edge_piece hX 4 511 0 (by decide) _ _, List.forall_mem_cons.2 ⟨edge_piece hX 3 511 0 (by decide) _ _, List.forall_mem_cons.2 ⟨edge_piece hX 2 511 0 (by decide) _ _, List.forall_mem_cons.2 ⟨edge_piece hX 1 511 0 (by decide) _ _, List.forall_mem_cons.2 ⟨edge_piece hX 0 511 0 (by decide) _ _, loop_pieces (fun n => pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => FloatOps.ofBits (F := Ideal) FTy.f32 0#32) X n) (fun k => (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => FloatOps.ofBits (F := Ideal) FTy.f32 0#32) X k).1) rfl (fun k => pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => FloatOps.ofBits (F := Ideal) FTy.f32 0#32) X k) (qrp_trip 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc hX) 16 le_rfl⟩⟩⟩⟩⟩⟩⟩⟩⟩⟩⟩⟩⟩⟩⟩⟩
  · intro x hx
    interval_cases x
    · exact ⟨_, _, List.mem_of_getElem? (i := 15) rfl⟩
    · exact ⟨_, _, List.mem_of_getElem? (i := 14) rfl⟩
    · exact ⟨_, _, List.mem_of_getElem? (i := 13) rfl⟩
    · exact ⟨_, _, List.mem_of_getElem? (i := 12) rfl⟩
    · exact ⟨_, _, List.mem_of_getElem? (i := 11) rfl⟩
    · exact ⟨_, _, List.mem_of_getElem? (i := 10) rfl⟩
    · exact ⟨_, _, List.mem_of_getElem? (i := 9) rfl⟩
    · exact ⟨_, _, List.mem_of_getElem? (i := 8) rfl⟩
  · intro x hx
    interval_cases x
    · exact ⟨_, _, List.mem_of_getElem? (i := 7) rfl⟩
    · exact ⟨_, _, List.mem_of_getElem? (i := 6) rfl⟩
    · exact ⟨_, _, List.mem_of_getElem? (i := 5) rfl⟩
    · exact ⟨_, _, List.mem_of_getElem? (i := 4) rfl⟩
    · exact ⟨_, _, List.mem_of_getElem? (i := 3) rfl⟩
    · exact ⟨_, _, List.mem_of_getElem? (i := 2) rfl⟩
    · exact ⟨_, _, List.mem_of_getElem? (i := 1) rfl⟩
    · exact ⟨_, _, List.mem_of_getElem? (i := 0) rfl⟩
  · intro x hx k hk
    obtain ⟨off, inb, w, e, h⟩ := qrp_rows 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (X := X) (⟨k, hk⟩ : Fin k0_t2_loop.trips) x hx
    refine ⟨off, inb, w, e, List.mem_of_mem_drop (i := 16) ?_⟩
    exact loop_mem (fun n => pb_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => FloatOps.ofBits (F := Ideal) FTy.f32 0#32) X n) (fun k => (trip_k0_t2 (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => FloatOps.ofBits (F := Ideal) FTy.f32 0#32) X k).1) (fun k => pb_k0_t2_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc (fun _ => FloatOps.ofBits (F := Ideal) FTy.f32 0#32) X k) 16 le_rfl (⟨k, hk⟩ : Fin k0_t2_loop.trips) hk _ h
end

end Cert.KernelIdeal.Hand.Val

end
-- ==== Proof.V.Heads.lean ====
/- The head loop: its eight trips together write every head's columns of the output block. -/
module

public import proofs.«01_k».proof.Proof.Body
public import proofs.«01_k».proof.Proof.V.Soft
public import Idealize.ShloMosaic.Lib.Pointwise
public import Idealize.ShloMosaic.Lib.Exec
public import Idealize.ShloMosaic.Lib.Ring
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.ValueIdx
open scoped BigOperators

variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

variable {X5 : BufTy.Contents (Elt Ideal) arg5.view.ty} {X7 : BufTy.Contents (Elt Ideal) arg7.view.ty} {X14 : BufTy.Contents (Elt Ideal) arg14.view.ty} {X15 : BufTy.Contents (Elt Ideal) arg15.view.ty} {X16 : BufTy.Contents (Elt Ideal) arg16.view.ty} {X17 : BufTy.Contents (Elt Ideal) arg17.view.ty} {X18 : BufTy.Contents (Elt Ideal) arg18.view.ty} {X19 : BufTy.Contents (Elt Ideal) arg19.view.ty} {X20 : BufTy.Contents (Elt Ideal) arg20.view.ty} {X21 : BufTy.Contents (Elt Ideal) arg21.view.ty} {X22 : BufTy.Contents (Elt Ideal) arg22.view.ty}
  {S : Src} (H : Holds arg5 arg7 arg14 arg15 arg16 arg17 arg18 arg19 arg20 arg21 arg22 X5 X7 X14 X15 X16 X17 X18 X19 X20 X21 X22 S)

/-- The tiles of 256 columns are stores of a list whose first twelve are they. -/
theorem tiles (o : ℕ) {L : List (View.Piece (Elt Ideal) S768x768 .bf16)}
    (h : ∀ n < 6, ∀ m < 2, ∃ inb w, L[11 - 6 * m - n]? = some ⟨Rect.unit (s := S768x768) ![128 * n, o + 128 * m] S128x128.size inb, w⟩) :
    ∀ n < 6, ∀ m < 2, ∃ inb w, (⟨Rect.unit (s := S768x768) ![128 * n, o + 128 * m] S128x128.size inb, w⟩ : View.Piece (Elt Ideal) S768x768 .bf16) ∈ L :=
  fun n hn m hm => by
    obtain ⟨inb, w, e⟩ := h n hn m hm
    exact ⟨inb, w, List.mem_of_getElem? e⟩

/-- A load of 256 columns of the weights. -/
theorem e_read (k : Fin k0_t3_loop.trips) {arg : Memref sig .tc .vmem S768x768 .bf16} {L : List (View.Piece (Elt Ideal) S768x768 .bf16)} (hL : ∀ p ∈ L, At2 (m := 768) (n := 768) (Val := Elt Ideal) (e := .bf16) (ef S k.val) p)
    (o : ℕ) (inb : ∀ d, (![0, o] : Fin 2 → ℕ) d + S768x256.size d ≤ S768x768.size d)
    (h : ∀ n < 6, ∀ m < 2, ∃ inb w, L[11 - 6 * m - n]? = some ⟨Rect.unit (s := S768x768) ![128 * n, o + 128 * m] S128x128.size inb, w⟩) :
    Is2 (n0 := 768) (n1 := 256) (α := EReal) (arg.view.readCov L (Rect.unit (s := S768x768) ![0, o] S768x256.size inb).toLoadRect) (fun r c => ef S k.val r (o + c)) :=
  (read2 (Val := Elt Ideal) (a := 768) (b := 256) arg.view hL 0 o inb (cover_box o inb (tiles o h))).congr fun a b _ _ => by rw [Nat.zero_add a]

include H in

/-- Every store of a trip into the output block holds the block's values. -/
theorem trip_pieces (k : Fin k0_t3_loop.trips) : ∀ p ∈ (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k).1, At3 (m := 1) (n := 768) (l := 1024) (Val := Elt Ideal) (e := .bf16) (fun _ => blk S) p := by
  unfold trip
  refine List.forall_mem_cons.2 ⟨out_piece H k 512 _ (k0_off41_eq k) _ (e_read k (e_pieces H k) 512 _ ?_) (l4 H k) (l5 H k) _ _ _ _ _, ?_⟩
  rotate_left
  refine List.forall_mem_cons.2 ⟨out_piece H k 256 _ (k0_off40_eq k) _ (e_read k (fun p hp => e_pieces H k p (List.mem_of_mem_drop (i := 12) hp)) 256 _ ?_) (l2 H k) (l3 H k) _ _ _ _ _, ?_⟩
  rotate_left
  refine List.forall_mem_cons.2 ⟨out_piece H k 0 _ (k0_off39_eq k) _ (e_read k (fun p hp => e_pieces H k p (List.mem_of_mem_drop (i := 24) hp)) 0 _ ?_) (l0 H k) (l1 H k) _ _ _ _ _, fun _ h => absurd h List.not_mem_nil⟩
  all_goals
    intro n hn m hm
    interval_cases n <;> interval_cases m <;> exact ⟨_, _, rfl⟩

/-- A trip stores three boxes of 256 rows, which make up its 128 lanes. -/
theorem trip_rows (k : Fin k0_t3_loop.trips) (m : ℕ) (hm : m < 3) : ∃ off inb w, off = ![0, 256 * m, 128 * k.val] ∧
    (⟨Rect.unit (s := S1x768x1024) off S1x256x128.size inb, w⟩ : View.Piece (Elt Ideal) S1x768x1024 .bf16) ∈ (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 k).1 := by
  unfold trip
  interval_cases m
  · exact ⟨_, _, _, k0_off39_eq k, List.mem_of_getElem? (i := 2) rfl⟩
  · exact ⟨_, _, _, k0_off40_eq k, List.mem_of_getElem? (i := 1) rfl⟩
  · exact ⟨_, _, _, k0_off41_eq k, List.mem_of_getElem? (i := 0) rfl⟩

include H in
theorem heads_pieces (n : ℕ) (hn : n ≤ 8) : ∀ p ∈ pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 n, At3 (m := 1) (n := 768) (l := 1024) (Val := Elt Ideal) (e := .bf16) (fun _ => blk S) p := by
  induction n with
  | zero => exact fun _ h => absurd h List.not_mem_nil
  | succ n ih =>
    have e := pb_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 ⟨n, hn⟩
    intro p hp
    have hp' := (congrArg (fun L => p ∈ L) e).mp hp
    rcases List.mem_append.1 hp' with h | h
    · exact trip_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 H ⟨n, hn⟩ p h
    · exact ih (by omega) p h

theorem heads_mem (n : ℕ) (hn : n ≤ 8) (k : ℕ) (hk : k < n) (p) (hp : p ∈ (trip (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 ⟨k, Nat.lt_of_lt_of_le hk hn⟩).1) : p ∈ pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 n := by
  induction n with
  | zero => omega
  | succ n ih =>
    have e := pb_succ (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 ⟨n, hn⟩
    refine (congrArg (fun L => p ∈ L) e).mpr (List.mem_append.2 ?_)
    rcases Nat.lt_or_ge k n with h | h
    · exact Or.inr (ih (by omega) h hp)
    · have : k = n := by omega
      subst this
      exact Or.inl hp

theorem heads_cover (y : (⟨3, ![1, 768, 1024]⟩ : Shape).Idx) : ∃ p ∈ pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 8, y ∈ p.1.set := by
  have h1 : (y 1).val < 768 := (y 1).isLt
  have h2 : (y 2).val < 1024 := (y 2).isLt
  have h0 : (y 0).val < 1 := (y 0).isLt
  obtain ⟨off, inb, w, hoff, hm⟩ := trip_rows 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (X5 := X5) (X7 := X7) (X14 := X14) (X15 := X15) (X16 := X16) (X17 := X17) (X18 := X18) (X19 := X19) (X20 := X20) (X21 := X21) (X22 := X22)
    (⟨(y 2).val / 128, by show _ < 8; omega⟩ : Fin k0_t3_loop.trips) ((y 1).val / 256) (by omega)
  refine ⟨_, heads_mem 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 8 le_rfl ((y 2).val / 128) (by omega) _ hm, ?_⟩
  subst hoff
  rw [← Rect.map_emb_univ]
  refine Finset.mem_map.2 ⟨ValueIdx.ix3 (0 : Fin 1) (⟨(y 1).val % 256, by omega⟩ : Fin 256) (⟨(y 2).val % 128, by omega⟩ : Fin 128), Finset.mem_univ _, ?_⟩
  funext d
  apply Fin.ext
  match d with
  | ⟨0, _⟩ => show 0 + 1 * 0 = (y 0).val
              omega
  | ⟨1, _⟩ => show 256 * ((y 1).val / 256) + 1 * ((y 1).val % 256) = (y 1).val
              omega
  | ⟨2, _⟩ => show 128 * ((y 2).val / 128) + 1 * ((y 2).val % 128) = (y 2).val
              omega

include H in
/-- After the head loop the output block holds the heads' outputs, whatever it held before. -/
theorem heads_block (G : BufTy.Contents (Elt Ideal) arg13.view.ty) :
    Is3 (n0 := 1) (n1 := 768) (n2 := 1024) (α := EReal) (arg13.view.read (Elt Ideal) (arg13.view.writes (Elt Ideal) G (pb (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 X5 X7 X14 X15 X16 X17 X18 X19 X20 X21 X22 8))) (fun _ => blk S) := fun j =>
  View.read_writes_apply_of_pieces (Val := Elt Ideal) arg13.view G (fun y => blk S (y 1).val (y 2).val) _ (heads_pieces 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 H 8 le_rfl) _ (heads_cover 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 j)

end Cert.KernelIdeal.Hand.Val

end
-- ==== Proof.V.Fill.lean ====
/- One grid point's arguments (`Blk`) and what the buffers hold of them when the head loop starts (`Blk.src`). -/
module

public import proofs.«01_k».proof.Proof.V.Pro2
public import proofs.«01_k».proof.Proof.V.Heads
public import proofs.«01_k».proof.Proof.Body
public import Idealize.ShloMosaic.Lib.Pointwise
public import Idealize.ShloMosaic.Lib.Ring
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open scoped BigOperators

/-- The blocks of one grid point, by their coordinates. -/
structure Blk where
  q : ℕ → ℕ → ℕ → EReal
  k : ℕ → ℕ → ℕ → EReal
  v : ℕ → ℕ → ℕ → EReal
  qs : ℕ → ℕ → EReal
  ks : ℕ → ℕ → EReal
  vs : ℕ → ℕ → EReal
  kr : ℕ → ℕ → ℕ → EReal
  qr : ℕ → ℕ → ℕ → EReal
  krs : ℕ → ℕ → EReal
  qrs : ℕ → ℕ → EReal
  seg : ℕ → BitVec 32

/-- A segment number as the number it is compared as. -/
def segf (b : BitVec 32) : EReal := ((b.toInt : ℝ) : EReal)

/-- What the loop over the heads works on, from the blocks of the point. -/
def Blk.src (B : Blk) : Src where
  q h s d := B.q s h d
  k h s d := B.k s h d
  v h s d := B.v s h d
  kr h p d := B.kr (pad p) h d
  qr h p d := B.qr (pad p) h d
  krs h p := B.krs h (pad p) * 1
  qrs h p := B.qrs h (pad p) * L
  qs := B.qs
  vs := B.vs
  kst := kst3 B.ks
  mask := mask2 fun j => segf (B.seg j)

/-- Arrays that hold the blocks of a point. -/
structure Reads (d2 : S1x768x8x128.Idx → Elt Ideal .fp8e4m3) (d3 : S1x768x8x128.Idx → Elt Ideal .fp8e4m3) (d4 : S1x768x8x128.Idx → Elt Ideal .fp8e4m3) (d5 : S1x8x768.Idx → Elt Ideal .f32) (d6 : S1x8x768.Idx → Elt Ideal .f32) (d7 : S1x8x768.Idx → Elt Ideal .f32) (d8 : S512x8x128.Idx → Elt Ideal .fp8e4m3) (d9 : S512x8x128.Idx → Elt Ideal .fp8e4m3) (d10 : S8x512.Idx → Elt Ideal .f32) (d11 : S8x512.Idx → Elt Ideal .f32) (d12 : S1x1x768.Idx → Elt Ideal .i32) (B : Blk) : Prop where
  r2 : Is4 (n0 := 1) (n1 := 768) (n2 := 8) (n3 := 128) (α := EReal) d2 (fun _ => B.q)
  r3 : Is4 (n0 := 1) (n1 := 768) (n2 := 8) (n3 := 128) (α := EReal) d3 (fun _ => B.k)
  r4 : Is4 (n0 := 1) (n1 := 768) (n2 := 8) (n3 := 128) (α := EReal) d4 (fun _ => B.v)
  r5 : Is3 (n0 := 1) (n1 := 8) (n2 := 768) (α := EReal) d5 (fun _ => B.qs)
  r6 : Is3 (n0 := 1) (n1 := 8) (n2 := 768) (α := EReal) d6 (fun _ => B.ks)
  r7 : Is3 (n0 := 1) (n1 := 8) (n2 := 768) (α := EReal) d7 (fun _ => B.vs)
  r8 : Is3 (n0 := 512) (n1 := 8) (n2 := 128) (α := EReal) d8 (B.kr)
  r9 : Is3 (n0 := 512) (n1 := 8) (n2 := 128) (α := EReal) d9 (B.qr)
  r10 : Is2 (n0 := 8) (n1 := 512) (α := EReal) d10 (B.krs)
  r11 : Is2 (n0 := 8) (n1 := 512) (α := EReal) d11 (B.qrs)
  r12 : Is3 (n0 := 1) (n1 := 1) (n2 := 768) (α := BitVec 32) d12 (fun _ _ => B.seg)

/-- The relative tables in the form one point leaves them in and the next one uses. -/
structure Car (d17 : S8x768x128.Idx → Elt Ideal .fp8e4m3) (d18 : S8x768x128.Idx → Elt Ideal .fp8e4m3) (d19 : S8x768.Idx → Elt Ideal .f32) (d20 : S8x768.Idx → Elt Ideal .f32) (B : Blk) : Prop where
  kr : Is3 (n0 := 8) (n1 := 768) (n2 := 128) (α := EReal) d17 (fun h p d => B.kr (pad p) h d)
  qr : Is3 (n0 := 8) (n1 := 768) (n2 := 128) (α := EReal) d18 (fun h p d => B.qr (pad p) h d)
  krs : Is2 (n0 := 8) (n1 := 768) (α := EReal) d19 (fun h p => B.krs h (pad p) * 1)
  qrs : Is2 (n0 := 8) (n1 := 768) (α := EReal) d20 (fun h p => B.qrs h (pad p) * L)

theorem seg_read {arg12 : Memref sig .tc .vmem S1x1x768 .i32} {X12 : BufTy.Contents (Elt Ideal) arg12.view.ty} {seg : ℕ → BitVec 32}
    (hX : Is3 (n0 := 1) (n1 := 1) (n2 := 768) (α := BitVec 32) (arg12.view.read (Elt Ideal) X12) (fun _ _ => seg)) :
    Is2 (n0 := 1) (n1 := 768) (α := EReal) (bodyA.sl.v220 (F := Ideal) arg12 X12) (fun _ j => segf (seg j)) := by
  have h : Is2 (n0 := 1) (n1 := 768) (α := BitVec 32) (bodyA.sl.v219 (F := Ideal) arg12 X12) _ :=
    Is3.cast1 (α := BitVec 32) (readAt3 (Val := Elt Ideal) arg12.view hX ![0, 0, 0] 0 0 0 rfl inb_S1x1x768_S1x1x768_0_0_0) shapeCasts_S1x1x768_S1x768
  intro j
  refine Eq.trans (congrArg segf (h j)) ?_
  show segf (seg (0 + (j 1).val)) = segf (seg (j 1).val)
  rw [Nat.zero_add]

variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

section
variable {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty} {X9 : BufTy.Contents (Elt Ideal) arg9.view.ty} {X10 : BufTy.Contents (Elt Ideal) arg10.view.ty} {X11 : BufTy.Contents (Elt Ideal) arg11.view.ty} {X12 : BufTy.Contents (Elt Ideal) arg12.view.ty} {B : Blk}
  (R : Reads (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8) (arg9.view.read (Elt Ideal) X9) (arg10.view.read (Elt Ideal) X10) (arg11.view.read (Elt Ideal) X11) (arg12.view.read (Elt Ideal) X12) B)

include R in
/-- The loop's buffers, once the tables are in the carried form. -/
theorem holds_of {X17 : BufTy.Contents (Elt Ideal) arg17.view.ty} {X18 : BufTy.Contents (Elt Ideal) arg18.view.ty} {X19 : BufTy.Contents (Elt Ideal) arg19.view.ty} {X20 : BufTy.Contents (Elt Ideal) arg20.view.ty}
    (C : Car (arg17.view.read (Elt Ideal) X17) (arg18.view.read (Elt Ideal) X18) (arg19.view.read (Elt Ideal) X19) (arg20.view.read (Elt Ideal) X20) B) :
    Holds arg5 arg7 arg14 arg15 arg16 arg17 arg18 arg19 arg20 arg21 arg22 X5 X7 (arg14.view.writes (Elt Ideal) arg14.view.junk (bodyA.sl.H14_8 (F := Ideal) arg2 X2)) (arg15.view.writes (Elt Ideal) arg15.view.junk (bodyA.sl.H14_8 (F := Ideal) arg3 X3)) (arg16.view.writes (Elt Ideal) arg16.view.junk (bodyA.sl.H14_8 (F := Ideal) arg4 X4)) X17 X18 X19 X20 (arg21.view.writes (Elt Ideal) arg21.view.junk (bodyA.sl.H21_6 (F := Ideal) arg6 X6)) (arg22.view.writes (Elt Ideal) arg22.view.junk (bodyA.sl.H22_36 (F := Ideal) arg12 X12)) B.src where
  q := split_whole (f := fun h s d => B.q s h d) R.r2 arg14 arg14.view.junk
  k := split_whole (f := fun h s d => B.k s h d) R.r3 arg15 arg15.view.junk
  v := split_whole (f := fun h s d => B.v s h d) R.r4 arg16 arg16.view.junk
  kr := C.kr
  qr := C.qr
  krs := C.krs
  qrs := C.qrs
  qs := R.r5
  vs := R.r7
  kst := kst_whole R.r6 arg21 arg21.view.junk
  mask := mask_whole (seg_read R.r12) arg22 arg22.view.junk

variable (hc : k0_cond1 i = 1#1) (hn : ¬ k0_cond1 i = 1#1) {f14 : BufTy.Contents (Elt Ideal) arg14.view.ty} {f15 : BufTy.Contents (Elt Ideal) arg15.view.ty} {f16 : BufTy.Contents (Elt Ideal) arg16.view.ty} {f17 : BufTy.Contents (Elt Ideal) arg17.view.ty} {f18 : BufTy.Contents (Elt Ideal) arg18.view.ty} {f19 : BufTy.Contents (Elt Ideal) arg19.view.ty} {f20 : BufTy.Contents (Elt Ideal) arg20.view.ty} {f21 : BufTy.Contents (Elt Ideal) arg21.view.ty} {f22 : BufTy.Contents (Elt Ideal) arg22.view.ty}

include R in
/-- A point that builds the tables leaves them in the carried form. -/
theorem car_first : Car (arg17.view.read (Elt Ideal) (bodyA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2.1) (arg18.view.read (Elt Ideal) (bodyA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2.2.1) (arg19.view.read (Elt Ideal) (bodyA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2.2.2.1) (arg20.view.read (Elt Ideal) (bodyA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2.2.2.2.1) B := by
  unfold bodyA
  dsimp only
  constructor
  · exact krp_whole 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc R.r8 f17
  · exact qrp_whole 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc R.r9 f18
  · exact krs_whole R.r10 arg19 arg19.view.junk
  · exact qrs_whole R.r11 arg20 arg20.view.junk

include R in
/-- The block such a point writes. -/
theorem out_first (f13 : BufTy.Contents (Elt Ideal) arg13.view.ty) :
    Is3 (n0 := 1) (n1 := 768) (n2 := 1024) (α := EReal) (arg13.view.read (Elt Ideal) (arg13.view.writes (Elt Ideal) f13 (bodyA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).1)) (fun _ => blk B.src) := by
  have C := car_first 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 R hc (f14 := f14) (f15 := f15) (f16 := f16) (f17 := f17) (f18 := f18) (f19 := f19) (f20 := f20) (f21 := f21) (f22 := f22)
  unfold bodyA at C ⊢
  dsimp only at C ⊢
  exact heads_block 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (holds_of arg2 arg3 arg4 arg5 arg6 arg7 arg8 arg9 arg10 arg11 arg12 arg14 arg15 arg16 arg17 arg18 arg19 arg20 arg21 arg22 R C) f13

include R in
/-- The block a point writes that finds the tables in the carried form. -/
theorem out_later {X17 : BufTy.Contents (Elt Ideal) arg17.view.ty} {X18 : BufTy.Contents (Elt Ideal) arg18.view.ty} {X19 : BufTy.Contents (Elt Ideal) arg19.view.ty} {X20 : BufTy.Contents (Elt Ideal) arg20.view.ty}
    (C : Car (arg17.view.read (Elt Ideal) X17) (arg18.view.read (Elt Ideal) X18) (arg19.view.read (Elt Ideal) X19) (arg20.view.read (Elt Ideal) X20) B) (f13 : BufTy.Contents (Elt Ideal) arg13.view.ty) :
    Is3 (n0 := 1) (n1 := 768) (n2 := 1024) (α := EReal) (arg13.view.read (Elt Ideal) (arg13.view.writes (Elt Ideal) f13 (bodyB (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hn X2 X3 X4 X5 X6 X7 X8 X9 X10 X11 X12 X17 X18 X19 X20 f14 f15 f16 f21 f22).1)) (fun _ => blk B.src) := by
  unfold bodyB
  exact heads_block 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (holds_of arg2 arg3 arg4 arg5 arg6 arg7 arg8 arg9 arg10 arg11 arg12 arg14 arg15 arg16 arg17 arg18 arg19 arg20 arg21 arg22 R C) f13
end

end Cert.KernelIdeal.Hand.Val

end
-- ==== Proof.V.Reads.lean ====
/- The eleven arguments as functions of numbers (`Arr`), and the part of each that a grid point's window holds. -/
module

public import proofs.«01_k».proof.Proof.V.Fill
public import proofs.«01_k».proof.Proof.Gen.KernelIdeal.Frame
public import Idealize.ShloMosaic.Lib.Claim
public import Idealize.ShloMosaic.Lib.Pointwise
public import Idealize.ShloMosaic.Lib.Ring
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open scoped BigOperators

/-! ## Arrays by numbers -/

variable {α : Type} [Inhabited α]
/-- A rank-2 array at two numbers. -/
def n2 {a b : ℕ} (x : (⟨2, ![a, b]⟩ : Shape).Idx → α) (i j : ℕ) : α := if h : i < a ∧ j < b then x (ValueIdx.ix2 ⟨i, h.1⟩ ⟨j, h.2⟩) else default
/-- A rank-3 array at three numbers. -/
def n3 {a b c : ℕ} (x : (⟨3, ![a, b, c]⟩ : Shape).Idx → α) (i j k : ℕ) : α :=
  if h : i < a ∧ j < b ∧ k < c then x (ValueIdx.ix3 ⟨i, h.1⟩ ⟨j, h.2.1⟩ ⟨k, h.2.2⟩) else default
/-- A rank-4 array at four numbers. -/
def n4 {a b c d : ℕ} (x : (⟨4, ![a, b, c, d]⟩ : Shape).Idx → α) (i j k l : ℕ) : α :=
  if h : i < a ∧ j < b ∧ k < c ∧ l < d then x (ValueIdx.ix4 ⟨i, h.1⟩ ⟨j, h.2.1⟩ ⟨k, h.2.2.1⟩ ⟨l, h.2.2.2⟩) else default
theorem is_n2 {a b : ℕ} (x : (⟨2, ![a, b]⟩ : Shape).Idx → α) : Is2 x (n2 x) := fun j => by
  unfold n2; rw [dif_pos ⟨(j 0).isLt, (j 1).isLt⟩]
  exact congrArg x (funext fun e => by match e with | ⟨0, _⟩ => rfl | ⟨1, _⟩ => rfl)
theorem is_n3 {a b c : ℕ} (x : (⟨3, ![a, b, c]⟩ : Shape).Idx → α) : Is3 x (n3 x) := fun j => by
  unfold n3; rw [dif_pos ⟨(j 0).isLt, (j 1).isLt, (j 2).isLt⟩]
  exact congrArg x (funext fun e => by match e with | ⟨0, _⟩ => rfl | ⟨1, _⟩ => rfl | ⟨2, _⟩ => rfl)
theorem is_n4 {a b c d : ℕ} (x : (⟨4, ![a, b, c, d]⟩ : Shape).Idx → α) : Is4 x (n4 x) := fun j => by
  unfold n4; rw [dif_pos ⟨(j 0).isLt, (j 1).isLt, (j 2).isLt, (j 3).isLt⟩]
  exact congrArg x (funext fun e => by match e with | ⟨0, _⟩ => rfl | ⟨1, _⟩ => rfl | ⟨2, _⟩ => rfl | ⟨3, _⟩ => rfl)

/-- The arguments, by their coordinates. -/
structure Arr where
  q : ℕ → ℕ → ℕ → ℕ → EReal
  k : ℕ → ℕ → ℕ → ℕ → EReal
  v : ℕ → ℕ → ℕ → ℕ → EReal
  qs : ℕ → ℕ → ℕ → EReal
  ks : ℕ → ℕ → ℕ → EReal
  vs : ℕ → ℕ → ℕ → EReal
  kr : ℕ → ℕ → ℕ → EReal
  qr : ℕ → ℕ → ℕ → EReal
  krs : ℕ → ℕ → EReal
  qrs : ℕ → ℕ → EReal
  seg : ℕ → ℕ → BitVec 32

/-- The blocks of grid point `t`: batch `t % 2`, heads `8 (t / 2)` and the seven after it. -/
def Arr.blk (A : Arr) (t : ℕ) : Blk where
  q s h d := A.q (t % 2) s (t / 2 * 8 + h) d
  k s h d := A.k (t % 2) s (t / 2 * 8 + h) d
  v s h d := A.v (t % 2) s (t / 2 * 8 + h) d
  qs h s := A.qs (t % 2) s (t / 2 * 8 + h)
  ks h s := A.ks (t % 2) s (t / 2 * 8 + h)
  vs h s := A.vs (t % 2) s (t / 2 * 8 + h)
  kr n h d := A.kr n (t / 2 * 8 + h) d
  qr n h d := A.qr n (t / 2 * 8 + h) d
  krs h n := A.krs n (t / 2 * 8 + h)
  qrs h n := A.qrs n (t / 2 * 8 + h)
  seg s := A.seg (t % 2) s

variable (m : (ℓ : Loc nD τ sig) → Buf (Elt Ideal) ℓ)
/-- The argument arrays in memory. -/
def arr (c : Dev nD) : Arr where
  q := n4 (a := 2) (b := 768) (c := 24) (d := 128) (α := EReal) (m ((c : Thread nD τ).loc main_arg0))
  k := n4 (a := 2) (b := 768) (c := 24) (d := 128) (α := EReal) (m ((c : Thread nD τ).loc main_arg1))
  v := n4 (a := 2) (b := 768) (c := 24) (d := 128) (α := EReal) (m ((c : Thread nD τ).loc main_arg2))
  qs := n3 (a := 2) (b := 768) (c := 24) (α := EReal) (m ((c : Thread nD τ).loc main_arg3))
  ks := n3 (a := 2) (b := 768) (c := 24) (α := EReal) (m ((c : Thread nD τ).loc main_arg4))
  vs := n3 (a := 2) (b := 768) (c := 24) (α := EReal) (m ((c : Thread nD τ).loc main_arg5))
  kr := n3 (a := 512) (b := 24) (c := 128) (α := EReal) (m ((c : Thread nD τ).loc main_arg6))
  qr := n3 (a := 512) (b := 24) (c := 128) (α := EReal) (m ((c : Thread nD τ).loc main_arg7))
  krs := n2 (a := 512) (b := 24) (α := EReal) (m ((c : Thread nD τ).loc main_arg8))
  qrs := n2 (a := 512) (b := 24) (α := EReal) (m ((c : Thread nD τ).loc main_arg9))
  seg := n2 (a := 2) (b := 768) (α := BitVec 32) (m ((c : Thread nD τ).loc main_arg10))

/-! ## Which block a point reads -/
theorem at0 : ∀ t : Fin cfg0.N, win0_0.index t (0 : Fin 4) = t.val % 2 ∧ win0_0.index t (1 : Fin 4) = 0 ∧ win0_0.index t (2 : Fin 4) = t.val / 2 ∧ win0_0.index t (3 : Fin 4) = 0 := (by decide +kernel : ∀ t : Fin grid0.N, _)
theorem at1 : ∀ t : Fin cfg0.N, win0_1.index t (0 : Fin 4) = t.val % 2 ∧ win0_1.index t (1 : Fin 4) = 0 ∧ win0_1.index t (2 : Fin 4) = t.val / 2 ∧ win0_1.index t (3 : Fin 4) = 0 := (by decide +kernel : ∀ t : Fin grid0.N, _)
theorem at2 : ∀ t : Fin cfg0.N, win0_2.index t (0 : Fin 4) = t.val % 2 ∧ win0_2.index t (1 : Fin 4) = 0 ∧ win0_2.index t (2 : Fin 4) = t.val / 2 ∧ win0_2.index t (3 : Fin 4) = 0 := (by decide +kernel : ∀ t : Fin grid0.N, _)
theorem at3 : ∀ t : Fin cfg0.N, win0_3.index t (0 : Fin 3) = t.val % 2 ∧ win0_3.index t (1 : Fin 3) = t.val / 2 ∧ win0_3.index t (2 : Fin 3) = 0 := (by decide +kernel : ∀ t : Fin grid0.N, _)
theorem at4 : ∀ t : Fin cfg0.N, win0_4.index t (0 : Fin 3) = t.val % 2 ∧ win0_4.index t (1 : Fin 3) = t.val / 2 ∧ win0_4.index t (2 : Fin 3) = 0 := (by decide +kernel : ∀ t : Fin grid0.N, _)
theorem at5 : ∀ t : Fin cfg0.N, win0_5.index t (0 : Fin 3) = t.val % 2 ∧ win0_5.index t (1 : Fin 3) = t.val / 2 ∧ win0_5.index t (2 : Fin 3) = 0 := (by decide +kernel : ∀ t : Fin grid0.N, _)
theorem at6 : ∀ t : Fin cfg0.N, win0_6.index t (0 : Fin 3) = 0 ∧ win0_6.index t (1 : Fin 3) = t.val / 2 ∧ win0_6.index t (2 : Fin 3) = 0 := (by decide +kernel : ∀ t : Fin grid0.N, _)
theorem at7 : ∀ t : Fin cfg0.N, win0_7.index t (0 : Fin 3) = 0 ∧ win0_7.index t (1 : Fin 3) = t.val / 2 ∧ win0_7.index t (2 : Fin 3) = 0 := (by decide +kernel : ∀ t : Fin grid0.N, _)
theorem at8 : ∀ t : Fin cfg0.N, win0_8.index t (0 : Fin 2) = t.val / 2 ∧ win0_8.index t (1 : Fin 2) = 0 := (by decide +kernel : ∀ t : Fin grid0.N, _)
theorem at9 : ∀ t : Fin cfg0.N, win0_9.index t (0 : Fin 2) = t.val / 2 ∧ win0_9.index t (1 : Fin 2) = 0 := (by decide +kernel : ∀ t : Fin grid0.N, _)
theorem at10 : ∀ t : Fin cfg0.N, win0_10.index t (0 : Fin 3) = t.val % 2 ∧ win0_10.index t (1 : Fin 3) = 0 ∧ win0_10.index t (2 : Fin 3) = 0 := (by decide +kernel : ∀ t : Fin grid0.N, _)
theorem at11 : ∀ t : Fin cfg0.N, win0_11.index t (0 : Fin 3) = t.val % 2 ∧ win0_11.index t (1 : Fin 3) = 0 ∧ win0_11.index t (2 : Fin 3) = t.val / 2 := (by decide +kernel : ∀ t : Fin grid0.N, _)
theorem V_v0 (c : Dev nD) : V m c main_v0 = (transpose S2x24x768 [0, 2, 1] (m ((c : Thread nD τ).loc main_arg3)) transposes_S2x768x24_S2x24x768_0_2_1 : FVec Ideal S2x24x768 .f32) := by
  unfold_abbrev_sides
  after_results
theorem V_v1 (c : Dev nD) : V m c main_v1 = (transpose S2x24x768 [0, 2, 1] (m ((c : Thread nD τ).loc main_arg4)) transposes_S2x768x24_S2x24x768_0_2_1 : FVec Ideal S2x24x768 .f32) := by
  unfold_abbrev_sides
  after_results
theorem V_v2 (c : Dev nD) : V m c main_v2 = (transpose S2x24x768 [0, 2, 1] (m ((c : Thread nD τ).loc main_arg5)) transposes_S2x768x24_S2x24x768_0_2_1 : FVec Ideal S2x24x768 .f32) := by
  unfold_abbrev_sides
  after_results
theorem V_v3 (c : Dev nD) : V m c main_v3 = (transpose S24x512 [1, 0] (m ((c : Thread nD τ).loc main_arg8)) transposes_S512x24_S24x512_1_0 : FVec Ideal S24x512 .f32) := by
  unfold_abbrev_sides
  after_results
theorem V_v4 (c : Dev nD) : V m c main_v4 = (transpose S24x512 [1, 0] (m ((c : Thread nD τ).loc main_arg9)) transposes_S512x24_S24x512_1_0 : FVec Ideal S24x512 .f32) := by
  unfold_abbrev_sides
  after_results
theorem V_v5 (c : Dev nD) : V m c main_v5 = (shapeCast S2x1x768 (m ((c : Thread nD τ).loc main_arg10)) shapeCasts_S2x768_S2x1x768 : IVec S2x1x768 32) := by
  unfold_abbrev_sides
  after_results
  try rfl

/-! ## The arrays the region reads -/

theorem tr021 {x : S2x768x24.Idx → EReal} {f : ℕ → ℕ → ℕ → EReal} (hx : Is3 (n0 := 2) (n1 := 768) (n2 := 24) (α := EReal) x f) :
    Is3 (n0 := 2) (n1 := 24) (n2 := 768) (α := EReal) (transpose S2x24x768 [0, 2, 1] x transposes_S2x768x24_S2x24x768_0_2_1) (fun b h s => f b s h) := fun j =>
  by
  rw [transpose_apply _ x _ j (ValueIdx.ix3 (j 0) (j 2) (j 1) : S2x768x24.Idx) ?_, hx]
  · intro d
    match d with
    | ⟨0, _⟩ => rfl
    | ⟨1, _⟩ => rfl
    | ⟨2, _⟩ => rfl
theorem seg_cast {x : S2x768.Idx → BitVec 32} {f : ℕ → ℕ → BitVec 32} (hx : Is2 (n0 := 2) (n1 := 768) (α := BitVec 32) x f) :
    Is3 (n0 := 2) (n1 := 1) (n2 := 768) (α := BitVec 32) (shapeCast S2x1x768 x shapeCasts_S2x768_S2x1x768) (fun b _ s => f b s) := fun j => by
  have h1 : (j 1).val < 1 := (j 1).isLt
  rw [shapeCast_apply x _ j (ValueIdx.ix2 (j 0) (j 2) : S2x768.Idx) ?_, hx]
  · rw [Shape.rowMajor_val_three, Shape.rowMajor_val_two]
    show (j 0).val * 768 + (j 2).val = ((j 0).val * 1 + (j 1).val) * 768 + (j 2).val
    omega

theorem reads_point (c : Dev nD) (t : Fin cfg0.N) : Reads (iblk m c 0 t) (iblk m c 1 t) (iblk m c 2 t) (iblk m c 3 t) (iblk m c 4 t) (iblk m c 5 t) (iblk m c 6 t) (iblk m c 7 t) (iblk m c 8 t) (iblk m c 9 t) (iblk m c 10 t) ((arr m c).blk t.val) where
  r2 := fun j => by
    have h : Is4 (n0 := 2) (n1 := 768) (n2 := 24) (n3 := 128) (α := EReal) (V m c main_arg0)  (arr m c).q := by rw [V_main_arg0]; exact is_n4 (α := EReal) _
    obtain ⟨e0, e1, e2, e3⟩ := at0 t
    refine (h (((cfg0.win 0).blk t).view.emb j)).trans ?_
    show (arr m c).q (win0_0.index t (0 : Fin 4) * 1 + 1 * (j 0).val) (win0_0.index t (1 : Fin 4) * 768 + 1 * (j 1).val) (win0_0.index t (2 : Fin 4) * 8 + 1 * (j 2).val) (win0_0.index t (3 : Fin 4) * 128 + 1 * (j 3).val) = (arr m c).q (t.val % 2) (j 1).val (t.val / 2 * 8 + (j 2).val) (j 3).val
    have z0 : win0_0.index t (0 : Fin 4) * 1 + 1 * (j 0).val = (t.val % 2) := by have := (j 0).isLt; rw [e0]; have h1 : (j 0).val < 1 := this; omega
    have z1 : win0_0.index t (1 : Fin 4) * 768 + 1 * (j 1).val = (j 1).val := by have := (j 1).isLt; rw [e1]; omega
    have z2 : win0_0.index t (2 : Fin 4) * 8 + 1 * (j 2).val = (t.val / 2 * 8 + (j 2).val) := by have := (j 2).isLt; rw [e2]; omega
    have z3 : win0_0.index t (3 : Fin 4) * 128 + 1 * (j 3).val = (j 3).val := by have := (j 3).isLt; rw [e3]; omega
    rw [z0, z1, z2, z3]
  r3 := fun j => by
    have h : Is4 (n0 := 2) (n1 := 768) (n2 := 24) (n3 := 128) (α := EReal) (V m c main_arg1)  (arr m c).k := by rw [V_main_arg1]; exact is_n4 (α := EReal) _
    obtain ⟨e0, e1, e2, e3⟩ := at1 t
    refine (h (((cfg0.win 1).blk t).view.emb j)).trans ?_
    show (arr m c).k (win0_1.index t (0 : Fin 4) * 1 + 1 * (j 0).val) (win0_1.index t (1 : Fin 4) * 768 + 1 * (j 1).val) (win0_1.index t (2 : Fin 4) * 8 + 1 * (j 2).val) (win0_1.index t (3 : Fin 4) * 128 + 1 * (j 3).val) = (arr m c).k (t.val % 2) (j 1).val (t.val / 2 * 8 + (j 2).val) (j 3).val
    have z0 : win0_1.index t (0 : Fin 4) * 1 + 1 * (j 0).val = (t.val % 2) := by have := (j 0).isLt; rw [e0]; have h1 : (j 0).val < 1 := this; omega
    have z1 : win0_1.index t (1 : Fin 4) * 768 + 1 * (j 1).val = (j 1).val := by have := (j 1).isLt; rw [e1]; omega
    have z2 : win0_1.index t (2 : Fin 4) * 8 + 1 * (j 2).val = (t.val / 2 * 8 + (j 2).val) := by have := (j 2).isLt; rw [e2]; omega
    have z3 : win0_1.index t (3 : Fin 4) * 128 + 1 * (j 3).val = (j 3).val := by have := (j 3).isLt; rw [e3]; omega
    rw [z0, z1, z2, z3]
  r4 := fun j => by
    have h : Is4 (n0 := 2) (n1 := 768) (n2 := 24) (n3 := 128) (α := EReal) (V m c main_arg2)  (arr m c).v := by rw [V_main_arg2]; exact is_n4 (α := EReal) _
    obtain ⟨e0, e1, e2, e3⟩ := at2 t
    refine (h (((cfg0.win 2).blk t).view.emb j)).trans ?_
    show (arr m c).v (win0_2.index t (0 : Fin 4) * 1 + 1 * (j 0).val) (win0_2.index t (1 : Fin 4) * 768 + 1 * (j 1).val) (win0_2.index t (2 : Fin 4) * 8 + 1 * (j 2).val) (win0_2.index t (3 : Fin 4) * 128 + 1 * (j 3).val) = (arr m c).v (t.val % 2) (j 1).val (t.val / 2 * 8 + (j 2).val) (j 3).val
    have z0 : win0_2.index t (0 : Fin 4) * 1 + 1 * (j 0).val = (t.val % 2) := by have := (j 0).isLt; rw [e0]; have h1 : (j 0).val < 1 := this; omega
    have z1 : win0_2.index t (1 : Fin 4) * 768 + 1 * (j 1).val = (j 1).val := by have := (j 1).isLt; rw [e1]; omega
    have z2 : win0_2.index t (2 : Fin 4) * 8 + 1 * (j 2).val = (t.val / 2 * 8 + (j 2).val) := by have := (j 2).isLt; rw [e2]; omega
    have z3 : win0_2.index t (3 : Fin 4) * 128 + 1 * (j 3).val = (j 3).val := by have := (j 3).isLt; rw [e3]; omega
    rw [z0, z1, z2, z3]
  r5 := fun j => by
    have h : Is3 (n0 := 2) (n1 := 24) (n2 := 768) (α := EReal) (V m c main_v0)  (fun b h s => (arr m c).qs b s h) := by rw [V_v0]; exact tr021 (is_n3 (α := EReal) _)
    obtain ⟨e0, e1, e2⟩ := at3 t
    refine (h (((cfg0.win 3).blk t).view.emb j)).trans ?_
    show (fun b h s => (arr m c).qs b s h) (win0_3.index t (0 : Fin 3) * 1 + 1 * (j 0).val) (win0_3.index t (1 : Fin 3) * 8 + 1 * (j 1).val) (win0_3.index t (2 : Fin 3) * 768 + 1 * (j 2).val) = (fun b h s => (arr m c).qs b s h) (t.val % 2) (t.val / 2 * 8 + (j 1).val) (j 2).val
    have z0 : win0_3.index t (0 : Fin 3) * 1 + 1 * (j 0).val = (t.val % 2) := by have := (j 0).isLt; rw [e0]; have h1 : (j 0).val < 1 := this; omega
    have z1 : win0_3.index t (1 : Fin 3) * 8 + 1 * (j 1).val = (t.val / 2 * 8 + (j 1).val) := by have := (j 1).isLt; rw [e1]; omega
    have z2 : win0_3.index t (2 : Fin 3) * 768 + 1 * (j 2).val = (j 2).val := by have := (j 2).isLt; rw [e2]; omega
    rw [z0, z1, z2]
  r6 := fun j => by
    have h : Is3 (n0 := 2) (n1 := 24) (n2 := 768) (α := EReal) (V m c main_v1)  (fun b h s => (arr m c).ks b s h) := by rw [V_v1]; exact tr021 (is_n3 (α := EReal) _)
    obtain ⟨e0, e1, e2⟩ := at4 t
    refine (h (((cfg0.win 4).blk t).view.emb j)).trans ?_
    show (fun b h s => (arr m c).ks b s h) (win0_4.index t (0 : Fin 3) * 1 + 1 * (j 0).val) (win0_4.index t (1 : Fin 3) * 8 + 1 * (j 1).val) (win0_4.index t (2 : Fin 3) * 768 + 1 * (j 2).val) = (fun b h s => (arr m c).ks b s h) (t.val % 2) (t.val / 2 * 8 + (j 1).val) (j 2).val
    have z0 : win0_4.index t (0 : Fin 3) * 1 + 1 * (j 0).val = (t.val % 2) := by have := (j 0).isLt; rw [e0]; have h1 : (j 0).val < 1 := this; omega
    have z1 : win0_4.index t (1 : Fin 3) * 8 + 1 * (j 1).val = (t.val / 2 * 8 + (j 1).val) := by have := (j 1).isLt; rw [e1]; omega
    have z2 : win0_4.index t (2 : Fin 3) * 768 + 1 * (j 2).val = (j 2).val := by have := (j 2).isLt; rw [e2]; omega
    rw [z0, z1, z2]
  r7 := fun j => by
    have h : Is3 (n0 := 2) (n1 := 24) (n2 := 768) (α := EReal) (V m c main_v2)  (fun b h s => (arr m c).vs b s h) := by rw [V_v2]; exact tr021 (is_n3 (α := EReal) _)
    obtain ⟨e0, e1, e2⟩ := at5 t
    refine (h (((cfg0.win 5).blk t).view.emb j)).trans ?_
    show (fun b h s => (arr m c).vs b s h) (win0_5.index t (0 : Fin 3) * 1 + 1 * (j 0).val) (win0_5.index t (1 : Fin 3) * 8 + 1 * (j 1).val) (win0_5.index t (2 : Fin 3) * 768 + 1 * (j 2).val) = (fun b h s => (arr m c).vs b s h) (t.val % 2) (t.val / 2 * 8 + (j 1).val) (j 2).val
    have z0 : win0_5.index t (0 : Fin 3) * 1 + 1 * (j 0).val = (t.val % 2) := by have := (j 0).isLt; rw [e0]; have h1 : (j 0).val < 1 := this; omega
    have z1 : win0_5.index t (1 : Fin 3) * 8 + 1 * (j 1).val = (t.val / 2 * 8 + (j 1).val) := by have := (j 1).isLt; rw [e1]; omega
    have z2 : win0_5.index t (2 : Fin 3) * 768 + 1 * (j 2).val = (j 2).val := by have := (j 2).isLt; rw [e2]; omega
    rw [z0, z1, z2]
  r8 := fun j => by
    have h : Is3 (n0 := 512) (n1 := 24) (n2 := 128) (α := EReal) (V m c main_arg6)  (arr m c).kr := by rw [V_main_arg6]; exact is_n3 (α := EReal) _
    obtain ⟨e0, e1, e2⟩ := at6 t
    refine (h (((cfg0.win 6).blk t).view.emb j)).trans ?_
    show (arr m c).kr (win0_6.index t (0 : Fin 3) * 512 + 1 * (j 0).val) (win0_6.index t (1 : Fin 3) * 8 + 1 * (j 1).val) (win0_6.index t (2 : Fin 3) * 128 + 1 * (j 2).val) = (arr m c).kr (j 0).val (t.val / 2 * 8 + (j 1).val) (j 2).val
    have z0 : win0_6.index t (0 : Fin 3) * 512 + 1 * (j 0).val = (j 0).val := by have := (j 0).isLt; rw [e0]; omega
    have z1 : win0_6.index t (1 : Fin 3) * 8 + 1 * (j 1).val = (t.val / 2 * 8 + (j 1).val) := by have := (j 1).isLt; rw [e1]; omega
    have z2 : win0_6.index t (2 : Fin 3) * 128 + 1 * (j 2).val = (j 2).val := by have := (j 2).isLt; rw [e2]; omega
    rw [z0, z1, z2]
  r9 := fun j => by
    have h : Is3 (n0 := 512) (n1 := 24) (n2 := 128) (α := EReal) (V m c main_arg7)  (arr m c).qr := by rw [V_main_arg7]; exact is_n3 (α := EReal) _
    obtain ⟨e0, e1, e2⟩ := at7 t
    refine (h (((cfg0.win 7).blk t).view.emb j)).trans ?_
    show (arr m c).qr (win0_7.index t (0 : Fin 3) * 512 + 1 * (j 0).val) (win0_7.index t (1 : Fin 3) * 8 + 1 * (j 1).val) (win0_7.index t (2 : Fin 3) * 128 + 1 * (j 2).val) = (arr m c).qr (j 0).val (t.val / 2 * 8 + (j 1).val) (j 2).val
    have z0 : win0_7.index t (0 : Fin 3) * 512 + 1 * (j 0).val = (j 0).val := by have := (j 0).isLt; rw [e0]; omega
    have z1 : win0_7.index t (1 : Fin 3) * 8 + 1 * (j 1).val = (t.val / 2 * 8 + (j 1).val) := by have := (j 1).isLt; rw [e1]; omega
    have z2 : win0_7.index t (2 : Fin 3) * 128 + 1 * (j 2).val = (j 2).val := by have := (j 2).isLt; rw [e2]; omega
    rw [z0, z1, z2]
  r10 := fun j => by
    have h : Is2 (n0 := 24) (n1 := 512) (α := EReal) (V m c main_v3)  (fun h n => (arr m c).krs n h) := by rw [V_v3]; exact Is2.transpose (is_n2 (α := EReal) _) _
    obtain ⟨e0, e1⟩ := at8 t
    refine (h (((cfg0.win 8).blk t).view.emb j)).trans ?_
    show (fun h n => (arr m c).krs n h) (win0_8.index t (0 : Fin 2) * 8 + 1 * (j 0).val) (win0_8.index t (1 : Fin 2) * 512 + 1 * (j 1).val) = (fun h n => (arr m c).krs n h) (t.val / 2 * 8 + (j 0).val) (j 1).val
    have z0 : win0_8.index t (0 : Fin 2) * 8 + 1 * (j 0).val = (t.val / 2 * 8 + (j 0).val) := by have := (j 0).isLt; rw [e0]; omega
    have z1 : win0_8.index t (1 : Fin 2) * 512 + 1 * (j 1).val = (j 1).val := by have := (j 1).isLt; rw [e1]; omega
    rw [z0, z1]
  r11 := fun j => by
    have h : Is2 (n0 := 24) (n1 := 512) (α := EReal) (V m c main_v4)  (fun h n => (arr m c).qrs n h) := by rw [V_v4]; exact Is2.transpose (is_n2 (α := EReal) _) _
    obtain ⟨e0, e1⟩ := at9 t
    refine (h (((cfg0.win 9).blk t).view.emb j)).trans ?_
    show (fun h n => (arr m c).qrs n h) (win0_9.index t (0 : Fin 2) * 8 + 1 * (j 0).val) (win0_9.index t (1 : Fin 2) * 512 + 1 * (j 1).val) = (fun h n => (arr m c).qrs n h) (t.val / 2 * 8 + (j 0).val) (j 1).val
    have z0 : win0_9.index t (0 : Fin 2) * 8 + 1 * (j 0).val = (t.val / 2 * 8 + (j 0).val) := by have := (j 0).isLt; rw [e0]; omega
    have z1 : win0_9.index t (1 : Fin 2) * 512 + 1 * (j 1).val = (j 1).val := by have := (j 1).isLt; rw [e1]; omega
    rw [z0, z1]
  r12 := fun j => by
    have h : Is3 (n0 := 2) (n1 := 1) (n2 := 768) (α := BitVec 32) (V m c main_v5)  (fun b _ s => (arr m c).seg b s) := by rw [V_v5]; exact seg_cast (is_n2 (α := BitVec 32) _)
    obtain ⟨e0, e1, e2⟩ := at10 t
    refine (h (((cfg0.win 10).blk t).view.emb j)).trans ?_
    show (fun b _ s => (arr m c).seg b s) (win0_10.index t (0 : Fin 3) * 1 + 1 * (j 0).val) (win0_10.index t (1 : Fin 3) * 1 + 1 * (j 1).val) (win0_10.index t (2 : Fin 3) * 768 + 1 * (j 2).val) = (fun b _ s => (arr m c).seg b s) (t.val % 2) 0 (j 2).val
    have z0 : win0_10.index t (0 : Fin 3) * 1 + 1 * (j 0).val = (t.val % 2) := by have := (j 0).isLt; rw [e0]; have h1 : (j 0).val < 1 := this; omega
    have z1 : win0_10.index t (1 : Fin 3) * 1 + 1 * (j 1).val = 0 := by have := (j 1).isLt; rw [e1]; have h1 : (j 1).val < 1 := this; omega
    have z2 : win0_10.index t (2 : Fin 3) * 768 + 1 * (j 2).val = (j 2).val := by have := (j 2).isLt; rw [e2]; omega
    rw [z0, z1, z2]

end Cert.KernelIdeal.Hand.Val

end
-- ==== Proof.V.VRun.lean ====
/- The kernel's run with its value: each grid point's block, carried over the six points, is the result array (`run_value`). -/
module

public import proofs.«01_k».proof.Proof.V.Reads
public import Idealize.ShloMosaic.Lib.Pipeline.Value
public import Idealize.ShloMosaic.Lib.Pointwise
public import Idealize.ShloMosaic.Lib.Ring
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

/-- The resource algebra of the run. -/
local notation "𝕄I" => MT nD τ sig Unit (Elt Ideal) ℕ (UR sig nD τ) ℕ
open scoped BigOperators

section
variable (𝒱 : Variants) (c : Dev nD) (bd : Option 𝒱.V) (i : grid0.Coords)
  (arg2 : Memref sig .tc .vmem S1x768x8x128 .fp8e4m3) (harg2 : arg2.IsWhole)
  (arg3 : Memref sig .tc .vmem S1x768x8x128 .fp8e4m3) (harg3 : arg3.IsWhole)
  (arg4 : Memref sig .tc .vmem S1x768x8x128 .fp8e4m3) (harg4 : arg4.IsWhole)
  (arg5 : Memref sig .tc .vmem S1x8x768 .f32) (harg5 : arg5.IsWhole)
  (arg6 : Memref sig .tc .vmem S1x8x768 .f32) (harg6 : arg6.IsWhole)
  (arg7 : Memref sig .tc .vmem S1x8x768 .f32) (harg7 : arg7.IsWhole)
  (arg8 : Memref sig .tc .vmem S512x8x128 .fp8e4m3) (harg8 : arg8.IsWhole)
  (arg9 : Memref sig .tc .vmem S512x8x128 .fp8e4m3) (harg9 : arg9.IsWhole)
  (arg10 : Memref sig .tc .vmem S8x512 .f32) (harg10 : arg10.IsWhole)
  (arg11 : Memref sig .tc .vmem S8x512 .f32) (harg11 : arg11.IsWhole)
  (arg12 : Memref sig .tc .vmem S1x1x768 .i32) (harg12 : arg12.IsWhole)
  (arg13 : Memref sig .tc .vmem S1x768x1024 .bf16) (harg13 : arg13.IsWhole)
  (arg14 : Memref sig .tc .vmem S8x768x128 .fp8e4m3) (harg14 : arg14.IsWhole)
  (arg15 : Memref sig .tc .vmem S8x768x128 .fp8e4m3) (harg15 : arg15.IsWhole)
  (arg16 : Memref sig .tc .vmem S8x768x128 .fp8e4m3) (harg16 : arg16.IsWhole)
  (arg17 : Memref sig .tc .vmem S8x768x128 .fp8e4m3) (harg17 : arg17.IsWhole)
  (arg18 : Memref sig .tc .vmem S8x768x128 .fp8e4m3) (harg18 : arg18.IsWhole)
  (arg19 : Memref sig .tc .vmem S8x768 .f32) (harg19 : arg19.IsWhole)
  (arg20 : Memref sig .tc .vmem S8x768 .f32) (harg20 : arg20.IsWhole)
  (arg21 : Memref sig .tc .vmem S768x128 .bf16) (harg21 : arg21.IsWhole)
  (arg22 : Memref sig .tc .vmem S768x768 .f32) (harg22 : arg22.IsWhole)
  (arg23 : Memref sig .tc .vmem S768x768 .f32) (harg23 : arg23.IsWhole)
  (arg24 : Memref sig .tc .vmem S6x6x128x128 .f32) (harg24 : arg24.IsWhole)
  (arg25 : Memref sig .tc .vmem S6x6x128x128 .f32) (harg25 : arg25.IsWhole)
  (arg26 : Memref sig .tc .vmem S768x768 .f32) (harg26 : arg26.IsWhole)
  (arg27 : Memref sig .tc .vmem S768x768 .bf16) (harg27 : arg27.IsWhole)

/-- The body at any point: the block it writes, and the relative tables it leaves for the next point. -/
theorem body_val (d2 : S1x768x8x128.Idx → Elt Ideal .fp8e4m3) (d3 : S1x768x8x128.Idx → Elt Ideal .fp8e4m3) (d4 : S1x768x8x128.Idx → Elt Ideal .fp8e4m3) (d5 : S1x8x768.Idx → Elt Ideal .f32) (d6 : S1x8x768.Idx → Elt Ideal .f32) (d7 : S1x8x768.Idx → Elt Ideal .f32) (d8 : S512x8x128.Idx → Elt Ideal .fp8e4m3) (d9 : S512x8x128.Idx → Elt Ideal .fp8e4m3) (d10 : S8x512.Idx → Elt Ideal .f32) (d11 : S8x512.Idx → Elt Ideal .f32) (d12 : S1x1x768.Idx → Elt Ideal .i32) {B : Blk} (R : Reads d2 d3 d4 d5 d6 d7 d8 d9 d10 d11 d12 B) (E : Set ℕ) :
    (iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d17 d18 d19 d20, ⌜¬ k0_cond1 i = 1#1 → Car d17 d18 d19 d20 B⌝ ∗ owns (c : Thread nD τ) arg17 fullShare d17 ∗ owns (c : Thread nD τ) arg18 fullShare d18 ∗ owns (c : Thread nD τ) arg19 fullShare d19 ∗ owns (c : Thread nD τ) arg20 fullShare d20) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d)) : sProp 𝕄I)
      ⊢ wp frame (wpE (defs₀ (F := Ideal)) 𝒱 (c : Thread nD τ) bd) E (cc0__body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27)
          (fun _ => iprop(owns (c : Thread nD τ) arg2 fullShare d2 ∗ owns (c : Thread nD τ) arg3 fullShare d3 ∗ owns (c : Thread nD τ) arg4 fullShare d4 ∗ owns (c : Thread nD τ) arg5 fullShare d5 ∗ owns (c : Thread nD τ) arg6 fullShare d6 ∗ owns (c : Thread nD τ) arg7 fullShare d7 ∗ owns (c : Thread nD τ) arg8 fullShare d8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare (fun y : S1x768x1024.Idx => (blk B.src (y 1).val (y 2).val : EReal)) ∗ (∃ d, owns (c : Thread nD τ) arg14 fullShare d) ∗ (∃ d, owns (c : Thread nD τ) arg15 fullShare d) ∗ (∃ d, owns (c : Thread nD τ) arg16 fullShare d) ∗ (∃ d17 d18 d19 d20, ⌜Car d17 d18 d19 d20 B⌝ ∗ owns (c : Thread nD τ) arg17 fullShare d17 ∗ owns (c : Thread nD τ) arg18 fullShare d18 ∗ owns (c : Thread nD τ) arg19 fullShare d19 ∗ owns (c : Thread nD τ) arg20 fullShare d20) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d))) := by
  unfold owns
  iintro ⟨⟨%X2, %e2, H2⟩, ⟨%X3, %e3, H3⟩, ⟨%X4, %e4, H4⟩, ⟨%X5, %e5, H5⟩, ⟨%X6, %e6, H6⟩, ⟨%X7, %e7, H7⟩, ⟨%X8, %e8, H8⟩, ⟨%X9, %e9, H9⟩, ⟨%X10, %e10, H10⟩, ⟨%X11, %e11, H11⟩, ⟨%X12, %e12, H12⟩, ⟨%d13, %f13, -, H13⟩, ⟨%d14, %f14, -, H14⟩, ⟨%d15, %f15, -, H15⟩, ⟨%d16, %f16, -, H16⟩, ⟨%d17, %d18, %d19, %d20, %C, ⟨%f17, %e17, H17⟩, ⟨%f18, %e18, H18⟩, ⟨%f19, %e19, H19⟩, ⟨%f20, %e20, H20⟩⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩⟩
  subst e2 e3 e4 e5 e6 e7 e8 e9 e10 e11 e12 e17 e18 e19 e20
  by_cases hc : k0_cond1 i = 1#1
  · iapply (wp_wand_r Idealize.ShloMosaic.frame (wpE (defs₀ (F := Ideal)) 𝒱 (c : Thread nD τ) bd) E)
    isplitl [H2 H3 H4 H5 H6 H7 H8 H9 H10 H11 H12 H13 H14 H15 H16 H17 H18 H19 H20 H21 H22 H23 H24 H25 H26 H27]
    · iapply ((bodyA (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2.2.2.2.2 E f13)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H17]; · iexact H17
      isplitl [H18]; · iexact H18
      isplitl [H19]; · iexact H19
      isplitl [H20]; · iexact H20
      isplitl [H14]; · iexact H14
      isplitl [H15]; · iexact H15
      isplitl [H16]; · iexact H16
      isplitl [H21]; · iexact H21
      isplitl [H22]; · iexact H22
      isplitl [H23]; · iexists _; iexact H23
      isplitl [H24]; · iexists _; iexact H24
      isplitl [H25]; · iexists _; iexact H25
      isplitl [H26]; · iexists _; iexact H26
      isplitl [H27]; · iexists _; iexact H27
      iexact H13
    · iintro %_ ⟨H2, H3, H4, H5, H6, H7, H8, H9, H10, H11, H12, H17, H18, H19, H20, ⟨%g14, H14⟩, ⟨%g15, H15⟩, ⟨%g16, H16⟩, ⟨%g21, H21⟩, ⟨%g22, H22⟩, ⟨%g23, H23⟩, ⟨%g24, H24⟩, ⟨%g25, H25⟩, ⟨%g26, H26⟩, ⟨%g27, H27⟩, H13⟩
      isplitl [H2]; · iexists X2; isplitr; swap; (· iexact H2); ipureintro; rfl
      isplitl [H3]; · iexists X3; isplitr; swap; (· iexact H3); ipureintro; rfl
      isplitl [H4]; · iexists X4; isplitr; swap; (· iexact H4); ipureintro; rfl
      isplitl [H5]; · iexists X5; isplitr; swap; (· iexact H5); ipureintro; rfl
      isplitl [H6]; · iexists X6; isplitr; swap; (· iexact H6); ipureintro; rfl
      isplitl [H7]; · iexists X7; isplitr; swap; (· iexact H7); ipureintro; rfl
      isplitl [H8]; · iexists X8; isplitr; swap; (· iexact H8); ipureintro; rfl
      isplitl [H9]; · iexists X9; isplitr; swap; (· iexact H9); ipureintro; rfl
      isplitl [H10]; · iexists X10; isplitr; swap; (· iexact H10); ipureintro; rfl
      isplitl [H11]; · iexists X11; isplitr; swap; (· iexact H11); ipureintro; rfl
      isplitl [H12]; · iexists X12; isplitr; swap; (· iexact H12); ipureintro; rfl
      isplitl [H13]; · iexists _; isplitr; swap; (· iexact H13); ipureintro; exact funext (out_first 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 R hc (f14 := f14) (f15 := f15) (f16 := f16) (f17 := f17) (f18 := f18) (f19 := f19) (f20 := f20) (f21 := f21) (f22 := f22) f13)
      isplitl [H14]; · iexists _; iexists _; isplitr; swap; (· iexact H14); ipureintro; rfl
      isplitl [H15]; · iexists _; iexists _; isplitr; swap; (· iexact H15); ipureintro; rfl
      isplitl [H16]; · iexists _; iexists _; isplitr; swap; (· iexact H16); ipureintro; rfl
      isplitl [H17 H18 H19 H20]
      · iexists _; iexists _; iexists _; iexists _
        isplitr; swap
        · isplitl [H17]; · iexists _; isplitr; swap; (· iexact H17); ipureintro; rfl
          isplitl [H18]; · iexists _; isplitr; swap; (· iexact H18); ipureintro; rfl
          isplitl [H19]; · iexists _; isplitr; swap; (· iexact H19); ipureintro; rfl
          iexists _; isplitr; swap; (· iexact H20); ipureintro; rfl
        · ipureintro
          exact car_first 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 R hc (f14 := f14) (f15 := f15) (f16 := f16) (f17 := f17) (f18 := f18) (f19 := f19) (f20 := f20) (f21 := f21) (f22 := f22)
      isplitl [H21]; · iexists _; iexists _; isplitr; swap; (· iexact H21); ipureintro; rfl
      isplitl [H22]; · iexists _; iexists _; isplitr; swap; (· iexact H22); ipureintro; rfl
      isplitl [H23]; · iexists _; iexists _; isplitr; swap; (· iexact H23); ipureintro; rfl
      isplitl [H24]; · iexists _; iexists _; isplitr; swap; (· iexact H24); ipureintro; rfl
      isplitl [H25]; · iexists _; iexists _; isplitr; swap; (· iexact H25); ipureintro; rfl
      isplitl [H26]; · iexists _; iexists _; isplitr; swap; (· iexact H26); ipureintro; rfl
      iexists _; iexists _; isplitr; swap; (· iexact H27); ipureintro; rfl
  · iapply (wp_wand_r Idealize.ShloMosaic.frame (wpE (defs₀ (F := Ideal)) 𝒱 (c : Thread nD τ) bd) E)
    isplitl [H2 H3 H4 H5 H6 H7 H8 H9 H10 H11 H12 H13 H14 H15 H16 H17 H18 H19 H20 H21 H22 H23 H24 H25 H26 H27]
    · iapply ((bodyB (F := Ideal) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc X2 X3 X4 X5 X6 X7 X8 X9 X10 X11 X12 f17 f18 f19 f20 f14 f15 f16 f21 f22).2 E f13)
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H17]; · iexact H17
      isplitl [H18]; · iexact H18
      isplitl [H19]; · iexact H19
      isplitl [H20]; · iexact H20
      isplitl [H14]; · iexact H14
      isplitl [H15]; · iexact H15
      isplitl [H16]; · iexact H16
      isplitl [H21]; · iexact H21
      isplitl [H22]; · iexact H22
      isplitl [H23]; · iexists _; iexact H23
      isplitl [H24]; · iexists _; iexact H24
      isplitl [H25]; · iexists _; iexact H25
      isplitl [H26]; · iexists _; iexact H26
      isplitl [H27]; · iexists _; iexact H27
      iexact H13
    · iintro %_ ⟨H2, H3, H4, H5, H6, H7, H8, H9, H10, H11, H12, H17, H18, H19, H20, ⟨%g14, H14⟩, ⟨%g15, H15⟩, ⟨%g16, H16⟩, ⟨%g21, H21⟩, ⟨%g22, H22⟩, ⟨%g23, H23⟩, ⟨%g24, H24⟩, ⟨%g25, H25⟩, ⟨%g26, H26⟩, ⟨%g27, H27⟩, H13⟩
      isplitl [H2]; · iexists X2; isplitr; swap; (· iexact H2); ipureintro; rfl
      isplitl [H3]; · iexists X3; isplitr; swap; (· iexact H3); ipureintro; rfl
      isplitl [H4]; · iexists X4; isplitr; swap; (· iexact H4); ipureintro; rfl
      isplitl [H5]; · iexists X5; isplitr; swap; (· iexact H5); ipureintro; rfl
      isplitl [H6]; · iexists X6; isplitr; swap; (· iexact H6); ipureintro; rfl
      isplitl [H7]; · iexists X7; isplitr; swap; (· iexact H7); ipureintro; rfl
      isplitl [H8]; · iexists X8; isplitr; swap; (· iexact H8); ipureintro; rfl
      isplitl [H9]; · iexists X9; isplitr; swap; (· iexact H9); ipureintro; rfl
      isplitl [H10]; · iexists X10; isplitr; swap; (· iexact H10); ipureintro; rfl
      isplitl [H11]; · iexists X11; isplitr; swap; (· iexact H11); ipureintro; rfl
      isplitl [H12]; · iexists X12; isplitr; swap; (· iexact H12); ipureintro; rfl
      isplitl [H13]; · iexists _; isplitr; swap; (· iexact H13); ipureintro; exact funext (out_later 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 R hc (f14 := f14) (f15 := f15) (f16 := f16) (f21 := f21) (f22 := f22) (C hc) f13)
      isplitl [H14]; · iexists _; iexists _; isplitr; swap; (· iexact H14); ipureintro; rfl
      isplitl [H15]; · iexists _; iexists _; isplitr; swap; (· iexact H15); ipureintro; rfl
      isplitl [H16]; · iexists _; iexists _; isplitr; swap; (· iexact H16); ipureintro; rfl
      isplitl [H17 H18 H19 H20]
      · iexists _; iexists _; iexists _; iexists _
        isplitr; swap
        · isplitl [H17]; · iexists _; isplitr; swap; (· iexact H17); ipureintro; rfl
          isplitl [H18]; · iexists _; isplitr; swap; (· iexact H18); ipureintro; rfl
          isplitl [H19]; · iexists _; isplitr; swap; (· iexact H19); ipureintro; rfl
          iexists _; isplitr; swap; (· iexact H20); ipureintro; rfl
        · ipureintro
          exact C hc
      isplitl [H21]; · iexists _; iexists _; isplitr; swap; (· iexact H21); ipureintro; rfl
      isplitl [H22]; · iexists _; iexists _; isplitr; swap; (· iexact H22); ipureintro; rfl
      isplitl [H23]; · iexists _; iexists _; isplitr; swap; (· iexact H23); ipureintro; rfl
      isplitl [H24]; · iexists _; iexists _; isplitr; swap; (· iexact H24); ipureintro; rfl
      isplitl [H25]; · iexists _; iexists _; isplitr; swap; (· iexact H25); ipureintro; rfl
      isplitl [H26]; · iexists _; iexists _; isplitr; swap; (· iexact H26); ipureintro; rfl
      iexists _; iexists _; isplitr; swap; (· iexact H27); ipureintro; rfl
end

variable (m : (ℓ : Loc nD τ sig) → Buf (Elt Ideal) ℓ) (ρ : Dev nD → PrngReg)

/-- Between points: the scratch at anything, but the relative tables, before a later batch, as the first batch built them. -/
def Inv (c : Dev nD) (t : Fin (cfg0.N + 1)) : sProp 𝕄I :=
  iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d17 d18 d19 d20, ⌜t.val % 2 = 1 → Car d17 d18 d19 d20 ((arr m c).blk t.val)⌝ ∗ owns (c : Thread nD τ) (Memref.whole cc0_scratch3) fullShare d17 ∗ owns (c : Thread nD τ) (Memref.whole cc0_scratch4) fullShare d18 ∗ owns (c : Thread nD τ) (Memref.whole cc0_scratch5) fullShare d19 ∗ owns (c : Thread nD τ) (Memref.whole cc0_scratch6) fullShare d20) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d)) ∗ (∃ r, prngReg c r))

/-- The block of the result that point `t` writes. -/
def outBlk (c : Dev nD) (t : ℕ) : S1x768x1024.Idx → EReal := fun y => blk ((arr m c).blk t).src (y 1).val (y 2).val

/-- The proof data: each input's block left in place, the output's block as computed. -/
def vals (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlk m c t.val
    | ⟨n + 12, h⟩ => absurd h (Nat.not_lt.2 (Nat.le_add_left _ _))
  Φ := Inv m c
  q _ := fullShare
  owed _ := 0

theorem vals_A (c : Dev nD) (w : Fin cfg0.W) : (vals m 0 c).A w = V m c (Pipeline.arrRef spec0 w) := by dsimp only [vals]

/-- The scratch and the generator register, conjunct by conjunct. -/
theorem scratch_eq (c : Dev nD) : (Pipeline.ΦA spec0 c : sProp 𝕄I)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d)) ∗ (∃ r, prngReg c r)) := by
  unfold Pipeline.ΦA
  rw [scopedRest0_eq]; simp only [owns_whole]; try rfl

theorem later_odd : ∀ t : Fin cfg0.N, ¬ k0_cond1 (grid0.coords t) = 1#1 → t.val % 2 = 1 := (by decide +kernel : ∀ t : Fin grid0.N, _)

/-- Tables carried from a batch to the next of the same heads. -/
theorem Car.next {d17 : S8x768x128.Idx → Elt Ideal .fp8e4m3} {d18 : S8x768x128.Idx → Elt Ideal .fp8e4m3} {d19 : S8x768.Idx → Elt Ideal .f32} {d20 : S8x768.Idx → Elt Ideal .f32}
    {A : Arr} {t : ℕ} (C : Car d17 d18 d19 d20 (A.blk t)) (h : (t + 1) % 2 = 1) : Car d17 d18 d19 d20 (A.blk (t + 1)) := by
  have e : (t + 1) / 2 = t / 2 := by omega
  obtain ⟨c1, c2, c3, c4⟩ := C
  unfold Arr.blk at c1 c2 c3 c4 ⊢
  refine ⟨?_, ?_, ?_, ?_⟩ <;> dsimp only <;> rw [e] <;> assumption

/-- What the body is called with at point `t`. -/
def valPre (c : Dev nD) (t : Fin cfg0.N) : sProp 𝕄I :=
  iprop((vals m 0 c).Φ t.castSucc ∗ (vals m 0 c).owesAt () t.castSucc
    ∗ (∃ d, owns (c : Thread nD τ) (st0_0 t) fullShare ((vals m 0 c).before 0 t d)) ∗ (∃ d, owns (c : Thread nD τ) (st0_1 t) fullShare ((vals m 0 c).before 1 t d)) ∗ (∃ d, owns (c : Thread nD τ) (st0_2 t) fullShare ((vals m 0 c).before 2 t d)) ∗ (∃ d, owns (c : Thread nD τ) (st0_3 t) fullShare ((vals m 0 c).before 3 t d)) ∗ (∃ d, owns (c : Thread nD τ) (st0_4 t) fullShare ((vals m 0 c).before 4 t d)) ∗ (∃ d, owns (c : Thread nD τ) (st0_5 t) fullShare ((vals m 0 c).before 5 t d)) ∗ (∃ d, owns (c : Thread nD τ) (st0_6 t) fullShare ((vals m 0 c).before 6 t d)) ∗ (∃ d, owns (c : Thread nD τ) (st0_7 t) fullShare ((vals m 0 c).before 7 t d)) ∗ (∃ d, owns (c : Thread nD τ) (st0_8 t) fullShare ((vals m 0 c).before 8 t d)) ∗ (∃ d, owns (c : Thread nD τ) (st0_9 t) fullShare ((vals m 0 c).before 9 t d)) ∗ (∃ d, owns (c : Thread nD τ) (st0_10 t) fullShare ((vals m 0 c).before 10 t d)) ∗ (∃ d, owns (c : Thread nD τ) (st0_11 t) fullShare ((vals m 0 c).before 11 t d)))
/-- What it returns. -/
def valPost (c : Dev nD) (t : Fin cfg0.N) : sProp 𝕄I :=
  iprop((vals m 0 c).Φ t.succ ∗ (vals m 0 c).owesAt () t.succ
    ∗ owns (c : Thread nD τ) (st0_0 t) fullShare ((vals m 0 c).after 0 t) ∗ owns (c : Thread nD τ) (st0_1 t) fullShare ((vals m 0 c).after 1 t) ∗ owns (c : Thread nD τ) (st0_2 t) fullShare ((vals m 0 c).after 2 t) ∗ owns (c : Thread nD τ) (st0_3 t) fullShare ((vals m 0 c).after 3 t) ∗ owns (c : Thread nD τ) (st0_4 t) fullShare ((vals m 0 c).after 4 t) ∗ owns (c : Thread nD τ) (st0_5 t) fullShare ((vals m 0 c).after 5 t) ∗ owns (c : Thread nD τ) (st0_6 t) fullShare ((vals m 0 c).after 6 t) ∗ owns (c : Thread nD τ) (st0_7 t) fullShare ((vals m 0 c).after 7 t) ∗ owns (c : Thread nD τ) (st0_8 t) fullShare ((vals m 0 c).after 8 t) ∗ owns (c : Thread nD τ) (st0_9 t) fullShare ((vals m 0 c).after 9 t) ∗ owns (c : Thread nD τ) (st0_10 t) fullShare ((vals m 0 c).after 10 t) ∗ owns (c : Thread nD τ) (st0_11 t) fullShare ((vals m 0 c).after 11 t))

theorem val_body (c : Dev nD) (t : Fin cfg0.N) :
    valPre m c t ⊢ wp frame (wpE (defs₀ (F := Ideal)) Variants.none (c : Thread nD τ) none) Set.univ (bodyAt0 t) (fun _ => valPost m c t) := by
  unfold valPre valPost
  rw [show (vals m 0 c).Φ t.succ = Inv m c t.succ from rfl,
    show (vals m 0 c).owesAt () t.succ = (vals m 0 c).owesAt () t.castSucc from rfl,
    show (vals m 0 c).Φ t.castSucc = Inv m c t.castSucc from rfl]
  unfold Inv
  simp only [before0_0_of m (vals m 0 c) (vals_A m c 0) (fun _ => rfl) t]
  simp only [before0_1_of m (vals m 0 c) (vals_A m c 1) (fun _ => rfl) t]
  simp only [before0_2_of m (vals m 0 c) (vals_A m c 2) (fun _ => rfl) t]
  simp only [before0_3_of m (vals m 0 c) (vals_A m c 3) (fun _ => rfl) t]
  simp only [before0_4_of m (vals m 0 c) (vals_A m c 4) (fun _ => rfl) t]
  simp only [before0_5_of m (vals m 0 c) (vals_A m c 5) (fun _ => rfl) t]
  simp only [before0_6_of m (vals m 0 c) (vals_A m c 6) (fun _ => rfl) t]
  simp only [before0_7_of m (vals m 0 c) (vals_A m c 7) (fun _ => rfl) t]
  simp only [before0_8_of m (vals m 0 c) (vals_A m c 8) (fun _ => rfl) t]
  simp only [before0_9_of m (vals m 0 c) (vals_A m c 9) (fun _ => rfl) t]
  simp only [before0_10_of m (vals m 0 c) (vals_A m c 10) (fun _ => rfl) t]
  iintro ⟨⟨⟨H14, H15, H16, ⟨%d17, %d18, %d19, %d20, %C, HC⟩, H21, H22, H23, H24, H25, H26, H27⟩, HR⟩, HO, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (wp_wand_r Idealize.ShloMosaic.frame (wpE (defs₀ (F := Ideal)) Variants.none (c : Thread nD τ) none) Set.univ)
  isplitl [H2 H3 H4 H5 H6 H7 H8 H9 H10 H11 H12 H13 H14 H15 H16 HC H21 H22 H23 H24 H25 H26 H27]
  · iapply (body_val Variants.none c none (grid0.coords t) (win0_0.stage (cfg0.slots t 0)) (hstage0_0 _) (win0_1.stage (cfg0.slots t 1)) (hstage0_1 _) (win0_2.stage (cfg0.slots t 2)) (hstage0_2 _) (win0_3.stage (cfg0.slots t 3)) (hstage0_3 _) (win0_4.stage (cfg0.slots t 4)) (hstage0_4 _) (win0_5.stage (cfg0.slots t 5)) (hstage0_5 _) (win0_6.stage (cfg0.slots t 6)) (hstage0_6 _) (win0_7.stage (cfg0.slots t 7)) (hstage0_7 _) (win0_8.stage (cfg0.slots t 8)) (hstage0_8 _) (win0_9.stage (cfg0.slots t 9)) (hstage0_9 _) (win0_10.stage (cfg0.slots t 10)) (hstage0_10 _) (win0_11.stage (cfg0.slots t 11)) (hstage0_11 _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (reads_point m c t) Set.univ)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexists _; iexact H13
    isplitl [H14]; · iexact H14
    isplitl [H15]; · iexact H15
    isplitl [H16]; · iexact H16
    isplitl [HC]
    · iexists d17; iexists d18; iexists d19; iexists d20
      isplitr; swap; (· iexact HC); ipureintro; exact fun hc => C (later_odd t hc)
    isplitl [H21]; · iexact H21
    isplitl [H22]; · iexact H22
    isplitl [H23]; · iexact H23
    isplitl [H24]; · iexact H24
    isplitl [H25]; · iexact H25
    isplitl [H26]; · iexact H26
    iexact H27
  · iintro %_ ⟨H2, H3, H4, H5, H6, H7, H8, H9, H10, H11, H12, H13, H14, H15, H16, ⟨%g17, %g18, %g19, %g20, %C2, HC⟩, H21, H22, H23, H24, H25, H26, H27⟩
    isplitl [HR H14 H15 H16 HC H21 H22 H23 H24 H25 H26 H27]
    · isplitl [H14 H15 H16 HC H21 H22 H23 H24 H25 H26 H27]
      · isplitl [H14]; · iexact H14
        isplitl [H15]; · iexact H15
        isplitl [H16]; · iexact H16
        isplitl [HC]
        · iexists g17; iexists g18; iexists g19; iexists g20
          isplitr; swap; (· iexact HC); ipureintro; exact fun h => C2.next h
        isplitl [H21]; · iexact H21
        isplitl [H22]; · iexact H22
        isplitl [H23]; · iexact H23
        isplitl [H24]; · iexact H24
        isplitl [H25]; · iexact H25
        isplitl [H26]; · iexact H26
        iexact H27
      iexact HR
    isplitl [HO]; · iexact HO
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row at the point is the body as `bodyAt0` spells it. -/
theorem row_point (t : Fin cfg0.N) : defs₀ (F := Ideal) .tc cfg0.body (cfg0.bodyArgs t (cfg0.slots t)) = bodyAt0 t := by
  unfold defs₀; rw [Defs.onTc_tc]

theorem val_obligation (c : Dev nD) :
    BodyObligation (vals m 0 c) (defs₀ (F := Ideal)) Variants.none () Set.univ := fun t => by
  rw [bigSep_W0, bigSep_W0, row_point]
  exact triple_restated (val_body m c t) rfl .rfl fun _ => .rfl

theorem inv_in (c : Dev nD) : Pipeline.ΦA spec0 c ⊢ Inv m c 0 := by
  rw [scratch_eq]; unfold Inv
  iintro ⟨⟨H14, H15, H16, ⟨%d17, H17⟩, ⟨%d18, H18⟩, ⟨%d19, H19⟩, ⟨%d20, H20⟩, HT⟩, HR⟩
  isplitr [HR]; swap; (· iexact HR)
  isplitl [H14]; · iexact H14
  isplitl [H15]; · iexact H15
  isplitl [H16]; · iexact H16
  isplitr [HT]; swap; (· iexact HT)
  iexists d17; iexists d18; iexists d19; iexists d20
  isplitr
  · ipureintro; exact fun h => absurd h (by decide)
  isplitl [H17]; · iexact H17
  isplitl [H18]; · iexact H18
  isplitl [H19]; · iexact H19
  iexact H20

theorem inv_out (c : Dev nD) (t : Fin (cfg0.N + 1)) : Inv m c t ⊢ Pipeline.ΦA spec0 c := by
  rw [scratch_eq]; unfold Inv
  iintro ⟨⟨H14, H15, H16, ⟨%d17, %d18, %d19, %d20, -, H17, H18, H19, H20⟩, HT⟩, HR⟩
  isplitr [HR]; swap; (· iexact HR)
  isplitl [H14]; · iexact H14
  isplitl [H15]; · iexact H15
  isplitl [H16]; · iexact H16
  isplitl [H17]; · iexists d17; iexact H17
  isplitl [H18]; · iexists d18; iexact H18
  isplitl [H19]; · iexists d19; iexact H19
  isplitl [H20]; · iexists d20; iexact H20
  iexact HT

/-- The result array. -/
def outArr (c : Dev nD) : S2x768x3072.Idx → EReal := fun x =>
  blk ((arr m c).blk (2 * ((x 2).val / 1024) + (x 0).val)).src (x 1).val ((x 2).val % 1024)

theorem out_emb (t : Fin cfg0.N) (j : S1x768x1024.Idx) :
    (((((cfg0.win 11).blk t).view.emb j : S2x768x3072.Idx) 0).val = t.val % 2 ∧ ((((cfg0.win 11).blk t).view.emb j : S2x768x3072.Idx) 1).val = (j 1).val
      ∧ ((((cfg0.win 11).blk t).view.emb j : S2x768x3072.Idx) 2).val = t.val / 2 * 1024 + (j 2).val) := by
  obtain ⟨e0, e1, e2⟩ := at11 t
  have h0 : (j 0).val < 1 := (j 0).isLt
  refine ⟨?_, ?_, ?_⟩
  · show win0_11.index t (0 : Fin 3) * 1 + 1 * (j 0).val = _; omega
  · show win0_11.index t (1 : Fin 3) * 768 + 1 * (j 1).val = _; omega
  · show win0_11.index t (2 : Fin 3) * 1024 + 1 * (j 2).val = _; omega

theorem out_flushed (c : Dev nD) (t : Fin cfg0.N) :
    (vals m 0 c).flushed 11 t = ((cfg0.win 11).blk t).view.read (Elt Ideal) (outArr m c) := by
  funext j
  obtain ⟨e0, e1, e2⟩ := out_emb t j
  have h2 : ((j : S1x768x1024.Idx) 2).val < 1024 := ((j : S1x768x1024.Idx) 2).isLt
  show outBlk m c t.val j = outArr m c (((cfg0.win 11).blk t).view.emb j)
  unfold outBlk outArr
  rw [e0, e1, e2]
  have a1 : 2 * ((t.val / 2 * 1024 + ((j : S1x768x1024.Idx) 2).val) / 1024) + t.val % 2 = t.val := by omega
  have a2 : (t.val / 2 * 1024 + ((j : S1x768x1024.Idx) 2).val) % 1024 = ((j : S1x768x1024.Idx) 2).val := by omega
  rw [a1, a2]

theorem out_covered (x : S2x768x3072.Idx) : ∃ t : Fin cfg0.N, (cfg0.win 11).flush t = true ∧ x ∈ ((cfg0.win 11).blk t).view.set := by
  have h0 : (x 0).val < 2 := (x 0).isLt
  have h1 : (x 1).val < 768 := (x 1).isLt
  have h2 : (x 2).val < 3072 := (x 2).isLt
  have ht : 2 * ((x 2).val / 1024) + (x 0).val < cfg0.N := by show _ < 6; omega
  refine ⟨⟨_, ht⟩, flush0_11 _, ?_⟩
  let j : S1x768x1024.Idx := ValueIdx.ix3 ⟨0, by omega⟩ ⟨(x 1).val, h1⟩ ⟨(x 2).val % 1024, by omega⟩
  obtain ⟨e0, e1, e2⟩ := out_emb ⟨_, ht⟩ j
  have e : (((cfg0.win 11).blk ⟨_, ht⟩).view.emb j : S2x768x3072.Idx) = x := by
    funext a; apply Fin.ext
    match a with
    | ⟨0, _⟩ => refine e0.trans ?_; show (2 * ((x 2).val / 1024) + (x 0).val) % 2 = (x 0).val; omega
    | ⟨1, _⟩ => exact e1
    | ⟨2, _⟩ => refine e2.trans ?_; show (2 * ((x 2).val / 1024) + (x 0).val) / 2 * 1024 + (x 2).val % 1024 = (x 2).val; omega
  have hm := ((cfg0.win 11).blk ⟨_, ht⟩).view.emb_mem_set j
  rwa [e] at hm

theorem out_final (c : Dev nD) : (vals m 0 c).arrAt 11 cfg0.N = outArr m c :=
  (vals m 0 c).arrAt_eq_of_cover 11 (outArr m c) (fun t _ => out_flushed m c t) out_covered

/-- Every execution of the kernel terminates with the result at `outArr`, the arguments unchanged, the counters at zero. -/
theorem run_value :
    θ_run defs (onTc (τ := τ) (main (F := Ideal))) (s₀ m ρ)
      (fun r => (∀ c : Dev nD, r.2.mem ((c : Thread nD τ).loc main_v6) = outArr m c) ∧ r.2.sem = fun _ => 0) :=
  Pipeline.θ_run_frame_track (Q' := _) cfgs (vals m) (0 : Fin 1) launch0 defs₀ Variants.none m ρ main
    (hbody := fun c => (val_obligation m c).loose) (hshare := fun c => (vals m 0 c).share_full fun _ => rfl)
    (howed := fun _ _ => rfl) (V := V m) (hmain := hmain m Variants.none) (hA := vals_A m)
    (hin := inv_in m) (hout := fun c => inv_out m c _)
    (hQ' := fun r h => ⟨fun c => ((h.1 c).1 11).trans (out_final m c), h.2⟩)

end Cert.KernelIdeal.Hand.Val

end
-- ==== Proof.V.Math.lean ====
/- From the kernel's arithmetic to plain attention on the extended reals: the sheared tables are the clipped relative rows,
   powers of two are exponentials, and normalising after the contraction is normalising before it (`out_attn`). -/
module

public import proofs.«01_k».proof.Proof.V.VRun
public import Idealize.ShloMosaic.Lib.Pointwise
public import Idealize.ShloMosaic.Lib.Ring
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal.Hand.Val

open Cert.KernelIdeal Cert.KernelIdeal.Gen Cert.KernelIdeal.Hand Cells
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open scoped BigOperators

/-! ## Arithmetic of the extended reals -/

theorem add_mul_real (a b : EReal) (c : EReal) (h0 : 0 ≤ c) (h1 : c ≠ ⊤) : (a + b) * c = a * c + b * c :=
  EReal.right_distrib_of_nonneg_of_ne_top h0 h1 a b

theorem sum_mul_real {n : ℕ} (f : Fin n → EReal) (c : EReal) (h0 : 0 ≤ c) (h1 : c ≠ ⊤) (s : Finset (Fin n)) :
    (∑ j ∈ s, f j) * c = ∑ j ∈ s, f j * c := by
  induction s using Finset.induction_on with
  | empty => simp
  | insert a s ha ih => rw [Finset.sum_insert ha, Finset.sum_insert ha, add_mul_real _ _ _ h0 h1, ih]

/-- The factor that turns base `e` into base two. -/
def lg : EReal := (((Real.log 2)⁻¹ : ℝ) : EReal)

theorem lg_real_pos : 0 < (Real.log 2)⁻¹ := inv_pos.mpr (Real.log_pos one_lt_two)
theorem lg_nonneg : 0 ≤ lg := by unfold lg; exact_mod_cast lg_real_pos.le
theorem lg_ne_top : lg ≠ ⊤ := EReal.coe_ne_top _
theorem bot_mul_lg : (⊥ : EReal) * lg = ⊥ := EReal.bot_mul_coe_of_pos lg_real_pos

theorem exp2_mul_lg (x : EReal) : Ideal.exp2 (x * lg) = Ideal.exp x := by
  induction x with
  | bot => rw [bot_mul_lg]; rfl
  | top => rw [show (⊤ : EReal) * lg = ⊤ from EReal.top_mul_coe_of_pos lg_real_pos]; rfl
  | coe r =>
    unfold lg
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos two_pos]
    congr 1
    have : Real.log 2 ≠ 0 := (Real.log_pos one_lt_two).ne'
    field_simp

theorem sub_mul_lg (a b : EReal) : a * lg - b * lg = (a - b) * lg := by
  rw [sub_eq_add_neg, sub_eq_add_neg, add_mul_real _ _ _ lg_nonneg lg_ne_top, EReal.neg_mul]

theorem sup_mul_lg {n : ℕ} (f : Fin n → EReal) : (Finset.univ.sup fun j => f j * lg) = Finset.univ.sup f * lg := by
  refine (Finset.comp_sup_eq_sup_comp (fun x : EReal => x * lg) (fun x y => ?_) bot_mul_lg).symm
  exact Monotone.map_max (f := fun x : EReal => x * lg) (fun a b h => mul_le_mul_of_nonneg_right h lg_nonneg)

theorem exp_nonneg (x : EReal) : 0 ≤ Ideal.exp x := by
  induction x with
  | bot => exact le_refl _
  | top => exact le_top
  | coe r => show (0 : EReal) ≤ ((Real.exp r : ℝ) : EReal); exact_mod_cast (Real.exp_pos r).le

theorem exp_le_one {x : EReal} (h : x ≤ 0) : Ideal.exp x ≤ 1 := by
  induction x with
  | bot => show (0 : EReal) ≤ 1; exact zero_le_one
  | top => exact absurd h (by simp)
  | coe r => show ((Real.exp r : ℝ) : EReal) ≤ 1; exact_mod_cast Real.exp_le_one_iff.mpr (by exact_mod_cast h)

theorem sub_le_zero {a b : EReal} (h : a ≤ b) : a - b ≤ 0 := by
  induction a with
  | bot => simp
  | top => have : b = ⊤ := top_le_iff.mp h
           subst this; simp
  | coe r => induction b with
    | bot => simp at h
    | top => simp
    | coe s => have h' : r ≤ s := by exact_mod_cast h
               show ((r : ℝ) : EReal) - ((s : ℝ) : EReal) ≤ 0
               rw [← EReal.coe_sub]; exact_mod_cast sub_nonpos.mpr h'

/-- Normalizing after the weighted sum, or normalizing the weights. -/
theorem norm_sum {n : ℕ} (e : Fin n → EReal) (h0 : ∀ j, 0 ≤ e j) (h1 : ∀ j, e j ≤ 1) (v vs : Fin n → EReal) :
    (∑ j, (v j * vs j) * e j) * Ideal.div 1 (∑ j, e j) = ∑ j, v j * (e j * Ideal.div 1 (∑ j, e j) * vs j) := by
  have hl0 : 0 ≤ ∑ j, e j := Finset.sum_nonneg fun j _ => h0 j
  by_cases hz : ∑ j, e j = 0
  · have he : ∀ j, e j = 0 := fun j => (Finset.sum_eq_zero_iff_of_nonneg fun j _ => h0 j).mp hz j (Finset.mem_univ j)
    simp only [he, mul_zero, zero_mul, Finset.sum_const_zero]
  · have hlt : ∑ j, e j ≠ ⊤ := by
      have hle : ∑ j, e j ≤ ((n : ℝ) : EReal) := by
        refine (Finset.sum_le_sum fun j _ => h1 j).trans (le_of_eq ?_)
        rw [Finset.sum_const, Finset.card_univ, Fintype.card_fin, nsmul_one]; simp
      exact fun ht => by rw [ht] at hle; exact absurd hle (not_le.mpr (EReal.coe_lt_top _))
    generalize ∑ j, e j = l at hl0 hz hlt ⊢
    have hd : Ideal.div 1 l = l⁻¹ := by unfold Ideal.div; rw [if_neg hz, one_mul]
    rw [hd]
    induction l with
    | bot => simp at hl0
    | top => exact absurd rfl hlt
    | coe r =>
      have hr : (0 : ℝ) ≤ r := by exact_mod_cast hl0
      rw [← EReal.coe_inv]
      rw [sum_mul_real _ _ (by exact_mod_cast inv_nonneg.mpr hr) (EReal.coe_ne_top _)]
      refine Finset.sum_congr rfl fun j _ => ?_
      ac_rfl

/-! ## The two scores -/

/-- The square root of the divisor. -/
def g : ℝ := Real.sqrt 384

theorem g_pos : 0 < g := Real.sqrt_pos.mpr (by norm_num)
theorem L_eq : L = ((g⁻¹ : ℝ) : EReal) * lg := by
  unfold L lg g; rw [← EReal.coe_mul, mul_comm]
theorem L_nonneg : 0 ≤ L := by
  rw [L_eq]; exact mul_nonneg (by exact_mod_cast (inv_pos.mpr g_pos).le) lg_nonneg
theorem L_ne_top : L ≠ ⊤ := EReal.coe_ne_top _
theorem div_g (x : EReal) : Ideal.div x (g : ℝ) = x * ((g⁻¹ : ℝ) : EReal) := by
  unfold Ideal.div
  rw [if_neg (by exact_mod_cast g_pos.ne'), EReal.coe_inv]

/-- The kernel's score is the plain one in base two. -/
theorem score_core (A C P qs ks krs qrs : EReal) (h0 : 0 ≤ ks) (h1 : ks ≠ ⊤) :
    (A * (qs * L) + P * (qrs * L)) * ks + (C * krs) * (qs * L)
      = Ideal.div (A * qs * ks + C * qs * krs + P * ks * qrs) (g : ℝ) * lg := by
  rw [div_g, mul_assoc _ _ lg, ← L_eq, add_mul_real _ _ _ h0 h1, add_mul_real _ _ _ L_nonneg L_ne_top, add_mul_real _ _ _ L_nonneg L_ne_top]
  have e1 : A * (qs * L) * ks = A * qs * ks * L := by ac_rfl
  have e2 : P * (qrs * L) * ks = P * ks * qrs * L := by ac_rfl
  have e3 : C * krs * (qs * L) = C * qs * krs * L := by ac_rfl
  rw [e1, e2, e3]; ac_rfl

/-- The clipped relative position. -/
def clp (i j : ℕ) : ℕ := min 511 (i + 256 - j)

variable (B : Blk)

theorem src_q (h s d : ℕ) : B.src.q h s d = B.q s h d := by unfold Blk.src; rfl
theorem src_k (h s d : ℕ) : B.src.k h s d = B.k s h d := by unfold Blk.src; rfl
theorem src_v (h s d : ℕ) : B.src.v h s d = B.v s h d := by unfold Blk.src; rfl
theorem src_qs : B.src.qs = B.qs := by unfold Blk.src; rfl
theorem src_vs : B.src.vs = B.vs := by unfold Blk.src; rfl
theorem src_kr (h p d : ℕ) : B.src.kr h p d = B.kr (pad p) h d := by unfold Blk.src; rfl
theorem src_qr (h p d : ℕ) : B.src.qr h p d = B.qr (pad p) h d := by unfold Blk.src; rfl
theorem src_krs (h p : ℕ) : B.src.krs h p = B.krs h (pad p) * 1 := by unfold Blk.src; rfl
theorem src_qrs (h p : ℕ) : B.src.qrs h p = B.qrs h (pad p) * L := by unfold Blk.src; rfl
theorem src_kst : B.src.kst = kst3 B.ks := by unfold Blk.src; rfl
theorem src_mask (j i : ℕ) : B.src.mask j i = if segf (B.seg j) = segf (B.seg i) then 0 else ⊥ := by unfold Blk.src mask2; rfl

theorem aT_src (h i j : ℕ) :
    aT B.src h (j / 128) (i / 128) (j % 128) (i % 128)
      = ((∑ d : Fin 128, B.q i h d.val * B.kr (clp i j) h d.val) * (B.krs h (clp i j) * 1)) * (B.qs h i * L) := by
  have key : ∀ t r, pad (128 * t + if t = 0 ∨ t = 5 then r else turn (i % 128) r) = clp i j →
      rat B.src h (i / 128) t r (i % 128)
        = ((∑ d : Fin 128, B.q i h d.val * B.kr (clp i j) h d.val) * (B.krs h (clp i j) * 1)) * (B.qs h i * L) := by
    intro t r e
    have ei : 128 * (i / 128) + i % 128 = i := Nat.div_add_mod i 128
    unfold rat tab1
    rw [ei]
    simp only [src_q, src_kr, src_krs, src_qs, e]
  unfold aT
  split_ifs with c1 c2 c3
  · apply key; unfold pad clp; split_ifs <;> omega
  · apply key; unfold pad clp; split_ifs <;> omega
  · apply key; unfold pad clp turn; split_ifs <;> omega
  · apply key; unfold pad clp turn; split_ifs <;> omega

theorem bT_src (h i j : ℕ) :
    bT B.src h (j / 128) (i / 128) (j % 128) (i % 128)
      = (∑ d : Fin 128, B.k j h d.val * B.qr (clp j i) h d.val) * (B.qrs h (clp j i) * L) := by
  have key : ∀ t c, pad (128 * t + if t = 0 ∨ t = 5 then c else turn (j % 128) c) = clp j i →
      rb B.src h (j / 128) t (j % 128) c
        = (∑ d : Fin 128, B.k j h d.val * B.qr (clp j i) h d.val) * (B.qrs h (clp j i) * L) := by
    intro t c e
    have ej : 128 * (j / 128) + j % 128 = j := Nat.div_add_mod j 128
    unfold rb tab2
    rw [ej]
    simp only [src_k, src_qr, src_qrs, e]
  unfold bT
  split_ifs with c1 c2 c3
  · apply key; unfold pad clp; split_ifs <;> omega
  · apply key; unfold pad clp; split_ifs <;> omega
  · apply key; unfold pad clp turn; split_ifs <;> omega
  · apply key; unfold pad clp turn; split_ifs <;> omega

/-- The three pieces of a finite scale add up to it. -/
theorem ksc_src (h j : ℕ) (hh : h < 8) (h0 : 0 ≤ B.ks h j) (h1 : B.ks h j ≠ ⊤) : ksc B.src h j = B.ks h j := by
  have hz : B.ks h j - B.ks h j = 0 := EReal.sub_self h1 (fun e => by rw [e] at h0; simp at h0)
  unfold ksc
  rw [src_kst]
  rw [Finset.sum_eq_single (⟨h, by omega⟩ : Fin 128)]
  · show kst3 B.ks j h * (if h = h ∨ h = h + 8 ∨ h = h + 16 then (1 : EReal) else 0) = _
    unfold kst3; rw [if_pos hh, if_pos (Or.inl rfl), mul_one]
  · intro d _ hd
    have hd' : d.val ≠ h := fun e => hd (Fin.ext e)
    by_cases hc : d.val = h ∨ d.val = h + 8 ∨ d.val = h + 16
    · rcases hc with e | e | e
      · exact absurd e hd'
      · rw [show kst3 B.ks j d.val = 0 from ?_, zero_mul]
        unfold kst3
        rw [e, if_neg (by omega), if_pos (by omega), Nat.add_sub_cancel, hz]
      · rw [show kst3 B.ks j d.val = 0 from ?_, zero_mul]
        unfold kst3
        rw [e, if_neg (by omega), if_neg (by omega), if_pos (by omega), Nat.add_sub_cancel, hz]; simp
    · rw [if_neg hc, mul_zero]
  · intro hd; exact absurd (Finset.mem_univ _) hd

theorem segf_inj (a b : BitVec 32) : segf a = segf b ↔ a = b := by
  constructor
  · intro h
    unfold segf at h
    have h' : (a.toInt : ℝ) = b.toInt := by exact_mod_cast h
    exact BitVec.eq_of_toInt_eq (by exact_mod_cast h')
  · rintro rfl; rfl

/-- The plain score of query `i` against key `j`. -/
def plain (h i j : ℕ) : EReal :=
  if B.seg i = B.seg j then
    Ideal.div ((∑ d : Fin 128, B.q i h d.val * B.k j h d.val) * B.qs h i * B.ks h j
      + (∑ d : Fin 128, B.kr (clp i j) h d.val * B.q i h d.val) * B.qs h i * B.krs h (clp i j)
      + (∑ d : Fin 128, B.qr (clp j i) h d.val * B.k j h d.val) * B.ks h j * B.qrs h (clp j i)) (g : ℝ)
  else ⊥

theorem score_plain (h i j : ℕ) (hh : h < 8) (h0 : 0 ≤ B.ks h j) (h1 : B.ks h j ≠ ⊤) :
    score B.src h j i = plain B h i j * lg := by
  unfold score plain
  rw [ksc_src B h j hh h0 h1, aT_src, bT_src, src_qs, src_mask]
  have ec : cc B.src h j i = ∑ d : Fin 128, B.q i h d.val * B.k j h d.val :=
    Finset.sum_congr rfl fun d _ => by rw [src_k, src_q, mul_comm]
  have ea : ∑ d : Fin 128, B.q i h d.val * B.kr (clp i j) h d.val = ∑ d : Fin 128, B.kr (clp i j) h d.val * B.q i h d.val :=
    Finset.sum_congr rfl fun d _ => mul_comm _ _
  have eb : ∑ d : Fin 128, B.k j h d.val * B.qr (clp j i) h d.val = ∑ d : Fin 128, B.qr (clp j i) h d.val * B.k j h d.val :=
    Finset.sum_congr rfl fun d _ => mul_comm _ _
  rw [ec, ea, eb, mul_one]
  by_cases hs : B.seg i = B.seg j
  · rw [if_pos hs, if_pos ((segf_inj _ _).mpr hs.symm), add_zero]
    exact score_core _ _ _ _ _ _ _ h0 h1
  · rw [if_neg hs, if_neg (fun e => hs ((segf_inj _ _).mp e).symm), EReal.add_bot, bot_mul_lg]

/-- The plain attention output of a head at row `i`, lane `d`. -/
def attn (h i d : ℕ) : EReal :=
  ∑ j : Fin 768, B.v j.val h d *
    (Ideal.exp (plain B h i j.val - Finset.univ.sup fun j : Fin 768 => plain B h i j.val)
      * Ideal.div 1 (∑ j' : Fin 768, Ideal.exp (plain B h i j'.val - Finset.univ.sup fun j : Fin 768 => plain B h i j.val))
      * B.vs h j.val)

theorem out_attn (h i d : ℕ) (hh : h < 8) (hk : ∀ j < 768, 0 ≤ B.ks h j ∧ B.ks h j ≠ ⊤) : outS B.src h i d = attn B h i d := by
  have hs : ∀ j : Fin 768, score B.src h j.val i = plain B h i j.val * lg := fun j =>
    score_plain B h i j.val hh (hk _ j.isLt).1 (hk _ j.isLt).2
  have hm : mx B.src h i = (Finset.univ.sup fun j : Fin 768 => plain B h i j.val) * lg := by
    unfold mx
    rw [← sup_mul_lg]
    exact congrArg _ (funext hs)
  have he : ∀ j : Fin 768, ef B.src h j.val i = Ideal.exp (plain B h i j.val - Finset.univ.sup fun j : Fin 768 => plain B h i j.val) := fun j => by
    unfold ef
    rw [hs, hm, sub_mul_lg, exp2_mul_lg]
  unfold outS attn lf
  simp only [he, src_v, src_vs]
  exact norm_sum _ (fun j => exp_nonneg _) (fun j => exp_le_one (sub_le_zero (Finset.le_sup (f := fun j : Fin 768 => plain B h i j.val) (Finset.mem_univ j)))) (fun j => B.v j.val h d) (fun j => B.vs h j.val)

end Cert.KernelIdeal.Hand.Val

end
-- ==== Proof.V.RefFn.lean ====
/- The reference's host operations as functions of its arguments. -/
module

public import proofs.«01_k».proof.Proof.Gen.ReferenceIdeal.Frame
public import Idealize.ShloMosaic.Lib.Claim
public import Idealize.ShloMosaic.Lib.Pointwise
public import Idealize.ShloMosaic.Lib.IdealHost
public import Idealize.ShloMosaic.Lib.Exec
public import Idealize.ShloMosaic.Lib.Tactic
public import Idealize.ShloMosaic.Lib.StableHlo.RunRead

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open scoped BigOperators

/-- The clipped relative positions `min 511 (max 0 (i - j + 256))`. -/
def rIx  : IVec S768x768 32 :=
  minsi (broadcastInDim S768x768 ![] bcast_S_S768x768 (constantI S_ 32 511#32)) (maxsi (broadcastInDim S768x768 ![] bcast_S_S768x768 (constantI S_ 32 0#32)) (addi (subi (broadcastInDim S768x768 ![0, 1] bcast_S768x1_S768x768_0_1 (broadcastInDim S768x1 ![0] bcast_S768_S768x1_0 (iotaInDim S768 32 0))) (broadcastInDim S768x768 ![0, 1] bcast_S1x768_S768x768_0_1 (broadcastInDim S1x768 ![1] bcast_S768_S1x768_1 (iotaInDim S768 32 0)))) (broadcastInDim S768x768 ![] bcast_S_S768x768 (constantI S_ 32 256#32))))

/-- Those positions as the start indices of a gather. -/
def alongIx (ix : IVec S1x1x768x768 32) : IVec S768x768x1 32 :=
  shapeCast S768x768x1 (select (cmpi .slt ix (broadcastInDim S1x1x768x768 ![] bcast_S_S1x1x768x768 (constantI S_ 32 0#32))) (addi ix (broadcastInDim S1x1x768x768 ![] bcast_S_S1x1x768x768 (constantI S_ 32 512#32))) ix) shapeCasts_S1x1x768x768_S768x768x1

/-- A table row read at those positions, the value outside the table a constant. -/
def along (x : FVec Ideal S2x24x768x512 .f32) (st : IVec S768x768x1 32) : FVec Ideal S2x24x768x768 .f32 :=
  select (broadcastInDim S2x24x768x768 ![2, 3] bcast_S768x768_S2x24x768x768_2_3 (Host.reduce IntOp.andi (andi (cmpi .sge st (broadcastInDim S768x768x1 ![] bcast_S_S768x768x1 (constantI S_ 32 0#32))) (cmpi .sle st (broadcastInDim S768x768x1 ![0, 1, 2] bcast_S1x1x1_S768x768x1_0_1_2 (broadcastInDim S1x1x1 ![2] bcast_S1_S1x1x1_2 (constantI S1 32 511#32))))) (constantI S_ 1 1#1) reducesTo_S768x768x1_S768x768_d2 h_S_)) (Host.gather gather_S2x24x768x512_S768x768x1_S2x24x768x768_01_3_2_0_3_2_22411 x st) (broadcastInDim S2x24x768x768 ![] bcast_S_S2x24x768x768 (constant (F := Ideal) S_ .f32 0x7FC00000#32))

/-- The positions as start indices of the gather of scales. -/
def scaleIx (ix : IVec S768x768 32) : IVec S768x768x1 32 :=
  broadcastInDim S768x768x1 ![0, 1] bcast_S768x768_S768x768x1_0_1 (select (cmpi .slt ix (broadcastInDim S768x768 ![] bcast_S_S768x768 (constantI S_ 32 0#32))) (addi ix (broadcastInDim S768x768 ![] bcast_S_S768x768 (constantI S_ 32 512#32))) ix)

/-- The content scores with both scales. -/
def rCC (q : FVec Ideal S2x768x24x128 .bf16) (k : FVec Ideal S2x768x24x128 .bf16) (qs : FVec Ideal S2x768x24 .f32) (ks : FVec Ideal S2x768x24 .f32) : FVec Ideal S2x24x768x768 .f32 :=
  mulf (mulf (Host.dotGeneral dot_S2x768x24x128_S2x768x24x128_S2x24x768x768_3_3_1_1_02_02 none q k) (broadcastInDim S2x24x768x768 ![0, 1, 2, 3] bcast_S2x24x768x1_S2x24x768x768_0_1_2_3 (broadcastInDim S2x24x768x1 ![0, 1, 2] bcast_S2x24x768_S2x24x768x1_0_1_2 (transpose S2x24x768 [0, 2, 1] qs transposes_S2x768x24_S2x24x768_0_2_1)))) (broadcastInDim S2x24x768x768 ![0, 1, 2, 3] bcast_S2x24x1x768_S2x24x768x768_0_1_2_3 (broadcastInDim S2x24x1x768 ![0, 1, 3] bcast_S2x24x768_S2x24x1x768_0_1_3 (transpose S2x24x768 [0, 2, 1] ks transposes_S2x768x24_S2x24x768_0_2_1)))

/-- Content to position: the table. -/
def rTabC (kr : FVec Ideal S512x24x128 .bf16) (q : FVec Ideal S2x768x24x128 .bf16) : FVec Ideal S2x24x768x512 .f32 :=
  transpose S2x24x768x512 [2, 0, 3, 1] (Host.dotGeneral dot_S512x24x128_S2x768x24x128_S24x512x2x768_2_3_0_01_1_2 none kr q) transposes_S24x512x2x768_S2x24x768x512_2_0_3_1

/-- Position to content: the table. -/
def rTabP (qr : FVec Ideal S512x24x128 .bf16) (k : FVec Ideal S2x768x24x128 .bf16) : FVec Ideal S2x24x768x512 .f32 :=
  transpose S2x24x768x512 [2, 0, 3, 1] (Host.dotGeneral dot_S512x24x128_S2x768x24x128_S24x512x2x768_2_3_0_01_1_2 none qr k) transposes_S24x512x2x768_S2x24x768x512_2_0_3_1

/-- Content to position, read at the positions and scaled. -/
def rC2P (x : FVec Ideal S2x24x768x768 .f32) (qs : FVec Ideal S2x768x24 .f32) (ix : IVec S768x768x1 32) (krs : FVec Ideal S512x24 .f32) : FVec Ideal S2x24x768x768 .f32 :=
  mulf (mulf x (broadcastInDim S2x24x768x768 ![0, 1, 2, 3] bcast_S2x24x768x1_S2x24x768x768_0_1_2_3 (broadcastInDim S2x24x768x1 ![0, 1, 2] bcast_S2x24x768_S2x24x768x1_0_1_2 (transpose S2x24x768 [0, 2, 1] qs transposes_S2x768x24_S2x24x768_0_2_1)))) (broadcastInDim S2x24x768x768 ![0, 1, 2, 3] bcast_S1x24x768x768_S2x24x768x768_0_1_2_3 (broadcastInDim S1x24x768x768 ![1, 2, 3] bcast_S24x768x768_S1x24x768x768_1_2_3 (Host.gather gather_S24x512_S768x768x1_S24x768x768_0_1_n_n_1_2_241 (transpose S24x512 [1, 0] krs transposes_S512x24_S24x512_1_0) ix)))

/-- Position to content, read at the positions and scaled (rows are the keys). -/
def rP2C (x : FVec Ideal S2x24x768x768 .f32) (ks : FVec Ideal S2x768x24 .f32) (ix : IVec S768x768x1 32) (qrs : FVec Ideal S512x24 .f32) : FVec Ideal S2x24x768x768 .f32 :=
  mulf (mulf x (broadcastInDim S2x24x768x768 ![0, 1, 2, 3] bcast_S2x24x768x1_S2x24x768x768_0_1_2_3 (broadcastInDim S2x24x768x1 ![0, 1, 2] bcast_S2x24x768_S2x24x768x1_0_1_2 (transpose S2x24x768 [0, 2, 1] ks transposes_S2x768x24_S2x24x768_0_2_1)))) (broadcastInDim S2x24x768x768 ![0, 1, 2, 3] bcast_S1x24x768x768_S2x24x768x768_0_1_2_3 (broadcastInDim S1x24x768x768 ![1, 2, 3] bcast_S24x768x768_S1x24x768x768_1_2_3 (Host.gather gather_S24x512_S768x768x1_S24x768x768_0_1_n_n_1_2_241 (transpose S24x512 [1, 0] qrs transposes_S512x24_S24x512_1_0) ix)))

/-- The masked scores. -/
def rSc (cc : FVec Ideal S2x24x768x768 .f32) (cp : FVec Ideal S2x24x768x768 .f32) (pc : FVec Ideal S2x24x768x768 .f32) (seg : IVec S2x768 32) : FVec Ideal S2x24x768x768 .f32 :=
  select (broadcastInDim S2x24x768x768 ![0, 1, 2, 3] bcast_S2x1x768x768_S2x24x768x768_0_1_2_3 (cmpi .eq (broadcastInDim S2x1x768x768 ![0, 1, 2, 3] bcast_S2x1x768x1_S2x1x768x768_0_1_2_3 (broadcastInDim S2x1x768x1 ![0, 2] bcast_S2x768_S2x1x768x1_0_2 seg)) (broadcastInDim S2x1x768x768 ![0, 1, 2, 3] bcast_S2x1x1x768_S2x1x768x768_0_1_2_3 (broadcastInDim S2x1x1x768 ![0, 3] bcast_S2x768_S2x1x1x768_0_3 seg)))) (Host.divf (addf (addf cc cp) (transpose S2x24x768x768 [0, 1, 3, 2] pc transposes_S2x24x768x768_S2x24x768x768_0_1_3_2)) (broadcastInDim S2x24x768x768 ![] bcast_S_S2x24x768x768 (Host.sqrt (constant (F := Ideal) S_ .f32 0x43C00000#32)))) (broadcastInDim S2x24x768x768 ![] bcast_S_S2x24x768x768 (constant (F := Ideal) S_ .f32 0xFF800000#32))

/-- The greatest score of a row. -/
def rMx (s : FVec Ideal S2x24x768x768 .f32) : FVec Ideal S2x24x768 .f32 :=
  Host.reduce FloatOps.maximumf s (constant (F := Ideal) S_ .f32 0xFF800000#32) reducesTo_S2x24x768x768_S2x24x768_d3 h_S_

/-- The exponentials. -/
def rE (s : FVec Ideal S2x24x768x768 .f32) (m : FVec Ideal S2x24x768 .f32) : FVec Ideal S2x24x768x768 .f32 :=
  Host.exp (subf s (broadcastInDim S2x24x768x768 ![0, 1, 2, 3] bcast_S2x24x768x1_S2x24x768x768_0_1_2_3 (broadcastInDim S2x24x768x1 ![0, 1, 2] bcast_S2x24x768_S2x24x768x1_0_1_2 m)))

/-- Their sum. -/
def rL (e : FVec Ideal S2x24x768x768 .f32) : FVec Ideal S2x24x768 .f32 :=
  Host.reduceAdd e (constant (F := Ideal) S_ .f32 0x00000000#32) reducesTo_S2x24x768x768_S2x24x768_d3 h_S_

/-- The probabilities with the value scale. -/
def rPr (e : FVec Ideal S2x24x768x768 .f32) (l : FVec Ideal S2x24x768 .f32) (vs : FVec Ideal S2x768x24 .f32) : FVec Ideal S2x24x768x768 .bf16 :=
  truncf .bf16 (mulf (mulf e (broadcastInDim S2x24x768x768 ![0, 1, 2, 3] bcast_S2x24x768x1_S2x24x768x768_0_1_2_3 (Host.divf (broadcastInDim S2x24x768x1 ![] bcast_S_S2x24x768x1 (constant (F := Ideal) S_ .f32 0x3F800000#32)) (broadcastInDim S2x24x768x1 ![0, 1, 2] bcast_S2x24x768_S2x24x768x1_0_1_2 l)))) (broadcastInDim S2x24x768x768 ![0, 1, 2, 3] bcast_S2x24x1x768_S2x24x768x768_0_1_2_3 (broadcastInDim S2x24x1x768 ![0, 1, 3] bcast_S2x24x768_S2x24x1x768_0_1_3 (transpose S2x24x768 [0, 2, 1] vs transposes_S2x768x24_S2x24x768_0_2_1)))) bitsLt_bf16_f32

/-- The result. -/
def rO (v : FVec Ideal S2x768x24x128 .bf16) (p : FVec Ideal S2x24x768x768 .bf16) : FVec Ideal S2x768x3072 .bf16 :=
  truncf .bf16 (shapeCast S2x768x3072 (transpose S2x768x24x128 [0, 3, 1, 2] (Host.dotGeneral dot_S2x768x24x128_S2x24x768x768_S2x24x128x768_1_3_3_2_02_01 none v p) transposes_S2x24x128x768_S2x768x24x128_0_3_1_2) shapeCasts_S2x768x24x128_S2x768x3072) bitsLt_bf16_f32

/-- The masked scores from the decoded operands. -/
def rScore (q k : FVec Ideal S2x768x24x128 .bf16) (kr qr : FVec Ideal S512x24x128 .bf16) (qs ks : FVec Ideal S2x768x24 .f32)
    (krs qrs : FVec Ideal S512x24 .f32) (seg : IVec S2x768 32) : FVec Ideal S2x24x768x768 .f32 :=
  rSc (rCC q k qs ks)
    (rC2P (along (rTabC kr q) (alongIx (broadcastInDim S1x1x768x768 ![2, 3] bcast_S768x768_S1x1x768x768_2_3 rIx))) qs (scaleIx rIx) krs)
    (rP2C (along (rTabP qr k) (alongIx (broadcastInDim S1x1x768x768 ![2, 3] bcast_S768x768_S1x1x768x768_2_3 rIx))) ks (scaleIx rIx) qrs) seg

/-- The result from the masked scores. -/
def rFin (s : FVec Ideal S2x24x768x768 .f32) (v : FVec Ideal S2x768x24x128 .bf16) (vs : FVec Ideal S2x768x24 .f32) :
    FVec Ideal S2x768x3072 .bf16 :=
  rO v (rPr (rE s (rMx s)) (rL (rE s (rMx s))) vs)

end Cert.ReferenceIdeal.Hand

end
-- ==== Proof.V.RefGat.lean ====
/- The reference's gathers, read at an index: each is the table's row `clip`. -/
module

public import proofs.«01_k».proof.Proof.Gen.ReferenceIdeal.Frame
public import Idealize.ShloMosaic.Lib.Claim
public import Idealize.ShloMosaic.Lib.Pointwise
public import Idealize.ShloMosaic.Lib.IdealHost
public import Idealize.ShloMosaic.Lib.Exec
public import Idealize.ShloMosaic.Lib.Tactic
public import Idealize.ShloMosaic.Lib.StableHlo.RunRead
public import proofs.«01_k».proof.Proof.V.RefFn

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open scoped BigOperators

/-- The place of the start indices that entry `(i, j)` reads. -/
abbrev at3 (i j : ℕ) (hi : i < 768) (hj : j < 768) : S768x768x1.Idx := ValueIdx.ix3 ⟨i, hi⟩ ⟨j, hj⟩ 0

theorem gather_rows (x : FVec Ideal S2x24x768x512 .f32) (st : IVec S768x768x1 32) (j : S2x24x768x768.Idx) :
    Host.gather gather_S2x24x768x512_S768x768x1_S2x24x768x768_01_3_2_0_3_2_22411 x st j
      = x (ValueIdx.ix4 (j 0) (j 1) (j 2) ⟨min (st (at3 (j 2).val (j 3).val (j 2).isLt (j 3).isLt)).toInt.toNat 511, by omega⟩) := by
  unfold Host.gather
  congr 1
  funext a
  refine Fin.ext ?_
  let D := gather_S2x24x768x512_S768x768x1_S2x24x768x768_01_3_2_0_3_2_22411
  show D.start j st a + D.batchCoord j a + D.offCoord j a = _
  match a with
  | ⟨0, _⟩ =>
    have h1 : D.start j st (0 : Fin 4) = 0 := by unfold GatherDims.start; rw [dif_neg (by decide)]
    have h2 : D.batchCoord j (0 : Fin 4) = 0 := GatherDims.batchCoord_eq_zero _ _ _ (by decide)
    have h3 : D.offCoord j (0 : Fin 4) = (j 0).val := by unfold GatherDims.offCoord; rw [dif_pos (by decide)]; rfl
    show D.start j st (0 : Fin 4) + D.batchCoord j (0 : Fin 4) + D.offCoord j (0 : Fin 4) = (j 0).val
    omega
  | ⟨1, _⟩ =>
    have h1 : D.start j st (1 : Fin 4) = 0 := by unfold GatherDims.start; rw [dif_neg (by decide)]
    have h2 : D.batchCoord j (1 : Fin 4) = 0 := GatherDims.batchCoord_eq_zero _ _ _ (by decide)
    have h3 : D.offCoord j (1 : Fin 4) = (j 1).val := by unfold GatherDims.offCoord; rw [dif_pos (by decide)]; rfl
    show D.start j st (1 : Fin 4) + D.batchCoord j (1 : Fin 4) + D.offCoord j (1 : Fin 4) = (j 1).val
    omega
  | ⟨2, _⟩ =>
    have h1 : D.start j st (2 : Fin 4) = 0 := GatherDims.start_batching _ _ _ _ (by decide)
    have h2 : D.batchCoord j (2 : Fin 4) = (j 2).val := by unfold GatherDims.batchCoord; rw [dif_pos (by decide)]; rfl
    have h3 : D.offCoord j (2 : Fin 4) = 0 := GatherDims.offCoord_eq_zero _ _ _ (by decide)
    show D.start j st (2 : Fin 4) + D.batchCoord j (2 : Fin 4) + D.offCoord j (2 : Fin 4) = (j 2).val
    omega
  | ⟨3, _⟩ =>
    have h1 : D.start j st (3 : Fin 4) = min (st (at3 (j 2).val (j 3).val (j 2).isLt (j 3).isLt)).toInt.toNat 511 := by
      unfold GatherDims.start
      rw [dif_pos (by decide)]
      have hs : D.siIdx j ⟨List.idxOf (3 : Fin 4) D.startIndexMap, List.idxOf_lt_length_iff.2 (by decide)⟩
          = at3 (j 2).val (j 3).val (j 2).isLt (j 3).isLt := by
        funext b; refine Fin.ext ?_
        match b with
        | ⟨0, _⟩ => rfl
        | ⟨1, _⟩ => rfl
        | ⟨2, _⟩ => rfl
      rw [hs]; rfl
    have h2 : D.batchCoord j (3 : Fin 4) = 0 := GatherDims.batchCoord_eq_zero _ _ _ (by decide)
    have h3 : D.offCoord j (3 : Fin 4) = 0 := GatherDims.offCoord_eq_zero _ _ _ (by decide)
    show D.start j st (3 : Fin 4) + D.batchCoord j (3 : Fin 4) + D.offCoord j (3 : Fin 4) = _
    rw [h1, h2, h3]; rfl

theorem gather_scales (x : FVec Ideal S24x512 .f32) (st : IVec S768x768x1 32) (j : S24x768x768.Idx) :
    Host.gather gather_S24x512_S768x768x1_S24x768x768_0_1_n_n_1_2_241 x st j
      = x (ValueIdx.ix2 (j 0) ⟨min (st (at3 (j 1).val (j 2).val (j 1).isLt (j 2).isLt)).toInt.toNat 511, by omega⟩) := by
  unfold Host.gather
  congr 1
  funext a
  refine Fin.ext ?_
  let D := gather_S24x512_S768x768x1_S24x768x768_0_1_n_n_1_2_241
  show D.start j st a + D.batchCoord j a + D.offCoord j a = _
  match a with
  | ⟨0, _⟩ =>
    have h1 : D.start j st (0 : Fin 2) = 0 := by unfold GatherDims.start; rw [dif_neg (by decide)]
    have h2 : D.batchCoord j (0 : Fin 2) = 0 := GatherDims.batchCoord_eq_zero _ _ _ (by decide)
    have h3 : D.offCoord j (0 : Fin 2) = (j 0).val := by unfold GatherDims.offCoord; rw [dif_pos (by decide)]; rfl
    show D.start j st (0 : Fin 2) + D.batchCoord j (0 : Fin 2) + D.offCoord j (0 : Fin 2) = (j 0).val
    omega
  | ⟨1, _⟩ =>
    have h1 : D.start j st (1 : Fin 2) = min (st (at3 (j 1).val (j 2).val (j 1).isLt (j 2).isLt)).toInt.toNat 511 := by
      unfold GatherDims.start
      rw [dif_pos (by decide)]
      have hs : D.siIdx j ⟨List.idxOf (1 : Fin 2) D.startIndexMap, List.idxOf_lt_length_iff.2 (by decide)⟩
          = at3 (j 1).val (j 2).val (j 1).isLt (j 2).isLt := by
        funext b; refine Fin.ext ?_
        match b with
        | ⟨0, _⟩ => rfl
        | ⟨1, _⟩ => rfl
        | ⟨2, _⟩ => rfl
      rw [hs]; rfl
    have h2 : D.batchCoord j (1 : Fin 2) = 0 := GatherDims.batchCoord_eq_zero _ _ _ (by decide)
    have h3 : D.offCoord j (1 : Fin 2) = 0 := GatherDims.offCoord_eq_zero _ _ _ (by decide)
    show D.start j st (1 : Fin 2) + D.batchCoord j (1 : Fin 2) + D.offCoord j (1 : Fin 2) = _
    rw [h1, h2, h3]; rfl

/-- The clipped relative position. -/
def clip (i j : ℕ) : ℕ := min 511 (i + 256 - j)

theorem clip_lt (i j : ℕ) : clip i j < 512 := by unfold clip; omega

theorem clip_word (a b : ℕ) (ha : a < 768) (hb : b < 768) :
    IntOp.minsi (511#32) (IntOp.maxsi (0#32) (IntOp.addi (IntOp.subi (BitVec.ofNat 32 a) (BitVec.ofNat 32 b)) (256#32))) = BitVec.ofNat 32 (clip a b) := by
  have ea : (BitVec.ofNat 32 a).toInt = a := by rw [BitVec.toInt_ofNat']; exact Int.bmod_eq_of_le (by omega) (by omega)
  have eb : (BitVec.ofNat 32 b).toInt = b := by rw [BitVec.toInt_ofNat']; exact Int.bmod_eq_of_le (by omega) (by omega)
  have h1 : (BitVec.ofNat 32 a - BitVec.ofNat 32 b + 256#32).toInt = (a : Int) - b + 256 := by
    rw [BitVec.toInt_add, BitVec.toInt_sub, ea, eb]
    have e : ((a : Int) - b).bmod (2 ^ 32) = (a : Int) - b := Int.bmod_eq_of_le (by omega) (by omega)
    rw [e]
    exact Int.bmod_eq_of_le (by show -(2147483648 : Int) ≤ (a : Int) - b + 256; omega) (by show (a : Int) - b + 256 < (2147483648 : Int); omega)
  have ec : (BitVec.ofNat 32 (clip a b)).toInt = clip a b := by
    have := clip_lt a b
    rw [BitVec.toInt_ofNat']; exact Int.bmod_eq_of_le (by omega) (by omega)
  apply BitVec.eq_of_toInt_eq
  rw [ec]
  unfold clip
  unfold IntOp.minsi IntOp.maxsi IntOp.addi IntOp.subi
  have e0 : (0#32).toInt = 0 := rfl
  have e5 : (511#32).toInt = 511 := rfl
  generalize BitVec.ofNat 32 a - BitVec.ofNat 32 b + 256#32 = w at h1
  have hs : ∀ x y : BitVec 32, (x.slt y = true) = (x.toInt < y.toInt) := fun x y => by simp [BitVec.slt]
  simp only [hs, h1, e0]
  by_cases hn : (a : Int) - b + 256 < 0
  · have h5 : ¬ ((511#32).toInt < (0#32).toInt) := by decide
    rw [if_pos hn, if_neg h5, e0]; omega
  · rw [if_neg hn, h1, e5]
    by_cases h5 : (511 : Int) < (a : Int) - b + 256
    · rw [if_pos h5, e5]; omega
    · rw [if_neg h5, h1]; omega

theorem rIx_apply (j : S768x768.Idx) : rIx j = BitVec.ofNat 32 (clip (j 0).val (j 1).val) := by
  refine Eq.trans ?_ (clip_word _ _ (j 0).isLt (j 1).isLt)
  unfold rIx
  rfl

/-- A clipped position is not negative and within the table. -/
theorem small_word (n : ℕ) (hn : n < 512) : (BitVec.ofNat 32 n).toInt = n := by
  rw [BitVec.toInt_ofNat']; exact Int.bmod_eq_of_le (by omega) (by omega)

theorem word_min (n : ℕ) (hn : n < 512) : min (BitVec.ofNat 32 n).toInt.toNat 511 = n := by
  rw [small_word n hn]; omega

theorem not_neg (n : ℕ) (hn : n < 512) : IntOp.cmpi .slt (BitVec.ofNat 32 n) 0#32 = 0#1 := by
  unfold IntOp.cmpi
  simp only [BitVec.slt, small_word n hn]
  have : ¬ ((n : Int) < 0) := by omega
  simp [this]

theorem in_table (n : ℕ) (hn : n < 512) :
    IntOp.andi (IntOp.cmpi .sge (BitVec.ofNat 32 n) 0#32) (IntOp.cmpi .sle (BitVec.ofNat 32 n) 511#32) = 1#1 := by
  unfold IntOp.cmpi
  have e5 : (511#32).toInt = 511 := rfl
  have h1 : (0 : Int) ≤ n := by omega
  have h2 : (n : Int) ≤ 511 := by omega
  simp [BitVec.sle, small_word n hn, e5, h2, IntOp.andi]

theorem scaleIx_apply (j : S768x768x1.Idx) : scaleIx rIx j = BitVec.ofNat 32 (clip (j 0).val (j 1).val) := by
  have hl := clip_lt (j 0).val (j 1).val
  have e := rIx_apply (ValueIdx.ix2 (j 0) (j 1))
  have h : scaleIx rIx j = Scalar.select (IntOp.cmpi .slt (rIx (ValueIdx.ix2 (j 0) (j 1))) 0#32) (IntOp.addi (rIx (ValueIdx.ix2 (j 0) (j 1))) 512#32) (rIx (ValueIdx.ix2 (j 0) (j 1))) := by
    unfold scaleIx; pointwise; rfl
  rw [h, e]
  rw [show BitVec.ofNat 32 (clip ((ValueIdx.ix2 (j 0) (j 1) : S768x768.Idx) 0).val ((ValueIdx.ix2 (j 0) (j 1) : S768x768.Idx) 1).val) = BitVec.ofNat 32 (clip (j 0).val (j 1).val) from rfl, not_neg _ hl]; rfl

/-- The positions before the batch axes are dropped. -/
abbrev rIx4 : IVec S1x1x768x768 32 := broadcastInDim S1x1x768x768 ![2, 3] bcast_S768x768_S1x1x768x768_2_3 rIx

theorem alongIx_apply (j : S768x768x1.Idx) : alongIx rIx4 j = BitVec.ofNat 32 (clip (j 0).val (j 1).val) := by
  have hl := clip_lt (j 0).val (j 1).val
  have e := rIx_apply (ValueIdx.ix2 (j 0) (j 1))
  have h : alongIx rIx4 j = Scalar.select (IntOp.cmpi .slt (rIx (ValueIdx.ix2 (j 0) (j 1))) 0#32) (IntOp.addi (rIx (ValueIdx.ix2 (j 0) (j 1))) 512#32) (rIx (ValueIdx.ix2 (j 0) (j 1))) := by
    unfold alongIx rIx4; pointwise; rfl
  rw [h, e]
  rw [show BitVec.ofNat 32 (clip ((ValueIdx.ix2 (j 0) (j 1) : S768x768.Idx) 0).val ((ValueIdx.ix2 (j 0) (j 1) : S768x768.Idx) 1).val) = BitVec.ofNat 32 (clip (j 0).val (j 1).val) from rfl, not_neg _ hl]; rfl

theorem sel_apply {α : Type} {s : Shape} (c : IVec s 1) (a b : s.Idx → α) (j : s.Idx) : select c a b j = Scalar.select (c j) (a j) (b j) := rfl

theorem along_apply (x : FVec Ideal S2x24x768x512 .f32) (j : S2x24x768x768.Idx) :
    along x (alongIx rIx4) j = x (ValueIdx.ix4 (j 0) (j 1) (j 2) ⟨clip (j 2).val (j 3).val, clip_lt _ _⟩) := by
  have hl := clip_lt (j 2).val (j 3).val
  unfold along
  have hm : ∀ p : S768x768x1.Idx, andi (cmpi .sge (alongIx rIx4) (broadcastInDim S768x768x1 ![] bcast_S_S768x768x1 (constantI S_ 32 0#32))) (cmpi .sle (alongIx rIx4) (broadcastInDim S768x768x1 ![0, 1, 2] bcast_S1x1x1_S768x768x1_0_1_2 (broadcastInDim S1x1x1 ![2] bcast_S1_S1x1x1_2 (constantI S1 32 511#32)))) p = 1#1 := by
    intro p
    show IntOp.andi (IntOp.cmpi .sge (alongIx rIx4 p) 0#32) (IntOp.cmpi .sle (alongIx rIx4 p) 511#32) = 1#1
    rw [alongIx_apply]
    exact in_table _ (clip_lt _ _)
  have hr : ∀ p, Host.reduce IntOp.andi (andi (cmpi .sge (alongIx rIx4) (broadcastInDim S768x768x1 ![] bcast_S_S768x768x1 (constantI S_ 32 0#32))) (cmpi .sle (alongIx rIx4) (broadcastInDim S768x768x1 ![0, 1, 2] bcast_S1x1x1_S768x768x1_0_1_2 (broadcastInDim S1x1x1 ![2] bcast_S1_S1x1x1_2 (constantI S1 32 511#32))))) (constantI S_ 1 1#1) reducesTo_S768x768x1_S768x768_d2 h_S_ p = 1#1 := by
    intro p
    unfold Host.reduce
    refine List.foldlRecOn _ _ (motive := fun r => r = 1#1) rfl ?_
    intro r hr n _
    rw [hr, hm]; rfl
  rw [sel_apply]
  rw [show (broadcastInDim S2x24x768x768 ![2, 3] bcast_S768x768_S2x24x768x768_2_3 (Host.reduce IntOp.andi (andi (cmpi .sge (alongIx rIx4) (broadcastInDim S768x768x1 ![] bcast_S_S768x768x1 (constantI S_ 32 0#32))) (cmpi .sle (alongIx rIx4) (broadcastInDim S768x768x1 ![0, 1, 2] bcast_S1x1x1_S768x768x1_0_1_2 (broadcastInDim S1x1x1 ![2] bcast_S1_S1x1x1_2 (constantI S1 32 511#32))))) (constantI S_ 1 1#1) reducesTo_S768x768x1_S768x768_d2 h_S_)) j = 1#1 from hr _]
  rw [show ∀ a b : EReal, Scalar.select 1#1 a b = a from fun a b => rfl, gather_rows]
  exact congrArg x (congrArg (ValueIdx.ix4 (j 0) (j 1) (j 2)) (Fin.ext
    ((congrArg (fun w : BitVec 32 => min w.toInt.toNat 511) (alongIx_apply _)).trans (word_min _ (clip_lt _ _)))))

theorem scale_apply (x : FVec Ideal S24x512 .f32) (j : S24x768x768.Idx) :
    Host.gather gather_S24x512_S768x768x1_S24x768x768_0_1_n_n_1_2_241 x (scaleIx rIx) j
      = x (ValueIdx.ix2 (j 0) ⟨clip (j 1).val (j 2).val, clip_lt _ _⟩) := by
  rw [gather_scales]
  exact congrArg x (congrArg (ValueIdx.ix2 (j 0)) (Fin.ext
    ((congrArg (fun w : BitVec 32 => min w.toInt.toNat 511) (scaleIx_apply _)).trans (word_min _ (clip_lt _ _)))))

end Cert.ReferenceIdeal.Hand

end
-- ==== Proof.V.RefPt.lean ====
/- The reference's scores and result, read at an index (`rScore_apply`, `rFin_apply`). -/
module

public import proofs.«01_k».proof.Proof.Gen.ReferenceIdeal.Frame
public import Idealize.ShloMosaic.Lib.Claim
public import Idealize.ShloMosaic.Lib.Pointwise
public import Idealize.ShloMosaic.Lib.IdealHost
public import Idealize.ShloMosaic.Lib.Exec
public import Idealize.ShloMosaic.Lib.Tactic
public import Idealize.ShloMosaic.Lib.StableHlo.RunRead
public import proofs.«01_k».proof.Proof.V.RefGat

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open scoped BigOperators

theorem neg_inf : Ideal.ofBits .f32 0xFF800000#32 = ⊥ := by
  simp [Ideal.ofBits, Ideal.ieee]

theorem rCC_apply (q k : FVec Ideal S2x768x24x128 .bf16) (qs ks : FVec Ideal S2x768x24 .f32) (b : Fin 2) (h : Fin 24) (i j : Fin 768) :
    rCC q k qs ks (ValueIdx.ix4 b h i j)
      = (∑ d : Fin 128, q (ValueIdx.ix4 b i h d) * k (ValueIdx.ix4 b j h d)) * qs (ValueIdx.ix3 b i h) * ks (ValueIdx.ix3 b j h) := by
  unfold rCC
  pointwise
  rfl

theorem rTabC_apply (kr : FVec Ideal S512x24x128 .bf16) (q : FVec Ideal S2x768x24x128 .bf16) (b : Fin 2) (h : Fin 24) (i : Fin 768) (r : Fin 512) :
    rTabC kr q (ValueIdx.ix4 b h i r) = ∑ d : Fin 128, kr (ValueIdx.ix3 r h d) * q (ValueIdx.ix4 b i h d) := by
  unfold rTabC
  pointwise
  rfl

theorem rTabP_apply (kr : FVec Ideal S512x24x128 .bf16) (q : FVec Ideal S2x768x24x128 .bf16) (b : Fin 2) (h : Fin 24) (i : Fin 768) (r : Fin 512) :
    rTabP kr q (ValueIdx.ix4 b h i r) = ∑ d : Fin 128, kr (ValueIdx.ix3 r h d) * q (ValueIdx.ix4 b i h d) :=
  rTabC_apply kr q b h i r

theorem rC2P_apply (x : FVec Ideal S2x24x768x768 .f32) (qs : FVec Ideal S2x768x24 .f32) (krs : FVec Ideal S512x24 .f32) (b : Fin 2) (h : Fin 24) (i j : Fin 768) :
    rC2P x qs (scaleIx rIx) krs (ValueIdx.ix4 b h i j)
      = x (ValueIdx.ix4 b h i j) * qs (ValueIdx.ix3 b i h) * krs (ValueIdx.ix2 ⟨clip i.val j.val, clip_lt _ _⟩ h) := by
  have e := scale_apply (transpose S24x512 [1, 0] krs transposes_S512x24_S24x512_1_0) (ValueIdx.ix3 h i j)
  unfold rC2P
  generalize Host.gather gather_S24x512_S768x768x1_S24x768x768_0_1_n_n_1_2_241 (transpose S24x512 [1, 0] krs transposes_S512x24_S24x512_1_0) (scaleIx rIx) = g at e ⊢
  pointwise
  exact congrArg (fun w : EReal => x (ValueIdx.ix4 b h i j) * qs (ValueIdx.ix3 b i h) * w) (e.trans (by pointwise; rfl))

theorem rP2C_apply (x : FVec Ideal S2x24x768x768 .f32) (ks : FVec Ideal S2x768x24 .f32) (qrs : FVec Ideal S512x24 .f32) (b : Fin 2) (h : Fin 24) (i j : Fin 768) :
    rP2C x ks (scaleIx rIx) qrs (ValueIdx.ix4 b h i j)
      = x (ValueIdx.ix4 b h i j) * ks (ValueIdx.ix3 b i h) * qrs (ValueIdx.ix2 ⟨clip i.val j.val, clip_lt _ _⟩ h) :=
  rC2P_apply x ks qrs b h i j

theorem rSc_apply (cc cp pc : FVec Ideal S2x24x768x768 .f32) (seg : IVec S2x768 32) (b : Fin 2) (h : Fin 24) (i j : Fin 768) :
    rSc cc cp pc seg (ValueIdx.ix4 b h i j)
      = if seg (ValueIdx.ix2 b i) = seg (ValueIdx.ix2 b j) then
          Ideal.div (cc (ValueIdx.ix4 b h i j) + cp (ValueIdx.ix4 b h i j) + pc (ValueIdx.ix4 b h j i)) (Ideal.sqrt (Ideal.ofBits .f32 0x43C00000#32))
        else ⊥ := by
  unfold rSc
  pointwise
  rw [neg_inf]
  show Scalar.select (IntOp.cmpi CmpIPredicate.eq (seg (ValueIdx.ix2 b i)) (seg (ValueIdx.ix2 b j))) _ _ = _
  unfold Scalar.select IntOp.cmpi
  by_cases hs : seg (ValueIdx.ix2 b i) = seg (ValueIdx.ix2 b j)
  · rw [if_pos hs, if_pos (by simp [hs])]; rfl
  · rw [if_neg hs, if_neg]
    show ¬ BitVec.ofBool (seg (ValueIdx.ix2 b i) == seg (ValueIdx.ix2 b j)) = 1#1
    rw [beq_eq_false_iff_ne.mpr hs]; decide

theorem rE_apply (s : FVec Ideal S2x24x768x768 .f32) (mx : FVec Ideal S2x24x768 .f32) (b : Fin 2) (h : Fin 24) (i j : Fin 768) :
    rE s mx (ValueIdx.ix4 b h i j) = Ideal.exp (s (ValueIdx.ix4 b h i j) - mx (ValueIdx.ix3 b h i)) := by
  unfold rE
  pointwise
  rfl

theorem rL_apply (e : FVec Ideal S2x24x768x768 .f32) (b : Fin 2) (h : Fin 24) (i : Fin 768) :
    rL e (ValueIdx.ix3 b h i) = ∑ j : Fin 768, e (ValueIdx.ix4 b h i j) := by
  unfold rL
  pointwise
  rfl

theorem rMx_apply (s : FVec Ideal S2x24x768x768 .f32) (b : Fin 2) (h : Fin 24) (i : Fin 768) :
    rMx s (ValueIdx.ix3 b h i) = Finset.univ.sup fun j : Fin 768 => s (ValueIdx.ix4 b h i j) := by
  unfold rMx
  pointwise
  rw [neg_inf]
  rfl

theorem rPr_apply (e : FVec Ideal S2x24x768x768 .f32) (l : FVec Ideal S2x24x768 .f32) (vs : FVec Ideal S2x768x24 .f32) (b : Fin 2) (h : Fin 24) (i j : Fin 768) :
    rPr e l vs (ValueIdx.ix4 b h i j) = e (ValueIdx.ix4 b h i j) * Ideal.div (Ideal.ofBits .f32 0x3F800000#32) (l (ValueIdx.ix3 b h i)) * vs (ValueIdx.ix3 b j h) := by
  unfold rPr
  pointwise
  rfl

theorem rO_apply (v : FVec Ideal S2x768x24x128 .bf16) (p : FVec Ideal S2x24x768x768 .bf16) (b : Fin 2) (i : Fin 768) (x : Fin 3072) :
    rO v p (ValueIdx.ix3 b i x) = ∑ j : Fin 768, v (ValueIdx.ix4 b j ⟨x.val / 128, by omega⟩ ⟨x.val % 128, by omega⟩) * p (ValueIdx.ix4 b ⟨x.val / 128, by omega⟩ i j) := by
  unfold rO
  pointwise
  rfl

/-- The score of query `i` against key `j`. -/
def sc (q k : FVec Ideal S2x768x24x128 .bf16) (kr qr : FVec Ideal S512x24x128 .bf16) (qs ks : FVec Ideal S2x768x24 .f32)
    (krs qrs : FVec Ideal S512x24 .f32) (seg : IVec S2x768 32) (b : Fin 2) (h : Fin 24) (i j : Fin 768) : EReal :=
  if seg (ValueIdx.ix2 b i) = seg (ValueIdx.ix2 b j) then
    Ideal.div ((∑ d : Fin 128, q (ValueIdx.ix4 b i h d) * k (ValueIdx.ix4 b j h d)) * qs (ValueIdx.ix3 b i h) * ks (ValueIdx.ix3 b j h)
      + (∑ d : Fin 128, kr (ValueIdx.ix3 ⟨clip i.val j.val, clip_lt _ _⟩ h d) * q (ValueIdx.ix4 b i h d)) * qs (ValueIdx.ix3 b i h)
          * krs (ValueIdx.ix2 ⟨clip i.val j.val, clip_lt _ _⟩ h)
      + (∑ d : Fin 128, qr (ValueIdx.ix3 ⟨clip j.val i.val, clip_lt _ _⟩ h d) * k (ValueIdx.ix4 b j h d)) * ks (ValueIdx.ix3 b j h)
          * qrs (ValueIdx.ix2 ⟨clip j.val i.val, clip_lt _ _⟩ h)) (Ideal.sqrt (Ideal.ofBits .f32 0x43C00000#32))
  else ⊥

theorem rScore_apply (q k : FVec Ideal S2x768x24x128 .bf16) (kr qr : FVec Ideal S512x24x128 .bf16) (qs ks : FVec Ideal S2x768x24 .f32)
    (krs qrs : FVec Ideal S512x24 .f32) (seg : IVec S2x768 32) (b : Fin 2) (h : Fin 24) (i j : Fin 768) :
    rScore q k kr qr qs ks krs qrs seg (ValueIdx.ix4 b h i j) = sc q k kr qr qs ks krs qrs seg b h i j := by
  unfold rScore sc
  rw [rSc_apply, rCC_apply, rC2P_apply, rP2C_apply, along_apply, along_apply]
  have e1 := rTabC_apply kr q b h i ⟨clip i.val j.val, clip_lt _ _⟩
  have e2 := rTabP_apply qr k b h j ⟨clip j.val i.val, clip_lt _ _⟩
  rw [← e1, ← e2]

/-- The result from any scores `s`, one row. -/
def fin (s : Fin 2 → Fin 24 → Fin 768 → Fin 768 → EReal) (v : FVec Ideal S2x768x24x128 .bf16) (vs : FVec Ideal S2x768x24 .f32)
    (b : Fin 2) (h : Fin 24) (i : Fin 768) (d : Fin 128) : EReal :=
  ∑ j : Fin 768, v (ValueIdx.ix4 b j h d) *
    (Ideal.exp (s b h i j - Finset.univ.sup (s b h i)) * Ideal.div 1 (∑ j' : Fin 768, Ideal.exp (s b h i j' - Finset.univ.sup (s b h i)))
      * vs (ValueIdx.ix3 b j h))

theorem rFin_apply (S : FVec Ideal S2x24x768x768 .f32) (s : Fin 2 → Fin 24 → Fin 768 → Fin 768 → EReal)
    (hs : ∀ b h i j, S (ValueIdx.ix4 b h i j) = s b h i j) (v : FVec Ideal S2x768x24x128 .bf16) (vs : FVec Ideal S2x768x24 .f32)
    (b : Fin 2) (i : Fin 768) (x : Fin 3072) :
    rFin S v vs (ValueIdx.ix3 b i x) = fin s v vs b ⟨x.val / 128, by omega⟩ i ⟨x.val % 128, by omega⟩ := by
  have hm : ∀ h, rMx S (ValueIdx.ix3 b h i) = Finset.univ.sup (s b h i) := fun h => by
    rw [rMx_apply]; exact congrArg _ (funext fun j => hs b h i j)
  have he : ∀ h j, rE S (rMx S) (ValueIdx.ix4 b h i j) = Ideal.exp (s b h i j - Finset.univ.sup (s b h i)) := fun h j => by
    rw [rE_apply, hm, hs]
  unfold rFin fin
  rw [rO_apply]
  refine Finset.sum_congr rfl fun j _ => congrArg _ ?_
  rw [rPr_apply, he, rL_apply, Ideal.ofBits_one_f32]
  refine congrArg (fun w : EReal => _ * Ideal.div 1 w * _) (Finset.sum_congr rfl fun j' _ => he _ j')

end Cert.ReferenceIdeal.Hand

end
-- ==== Proof.V.RefRd.lean ====
/- What the reference's host operations leave in the result's buffer, as the functions of Proof/V/RefFn.lean. -/
module

public import proofs.«01_k».proof.Proof.Gen.ReferenceIdeal.Frame
public import Idealize.ShloMosaic.Lib.Claim
public import Idealize.ShloMosaic.Lib.Pointwise
public import Idealize.ShloMosaic.Lib.IdealHost
public import Idealize.ShloMosaic.Lib.Exec
public import Idealize.ShloMosaic.Lib.Tactic
public import Idealize.ShloMosaic.Lib.StableHlo.RunRead
public import proofs.«01_k».proof.Proof.V.RefFn

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open scoped BigOperators

set_option maxRecDepth 200000
/-- What the host operations leave in the result's buffer. -/
theorem host_result (W : Valuation τ sig (Elt Ideal)) :
    StableHlo.after (List.flatten [hostOps1, hostOps1_1, hostOps1_2, hostOps1_3, hostOps1_4, hostOps1_5, hostOps1_6, hostOps1_7, hostOps1_8]) W (Proc.devRef .tc main_v86)
      = rFin (rScore (W (Proc.devRef .tc main_v0_0)) (W (Proc.devRef .tc main_v0_1)) (W (Proc.devRef .tc main_v0_3)) (W (Proc.devRef .tc main_v0_4))
          (W (Proc.devRef .tc main_arg3)) (W (Proc.devRef .tc main_arg4)) (W (Proc.devRef .tc main_arg8)) (W (Proc.devRef .tc main_arg9))
          (W (Proc.devRef .tc main_arg10))) (W (Proc.devRef .tc main_v0_2)) (W (Proc.devRef .tc main_arg5)) := by
  unfold hostOps1 hostOps1_1 hostOps1_2 hostOps1_3 hostOps1_4 hostOps1_5 hostOps1_6 hostOps1_7 hostOps1_8
  simp only [List.flatten_cons, List.flatten_nil, List.cons_append, List.nil_append, List.append_nil]
  after_reads_simp
  simp only [StableHlo.TRef.ofBuf_toBuf, StableHlo.TRef.toBuf, StableHlo.TRef.ofBuf, cast_eq]
  unfold rFin rO rPr rL rE rMx rScore rSc rP2C rC2P rTabP rTabC rCC scaleIx along alongIx rIx
  rfl

end Cert.ReferenceIdeal.Hand

end
-- ==== Proof.V.RefRun.lean ====
/- The reference's run with its value: the decoding call copies the codes, the host operations do the rest (`run_ref`). -/
module

public import proofs.«01_k».proof.Proof.Gen.ReferenceIdeal.Frame
public import Idealize.ShloMosaic.Lib.Claim
public import Idealize.ShloMosaic.Lib.Pointwise
public import Idealize.ShloMosaic.Lib.IdealHost
public import Idealize.ShloMosaic.Lib.Exec
public import Idealize.ShloMosaic.Lib.Tactic
public import Idealize.ShloMosaic.Lib.StableHlo.RunRead
public import proofs.«01_k».proof.Proof.V.RefRd
public import Idealize.ShloMosaic.Lib.Pipeline.ValueKit

@[expose] public section

set_option maxRecDepth 16384
set_option maxHeartbeats 400000

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem
open scoped BigOperators

variable (m : (ℓ : Loc nD τ sig) → Buf (Elt Ideal) ℓ) (ρ : Dev nD → PrngReg)

/-- Output 5 of the decoding region holds its operand. -/
theorem dec_5 (c : Dev nD) : (dats m 0 c).arrAt 5 cfg0.N = (fun x => m ((c.tc : Thread nD τ).loc main_arg0) x : S2x768x24x128.Idx → EReal) := by
  refine (dats m 0 c).arrAt_eq_of_covers 5 _ (by decide +kernel) fun t hf y => ?_
  blk_simp
  rw [after0_5]
  frame_out
  obtain rfl : t = t0_0 := fin_N0 t
  rfl

/-- Output 6 of the decoding region holds its operand. -/
theorem dec_6 (c : Dev nD) : (dats m 0 c).arrAt 6 cfg0.N = (fun x => m ((c.tc : Thread nD τ).loc main_arg1) x : S2x768x24x128.Idx → EReal) := by
  refine (dats m 0 c).arrAt_eq_of_covers 6 _ (by decide +kernel) fun t hf y => ?_
  blk_simp
  rw [after0_6]
  frame_out
  obtain rfl : t = t0_0 := fin_N0 t
  rfl

/-- Output 7 of the decoding region holds its operand. -/
theorem dec_7 (c : Dev nD) : (dats m 0 c).arrAt 7 cfg0.N = (fun x => m ((c.tc : Thread nD τ).loc main_arg2) x : S2x768x24x128.Idx → EReal) := by
  refine (dats m 0 c).arrAt_eq_of_covers 7 _ (by decide +kernel) fun t hf y => ?_
  blk_simp
  rw [after0_7]
  frame_out
  obtain rfl : t = t0_0 := fin_N0 t
  rfl

/-- Output 8 of the decoding region holds its operand. -/
theorem dec_8 (c : Dev nD) : (dats m 0 c).arrAt 8 cfg0.N = (fun x => m ((c.tc : Thread nD τ).loc main_arg6) x : S512x24x128.Idx → EReal) := by
  refine (dats m 0 c).arrAt_eq_of_covers 8 _ (by decide +kernel) fun t hf y => ?_
  blk_simp
  rw [after0_8]
  frame_out
  obtain rfl : t = t0_0 := fin_N0 t
  rfl

/-- Output 9 of the decoding region holds its operand. -/
theorem dec_9 (c : Dev nD) : (dats m 0 c).arrAt 9 cfg0.N = (fun x => m ((c.tc : Thread nD τ).loc main_arg7) x : S512x24x128.Idx → EReal) := by
  refine (dats m 0 c).arrAt_eq_of_covers 9 _ (by decide +kernel) fun t hf y => ?_
  blk_simp
  rw [after0_9]
  frame_out
  obtain rfl : t = t0_0 := fin_N0 t
  rfl

/-- The buffers after the decoding region. -/
abbrev W (c : Dev nD) : Valuation τ sig (Elt Ideal) := Pipeline.withArrays spec0 c (V0 m c) fun w => (dats m 0 c).arrAt w cfg0.N

theorem W_arr (c : Dev nD) (w : Fin cfg0.W) : W m c (Proc.devRef .tc (Pipeline.arrRef spec0 w)) = (dats m 0 c).arrAt w cfg0.N :=
  Pipeline.withArrays_arr spec0 winFacts0.arr_inj c (V0 m c) (fun w => (dats m 0 c).arrAt w cfg0.N) w

theorem W_of_ne (c : Dev nD) (b : Ref sig .tc) (hb : ∀ w, Pipeline.arrRef spec0 w ≠ b) :
    W m c (Proc.devRef .tc b) = m ((c : Thread nD τ).loc b) :=
  Pipeline.withArrays_of_ne spec0 c (V0 m c) _ b hb

/-- The masked scores of every query and key. -/
def scores (c : Dev nD) : FVec Ideal S2x24x768x768 .f32 :=
  rScore (m ((c : Thread nD τ).loc main_arg0)) (m ((c : Thread nD τ).loc main_arg1)) (m ((c : Thread nD τ).loc main_arg6)) (m ((c : Thread nD τ).loc main_arg7))
    (m ((c : Thread nD τ).loc main_arg3)) (m ((c : Thread nD τ).loc main_arg4)) (m ((c : Thread nD τ).loc main_arg8)) (m ((c : Thread nD τ).loc main_arg9))
    (m ((c : Thread nD τ).loc main_arg10))

/-- The result array. -/
def refArr (c : Dev nD) : S2x768x3072.Idx → EReal :=
  rFin (scores m c) (m ((c : Thread nD τ).loc main_arg2)) (m ((c : Thread nD τ).loc main_arg5))

theorem result_eq (c : Dev nD) :
    Pipeline.afterTail₀ cfgs (dats m) 0 (V0 m) [hostOps1, hostOps1_1, hostOps1_2, hostOps1_3, hostOps1_4, hostOps1_5, hostOps1_6, hostOps1_7, hostOps1_8] c main_v86
      = refArr m c := by
  refine (host_result (W m c)).trans ?_
  unfold refArr scores
  rw [show W m c (Proc.devRef .tc main_v0_0) = _ from (W_arr m c 5).trans (dec_5 m c),
    show W m c (Proc.devRef .tc main_v0_1) = _ from (W_arr m c 6).trans (dec_6 m c),
    show W m c (Proc.devRef .tc main_v0_2) = _ from (W_arr m c 7).trans (dec_7 m c),
    show W m c (Proc.devRef .tc main_v0_3) = _ from (W_arr m c 8).trans (dec_8 m c),
    show W m c (Proc.devRef .tc main_v0_4) = _ from (W_arr m c 9).trans (dec_9 m c),
    W_of_ne m c main_arg3 (by decide), W_of_ne m c main_arg4 (by decide), W_of_ne m c main_arg5 (by decide),
    W_of_ne m c main_arg8 (by decide), W_of_ne m c main_arg9 (by decide), W_of_ne m c main_arg10 (by decide)]

/-- Every execution of the reference terminates with the result at `refArr` and the counters at zero. -/
theorem run_ref : θ_run defs (onTc (τ := τ) (main (F := Ideal))) (s₀ m ρ)
    (fun r => (∀ c : Dev nD, r.2.mem ((c : Thread nD τ).loc main_v86) = refArr m c) ∧ r.2.sem = fun _ => 0) :=
  (θ_run defs _ _).mono (fun _ h => ⟨fun c => ((h.1 c).2 main_v86 (Pipeline.mem_restRefs_of main_v86 (by decide) (by decide))).trans (result_eq m c), h.2⟩)
    (run_main_quiescent m ρ)

end Cert.ReferenceIdeal.Hand

end
-- ==== Proof.V.Join.lean ====
/- The two programs' results as one array: from arguments that agree, and key scales at least 0 and finite, the kernel's
   result is the reference's, entry by entry. -/
module

public import proofs.«01_k».proof.Defs
public import proofs.«01_k».proof.Proof.V.Math
public import proofs.«01_k».proof.Proof.V.RefPt
public import proofs.«01_k».proof.Proof.V.RefRun
public import Idealize.ShloMosaic.Lib.ReduceAll
public import Idealize.ShloMosaic.Lib.Pointwise

@[expose] public section

set_option maxRecDepth 16384
set_option maxHeartbeats 400000

noncomputable section

namespace Cert.Join

open Idealize.ShloMosaic Idealize.ShloMosaic.TcCoe Idealize.ShloMosaic.Tactic
open scoped BigOperators

/-- The arrays' types: a token array, its scales, a table, its scales, the segment ids. -/
abbrev K4 := FVec Ideal Cert.ReferenceIdeal.S2x768x24x128 .bf16
abbrev K3 := FVec Ideal Cert.ReferenceIdeal.S2x768x24 .f32
abbrev T3 := FVec Ideal Cert.ReferenceIdeal.S512x24x128 .bf16
abbrev T2 := FVec Ideal Cert.ReferenceIdeal.S512x24 .f32
abbrev G2 := IVec Cert.ReferenceIdeal.S2x768 32

open Cert.KernelIdeal.Hand.Val (n2 n3 n4 Arr plain attn clp g)
open Cert.ReferenceIdeal.Hand (sc fin clip clip_lt)

theorem sqrt_const : Ideal.sqrt (Ideal.ofBits .f32 0x43C00000#32) = ((g : ℝ) : EReal) := by
  have e : Ideal.ofBits .f32 0x43C00000#32 = ((384 : ℝ) : EReal) := by
    simp [Ideal.ofBits, Ideal.ieee, ← EReal.coe_mul]; norm_num
  rw [e, Ideal.sqrt_coe, if_neg (by norm_num)]; rfl

theorem n2_at {α : Type} [Inhabited α] {a b : ℕ} (x : (⟨2, ![a, b]⟩ : Shape).Idx → α) (i j : ℕ) (hi : i < a) (hj : j < b) :
    n2 x i j = x (ValueIdx.ix2 ⟨i, hi⟩ ⟨j, hj⟩) := dif_pos ⟨hi, hj⟩
theorem n3_at {α : Type} [Inhabited α] {a b c : ℕ} (x : (⟨3, ![a, b, c]⟩ : Shape).Idx → α) (i j k : ℕ) (hi : i < a) (hj : j < b) (hk : k < c) :
    n3 x i j k = x (ValueIdx.ix3 ⟨i, hi⟩ ⟨j, hj⟩ ⟨k, hk⟩) := dif_pos ⟨hi, hj, hk⟩
theorem n4_at {α : Type} [Inhabited α] {a b c d : ℕ} (x : (⟨4, ![a, b, c, d]⟩ : Shape).Idx → α) (i j k l : ℕ) (hi : i < a) (hj : j < b) (hk : k < c) (hl : l < d) :
    n4 x i j k l = x (ValueIdx.ix4 ⟨i, hi⟩ ⟨j, hj⟩ ⟨k, hk⟩ ⟨l, hl⟩) := dif_pos ⟨hi, hj, hk, hl⟩

/-- The arguments' readers, from the eleven arrays. -/
def mk (q k v : K4) (qs ks vs : K3) (kr qr : T3) (krs qrs : T2) (seg : G2) : Arr where
  q := n4 (a := 2) (b := 768) (c := 24) (d := 128) (α := EReal) q
  k := n4 (a := 2) (b := 768) (c := 24) (d := 128) (α := EReal) k
  v := n4 (a := 2) (b := 768) (c := 24) (d := 128) (α := EReal) v
  qs := n3 (a := 2) (b := 768) (c := 24) (α := EReal) qs
  ks := n3 (a := 2) (b := 768) (c := 24) (α := EReal) ks
  vs := n3 (a := 2) (b := 768) (c := 24) (α := EReal) vs
  kr := n3 (a := 512) (b := 24) (c := 128) (α := EReal) kr
  qr := n3 (a := 512) (b := 24) (c := 128) (α := EReal) qr
  krs := n2 (a := 512) (b := 24) (α := EReal) krs
  qrs := n2 (a := 512) (b := 24) (α := EReal) qrs
  seg := n2 (a := 2) (b := 768) (α := BitVec 32) seg

variable (q k v : K4) (qs ks vs : K3) (kr qr : T3) (krs qrs : T2) (seg : G2)

/-- The plain scores of a grid point's block are the reference's. -/
theorem plain_sc (t h : ℕ) (b : Fin 2) (H : Fin 24) (hb : t % 2 = b.val) (hH : t / 2 * 8 + h = H.val) (i j : Fin 768) :
    plain ((mk q k v qs ks vs kr qr krs qrs seg).blk t) h i.val j.val = sc q k kr qr qs ks krs qrs seg b H i j := by
  have r4 : ∀ (x : K4) (s : Fin 768) (d : Fin 128), n4 (a := 2) (b := 768) (c := 24) (d := 128) (α := EReal) x b.val s.val H.val d.val = x (ValueIdx.ix4 b s H d) :=
    fun x s d => n4_at x _ _ _ _ b.isLt s.isLt H.isLt d.isLt
  have r3 : ∀ (x : K3) (s : Fin 768), n3 (a := 2) (b := 768) (c := 24) (α := EReal) x b.val s.val H.val = x (ValueIdx.ix3 b s H) :=
    fun x s => n3_at x _ _ _ b.isLt s.isLt H.isLt
  have t3 : ∀ (x : T3) (n n' : Fin 768) (d : Fin 128), n3 (a := 512) (b := 24) (c := 128) (α := EReal) x (clip n.val n'.val) H.val d.val
      = x (ValueIdx.ix3 ⟨clip n.val n'.val, clip_lt _ _⟩ H d) := fun x n n' d => n3_at x _ _ _ (clip_lt _ _) H.isLt d.isLt
  have t2 : ∀ (x : T2) (n n' : Fin 768), n2 (a := 512) (b := 24) (α := EReal) x (clip n.val n'.val) H.val
      = x (ValueIdx.ix2 ⟨clip n.val n'.val, clip_lt _ _⟩ H) := fun x n n' => n2_at x _ _ (clip_lt _ _) H.isLt
  have g2 : ∀ (s : Fin 768), n2 (a := 2) (b := 768) (α := BitVec 32) seg b.val s.val = seg (ValueIdx.ix2 b s) :=
    fun s => n2_at seg _ _ b.isLt s.isLt
  have ec : ∀ n n' : ℕ, clp n n' = clip n n' := fun _ _ => rfl
  unfold plain sc
  simp only [Arr.blk, mk, hb, hH, ec, r4, r3, t3, t2, g2, sqrt_const]

/-- A block's attention is the reference's result. -/
theorem attn_fin (t h : ℕ) (b : Fin 2) (H : Fin 24) (hb : t % 2 = b.val) (hH : t / 2 * 8 + h = H.val) (i : Fin 768) (d : Fin 128) :
    attn ((mk q k v qs ks vs kr qr krs qrs seg).blk t) h i.val d.val = fin (sc q k kr qr qs ks krs qrs seg) v vs b H i d := by
  have hp := fun j => plain_sc q k v qs ks vs kr qr krs qrs seg t h b H hb hH i j
  have hs : (Finset.univ.sup fun j : Fin 768 => plain ((mk q k v qs ks vs kr qr krs qrs seg).blk t) h i.val j.val)
      = Finset.univ.sup (sc q k kr qr qs ks krs qrs seg b H i) := congrArg _ (funext hp)
  have hv : ∀ j : Fin 768, ((mk q k v qs ks vs kr qr krs qrs seg).blk t).v j.val h d.val = v (ValueIdx.ix4 b j H d) := fun j => by
    simp only [Arr.blk, mk, hb, hH]; exact n4_at v _ _ _ _ b.isLt j.isLt H.isLt d.isLt
  have hw : ∀ j : Fin 768, ((mk q k v qs ks vs kr qr krs qrs seg).blk t).vs h j.val = vs (ValueIdx.ix3 b j H) := fun j => by
    simp only [Arr.blk, mk, hb, hH]; exact n3_at vs _ _ _ b.isLt j.isLt H.isLt
  unfold attn fin
  simp only [hs, hp, hv, hw]

/-- The precondition, read: every key scale is at least 0 and not infinite. -/
theorem pre_read [Cert.Pre_key_scales_finite.Facts] (x0 x1 x2 : FVec Ideal Cert.Pre_key_scales_finite.S2x768x24x128 .fp8e4m3) (x3 x4 x5 : FVec Ideal Cert.Pre_key_scales_finite.S2x768x24 .f32)
    (x6 x7 : FVec Ideal Cert.Pre_key_scales_finite.S512x24x128 .fp8e4m3) (x8 x9 : FVec Ideal Cert.Pre_key_scales_finite.S512x24 .f32) (x10 : IVec Cert.Pre_key_scales_finite.S2x768 32)
    (e : ∀ j, Cert.Pre_key_scales_finite.fn (F := Ideal) x0 x1 x2 x3 x4 x5 x6 x7 x8 x9 x10 j = 1#1) (i : Cert.Pre_key_scales_finite.S2x768x24.Idx) :
    0 ≤ x4 i ∧ x4 i ≠ ⊤ := by
  have e0 := e (fun a => a.elim0)
  dsimp only [Cert.Pre_key_scales_finite.fn] at e0
  haveI : Subsingleton Cert.Pre_key_scales_finite.S_.Idx := ⟨fun a b => funext fun x => x.elim0⟩
  have h := Host.reduce_andi_all _ _ _ _ _ e0 i
  have hz : Ideal.ofBits .f32 0x00000000#32 = 0 := by simp [Ideal.ofBits, Ideal.ieee]
  have ht : Ideal.ofBits .f32 0x7F800000#32 = ⊤ := by simp [Ideal.ofBits, Ideal.ieee]
  have h' : IntOp.andi (BitVec.ofBool (decide (Ideal.ofBits .f32 0x00000000#32 ≤ x4 i)))
      (BitVec.ofBool (decide (x4 i < Ideal.ofBits .f32 0x7F800000#32))) = 1#1 := h
  rw [hz, ht] at h'
  by_cases h0 : (0 : EReal) ≤ x4 i
  · by_cases h1 : x4 i < ⊤
    · exact ⟨h0, h1.ne⟩
    · rw [decide_eq_false h1, decide_eq_true h0] at h'; exact absurd h' (by decide)
  · rw [decide_eq_false h0] at h'
    revert h'; cases decide (x4 i < ⊤) <;> exact fun e => absurd e (by decide)

instance pre_facts : Cert.Pre_key_scales_finite.Facts where
  bcast_S_S2x768x24 := by decide
  reducesTo_S2x768x24_S_d0_1_2 := by decide
  h_S_ := by decide

/-- The two results are one array. -/
theorem result_eq (A : Arr) (hA : A = mk q k v qs ks vs kr qr krs qrs seg) (hk : ∀ i, 0 ≤ ks i ∧ ks i ≠ ⊤) (x : Cert.KernelIdeal.S2x768x3072.Idx) :
    Cert.KernelIdeal.Hand.Val.blk (A.blk (2 * ((x 2).val / 1024) + (x 0).val)).src (x 1).val ((x 2).val % 1024)
      = Cert.ReferenceIdeal.Hand.rFin (Cert.ReferenceIdeal.Hand.rScore q k kr qr qs ks krs qrs seg) v vs x := by
  subst hA
  have l0 : (x 0).val < 2 := (x 0).isLt
  have l1 : (x 1).val < 768 := (x 1).isLt
  have l2 : (x 2).val < 3072 := (x 2).isLt
  have ex : x = ValueIdx.ix3 (⟨(x 0).val, l0⟩ : Fin 2) (⟨(x 1).val, l1⟩ : Fin 768) (⟨(x 2).val, l2⟩ : Fin 3072) :=
    funext fun e => by match e with | ⟨0, _⟩ => rfl | ⟨1, _⟩ => rfl | ⟨2, _⟩ => rfl
  have hH : (2 * ((x 2).val / 1024) + (x 0).val) / 2 * 8 + (x 2).val % 1024 / 128 = (x 2).val / 128 := by omega
  have hb : (2 * ((x 2).val / 1024) + (x 0).val) % 2 = (x 0).val := by omega
  have hd : (x 2).val % 1024 % 128 = (x 2).val % 128 := by omega
  have er := Cert.ReferenceIdeal.Hand.rFin_apply (Cert.ReferenceIdeal.Hand.rScore q k kr qr qs ks krs qrs seg) (sc q k kr qr qs ks krs qrs seg)
    (fun b h i j => Cert.ReferenceIdeal.Hand.rScore_apply q k kr qr qs ks krs qrs seg b h i j) v vs ⟨(x 0).val, l0⟩ ⟨(x 1).val, l1⟩ ⟨(x 2).val, l2⟩
  refine Eq.trans ?_ (er.symm.trans (congrArg _ ex.symm))
  unfold Cert.KernelIdeal.Hand.Val.blk
  rw [Cert.KernelIdeal.Hand.Val.out_attn _ _ _ _ (by omega) (fun j hj => ?_), hd]
  · exact attn_fin q k v qs ks vs kr qr krs qrs seg _ _ ⟨(x 0).val, l0⟩ ⟨(x 2).val / 128, by omega⟩ hb hH ⟨(x 1).val, l1⟩ ⟨(x 2).val % 128, by omega⟩
  · have e : ((mk q k v qs ks vs kr qr krs qrs seg).blk (2 * ((x 2).val / 1024) + (x 0).val)).ks ((x 2).val % 1024 / 128) j
        = ks (ValueIdx.ix3 ⟨(x 0).val, l0⟩ ⟨j, hj⟩ ⟨(x 2).val / 128, by omega⟩) := by
      simp only [Arr.blk, mk, hb, hH]; exact n3_at ks _ _ _ l0 hj (by omega)
    rw [e]; exact hk _

end Cert.Join

end
-- ==== Proof.lean ====
module

public import proofs.«01_k».proof.Defs
public import proofs.«01_k».proof.Proof.Run
public import proofs.«01_k».proof.Proof.K.Run
public import proofs.«01_k».proof.Proof.V.Join
public import proofs.«01_k».proof.Proof.Gen.ReferenceIdeal.Frame
public import Idealize.ShloMosaic.Lib.Claim
public import Idealize.ShloMosaic.Lib.StableHlo.RunHlo

@[expose] public section

noncomputable section

namespace Cert.Proof

open Idealize.ShloMosaic Idealize.ShloMosaic.TcCoe Idealize.SL.Sem

theorem algebraic : Cert.algebraic_KernelIdeal_ReferenceIdeal_pre_key_scales_finite := by
  intro m g m' g' hpre hagree
  refine ⟨fun c => Cert.KernelIdeal.Hand.Val.outArr m c, ?_, ?_⟩
  · exact θ_run_mono (θ_run_and (Cert.KernelIdeal.Hand.Val.run_value m g) (Cert.KernelIdeal.Hand.frame_main m g))
      fun r hr c => ⟨hr.1.1 c, hr.2.1 c⟩
  · refine θ_run_mono (θ_run_and (Cert.ReferenceIdeal.Hand.run_ref m' g') (Cert.ReferenceIdeal.Gen.frame m' g'))
      fun r hr c => ⟨(hr.1.1 c).trans ?_, hr.2.1 c⟩
    obtain ⟨e0, e1, e2, e3, e4, e5, e6, e7, e8, e9, e10⟩ := hagree c
    have hk := Cert.Join.pre_read _ _ _ _ _ _ _ _ _ _ _ (fun j => congrFun (hpre c) j)
    unfold Cert.ReferenceIdeal.Hand.refArr Cert.ReferenceIdeal.Hand.scores
    erw [e0, e1, e2, e3, e4, e5, e6, e7, e8, e9, e10]
    exact (funext fun x => Cert.Join.result_eq _ _ _ _ _ _ _ _ _ _ _ (Cert.KernelIdeal.Hand.Val.arr m c) rfl hk x).symm

theorem claim : Cert.Claim := ⟨Cert.Kernel.Gen.facts, Cert.KernelIdeal.Gen.facts, Cert.ReferenceIdeal.Gen.facts, Cert.Join.pre_facts,
  fun m g _ => Cert.Kernel.Hand.frame_main m g, fun m g _ => Cert.KernelIdeal.Hand.frame_main m g,
  fun m g _ => Cert.KernelIdeal.Hand.frame_main m g,
  fun m g _ => Cert.ReferenceIdeal.Gen.frame m g, fun m g _ => Cert.ReferenceIdeal.Gen.frame m g,
  IdealRules.named_const.statement Cert.KernelIdeal.κ "log2e_over_root" .f32 0x3D96C740#32
    (((Real.log 2)⁻¹ * (Real.sqrt 384)⁻¹ : ℝ) : EReal) rfl,
  algebraic⟩

end Cert.Proof

end
